-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x64 : Shape := ⟨2, ![2048, 64]⟩
abbrev S32 : Shape := ⟨1, ![32]⟩
abbrev S_ : Shape := ⟨0, ![]⟩
abbrev S1 : Shape := ⟨1, ![1]⟩
abbrev S3 : Shape := ⟨1, ![3]⟩
abbrev S17x64x2048 : Shape := ⟨3, ![17, 64, 2048]⟩
abbrev S34 : Shape := ⟨1, ![34]⟩
abbrev S1x32x2048 : Shape := ⟨3, ![1, 32, 2048]⟩
abbrev S32x2048 : Shape := ⟨2, ![32, 2048]⟩
abbrev S64x64 : Shape := ⟨2, ![64, 64]⟩
abbrev S15x64x2048 : Shape := ⟨3, ![15, 64, 2048]⟩
abbrev S960x2048 : Shape := ⟨2, ![960, 2048]⟩
abbrev S960x64 : Shape := ⟨2, ![960, 64]⟩
abbrev S32x64 : Shape := ⟨2, ![32, 64]⟩

abbrev nBuf : Space → Nat
  | .hbm => 68
  | .vmem => 5
  | .smem => 2
  | _ => 0

abbrev bufTy : (tb : Table) → Fin (tcTables nBuf tb) → BufTy
  | .hbm, ⟨0, _⟩ => ⟨S64x2048, .f32⟩
  | .hbm, ⟨1, _⟩ => ⟨S2048x64, .f32⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S1, .i1⟩
  | .hbm, ⟨22, _⟩ => ⟨S1, .i1⟩
  | .hbm, ⟨23, _⟩ => ⟨S1, .i1⟩
  | .hbm, ⟨24, _⟩ => ⟨S_, .i1⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S1, .i1⟩
  | .hbm, ⟨39, _⟩ => ⟨S1, .i1⟩
  | .hbm, ⟨40, _⟩ => ⟨S1, .i1⟩
  | .hbm, ⟨41, _⟩ => ⟨S_, .i1⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S1, .i1⟩
  | .hbm, ⟨56, _⟩ => ⟨S1, .i1⟩
  | .hbm, ⟨57, _⟩ => ⟨S1, .i1⟩
  | .hbm, ⟨58, _⟩ => ⟨S_, .i1⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S1, .i32⟩
  | .hbm, ⟨66, _⟩ => ⟨S3, .i32⟩
  | .hbm, ⟨67, _⟩ => ⟨S2048x64, .f32⟩
  | .local _ .vmem, ⟨0, _⟩ => ⟨S64x2048, .f32⟩
  | .local _ .vmem, ⟨1, _⟩ => ⟨S2048x64, .f32⟩
  | .local _ .vmem, ⟨2, _⟩ => ⟨S2048x64, .f32⟩
  | .local _ .vmem, ⟨3, _⟩ => ⟨S17x64x2048, .f32⟩
  | .local _ .vmem, ⟨4, _⟩ => ⟨S17x64x2048, .f32⟩
  | .local _ .smem, ⟨0, _⟩ => ⟨S3, .i32⟩
  | .local _ .smem, ⟨1, _⟩ => ⟨S32, .i32⟩
  | _, _ => ⟨S64x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_c_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_c_1 : Ref sig .tc := ⟨.hbm, 18, rfl⟩
abbrev main_call0_c_2 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_c_3 : Ref sig .tc := ⟨.hbm, 24, rfl⟩
abbrev main_call0_v8 : Ref sig .tc := ⟨.hbm, 25, rfl⟩
abbrev main_call0_v9 : Ref sig .tc := ⟨.hbm, 26, rfl⟩
abbrev main_call0_c_4 : Ref sig .tc := ⟨.hbm, 27, rfl⟩
abbrev main_v5 : Ref sig .tc := ⟨.hbm, 28, rfl⟩
abbrev main_call1_c : Ref sig .tc := ⟨.hbm, 29, rfl⟩
abbrev main_call1_v0 : Ref sig .tc := ⟨.hbm, 30, rfl⟩
abbrev main_call1_c_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_c_1 : Ref sig .tc := ⟨.hbm, 35, rfl⟩
abbrev main_call1_c_2 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_c_3 : Ref sig .tc := ⟨.hbm, 41, rfl⟩
abbrev main_call1_v8 : Ref sig .tc := ⟨.hbm, 42, rfl⟩
abbrev main_call1_v9 : Ref sig .tc := ⟨.hbm, 43, rfl⟩
abbrev main_call1_c_4 : Ref sig .tc := ⟨.hbm, 44, rfl⟩
abbrev main_v6 : Ref sig .tc := ⟨.hbm, 45, rfl⟩
abbrev main_call2_c : Ref sig .tc := ⟨.hbm, 46, rfl⟩
abbrev main_call2_v0 : Ref sig .tc := ⟨.hbm, 47, rfl⟩
abbrev main_call2_c_0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_c_1 : Ref sig .tc := ⟨.hbm, 52, rfl⟩
abbrev main_call2_c_2 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_c_3 : Ref sig .tc := ⟨.hbm, 58, rfl⟩
abbrev main_call2_v8 : Ref sig .tc := ⟨.hbm, 59, rfl⟩
abbrev main_call2_v9 : Ref sig .tc := ⟨.hbm, 60, rfl⟩
abbrev main_call2_c_4 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v0 : BitVec 32) : Nat :=
  let c0_i32_3 : BitVec 32 := 0#32
  let c1_i32_2 : BitVec 32 := 1#32
  let v6 : BitVec 32 := Scalar.muli v0 c1_i32_2
  let v7 : BitVec 32 := Scalar.addi c0_i32_3 v6
  v7.toNat

def k0_dev3 (v0 : BitVec 32) : Nat :=
  let c0_i32_8 : BitVec 32 := 0#32
  let c1_i32_7 : BitVec 32 := 1#32
  let v8 : BitVec 32 := Scalar.muli v0 c1_i32_7
  let v9 : BitVec 32 := Scalar.addi c0_i32_8 v8
  v9.toNat
def k0_dev4 (v0 : BitVec 32) : Nat :=
  let c0_i32_16 : BitVec 32 := 0#32
  let c1_i32_15 : BitVec 32 := 1#32
  let v17 : BitVec 32 := Scalar.muli v0 c1_i32_15
  let v18 : BitVec 32 := Scalar.addi c0_i32_16 v17
  v18.toNat
def k0_dev5 (v1 : BitVec 32) : Nat :=
  let c0_i32_24 : BitVec 32 := 0#32
  let c1_i32_23 : BitVec 32 := 1#32
  let v26 : BitVec 32 := Scalar.muli v1 c1_i32_23
  let v27 : BitVec 32 := Scalar.addi c0_i32_24 v26
  v27.toNat
def k0_dev6 (v1 : BitVec 32) : Nat :=
  let c0_i32_33 : BitVec 32 := 0#32
  let c1_i32_32 : BitVec 32 := 1#32
  let v35 : BitVec 32 := Scalar.muli v1 c1_i32_32
  let v36 : BitVec 32 := Scalar.addi c0_i32_33 v35
  v36.toNat
def k0_off1 (v2 : BitVec 32) : Fin 1 → Nat :=
  let c0_i32_40 : BitVec 32 := 0#32
  let v46 : BitVec 32 := Scalar.addi v2 c0_i32_40
  let c32_i32_41 : BitVec 32 := 32#32
  let v47 : BitVec 32 := Scalar.addi v46 c32_i32_41
  let c32_i32_42 : BitVec 32 := 32#32
  let v48 : BitVec 32 := Scalar.remsi v47 c32_i32_42
  let v49 : Index := Scalar.indexCast v48
  ![v49.toNat]

def k0_off2 (v50 : BitVec 32) : Fin 2 → Nat :=
  let c64_i32 : BitVec 32 := 64#32
  let v56 : BitVec 32 := Scalar.muli v50 c64_i32
  let v57 : Index := Scalar.indexCast v56
  let c0_46 : Index := 0#32
  ![v57.toNat, 0]

def k0_chk4 (v50 : BitVec 32) : Prop :=
  (∀ a, (k0_off2 v50) a + S64x64.size a ≤ S2048x64.size a)
theorem k0_off2_inb : ∀ (v50 : BitVec 32) (k0_hw4 : k0_chk4 v50), ∀ a, (k0_off2 v50) a + S64x64.size a ≤ S2048x64.size a := fun v50 k0_hw4 => k0_hw4

def k0_dev7 (v0 : BitVec 32) : Nat :=
  let c0_i32_61 : BitVec 32 := 0#32
  let c1_i32_60 : BitVec 32 := 1#32
  let v67 : BitVec 32 := Scalar.muli v0 c1_i32_60
  let v68 : BitVec 32 := Scalar.addi c0_i32_61 v67
  v68.toNat
def k0_dev8 (v0 : BitVec 32) : Nat :=
  let c0_i32_80 : BitVec 32 := 0#32
  let c1_i32_79 : BitVec 32 := 1#32
  let v85 : BitVec 32 := Scalar.muli v0 c1_i32_79
  let v86 : BitVec 32 := Scalar.addi c0_i32_80 v85
  v86.toNat
def k0_dev9 (v1 : BitVec 32) : Nat :=
  let c0_i32_100 : BitVec 32 := 0#32
  let c1_i32_99 : BitVec 32 := 1#32
  let v103 : BitVec 32 := Scalar.muli v1 c1_i32_99
  let v104 : BitVec 32 := Scalar.addi c0_i32_100 v103
  v104.toNat
def k0_dev10 (v1 : BitVec 32) : Nat :=
  let c0_i32_120 : BitVec 32 := 0#32
  let c1_i32_119 : BitVec 32 := 1#32
  let v121 : BitVec 32 := Scalar.muli v1 c1_i32_119
  let v122 : BitVec 32 := Scalar.addi c0_i32_120 v121
  v122.toNat
def k0_dev11 (v0 : BitVec 32) : Nat :=
  let c0_i32_139 : BitVec 32 := 0#32
  let c1_i32_138 : BitVec 32 := 1#32
  let v139 : BitVec 32 := Scalar.muli v0 c1_i32_138
  let v140 : BitVec 32 := Scalar.addi c0_i32_139 v139
  v140.toNat
def k0_dev12 (v0 : BitVec 32) : Nat :=
  let c0_i32_158 : BitVec 32 := 0#32
  let c1_i32_157 : BitVec 32 := 1#32
  let v157 : BitVec 32 := Scalar.muli v0 c1_i32_157
  let v158 : BitVec 32 := Scalar.addi c0_i32_158 v157
  v158.toNat
def k0_dev13 (v1 : BitVec 32) : Nat :=
  let c0_i32_178 : BitVec 32 := 0#32
  let c1_i32_177 : BitVec 32 := 1#32
  let v175 : BitVec 32 := Scalar.muli v1 c1_i32_177
  let v176 : BitVec 32 := Scalar.addi c0_i32_178 v175
  v176.toNat
def k0_dev14 (v1 : BitVec 32) : Nat :=
  let c0_i32_198 : BitVec 32 := 0#32
  let c1_i32_197 : BitVec 32 := 1#32
  let v193 : BitVec 32 := Scalar.muli v1 c1_i32_197
  let v194 : BitVec 32 := Scalar.addi c0_i32_198 v193
  v194.toNat
def k0_dev15 (v0 : BitVec 32) : Nat :=
  let c0_i32_217 : BitVec 32 := 0#32
  let c1_i32_216 : BitVec 32 := 1#32
  let v211 : BitVec 32 := Scalar.muli v0 c1_i32_216
  let v212 : BitVec 32 := Scalar.addi c0_i32_217 v211
  v212.toNat
def k0_dev16 (v0 : BitVec 32) : Nat :=
  let c0_i32_236 : BitVec 32 := 0#32
  let c1_i32_235 : BitVec 32 := 1#32
  let v229 : BitVec 32 := Scalar.muli v0 c1_i32_235
  let v230 : BitVec 32 := Scalar.addi c0_i32_236 v229
  v230.toNat
def k0_dev17 (v1 : BitVec 32) : Nat :=
  let c0_i32_256 : BitVec 32 := 0#32
  let c1_i32_255 : BitVec 32 := 1#32
  let v247 : BitVec 32 := Scalar.muli v1 c1_i32_255
  let v248 : BitVec 32 := Scalar.addi c0_i32_256 v247
  v248.toNat
def k0_dev18 (v1 : BitVec 32) : Nat :=
  let c0_i32_276 : BitVec 32 := 0#32
  let c1_i32_275 : BitVec 32 := 1#32
  let v265 : BitVec 32 := Scalar.muli v1 c1_i32_275
  let v266 : BitVec 32 := Scalar.addi c0_i32_276 v265
  v266.toNat
def k0_dev19 (v0 : BitVec 32) : Nat :=
  let c0_i32_295 : BitVec 32 := 0#32
  let c1_i32_294 : BitVec 32 := 1#32
  let v283 : BitVec 32 := Scalar.muli v0 c1_i32_294
  let v284 : BitVec 32 := Scalar.addi c0_i32_295 v283
  v284.toNat
def k0_dev20 (v0 : BitVec 32) : Nat :=
  let c0_i32_314 : BitVec 32 := 0#32
  let c1_i32_313 : BitVec 32 := 1#32
  let v301 : BitVec 32 := Scalar.muli v0 c1_i32_313
  let v302 : BitVec 32 := Scalar.addi c0_i32_314 v301
  v302.toNat
def k0_dev21 (v1 : BitVec 32) : Nat :=
  let c0_i32_334 : BitVec 32 := 0#32
  let c1_i32_333 : BitVec 32 := 1#32
  let v319 : BitVec 32 := Scalar.muli v1 c1_i32_333
  let v320 : BitVec 32 := Scalar.addi c0_i32_334 v319
  v320.toNat
def k0_dev22 (v1 : BitVec 32) : Nat :=
  let c0_i32_354 : BitVec 32 := 0#32
  let c1_i32_353 : BitVec 32 := 1#32
  let v337 : BitVec 32 := Scalar.muli v1 c1_i32_353
  let v338 : BitVec 32 := Scalar.addi c0_i32_354 v337
  v338.toNat
def k0_dev23 (v0 : BitVec 32) : Nat :=
  let c0_i32_373 : BitVec 32 := 0#32
  let c1_i32_372 : BitVec 32 := 1#32
  let v355 : BitVec 32 := Scalar.muli v0 c1_i32_372
  let v356 : BitVec 32 := Scalar.addi c0_i32_373 v355
  v356.toNat
def k0_dev24 (v0 : BitVec 32) : Nat :=
  let c0_i32_392 : BitVec 32 := 0#32
  let c1_i32_391 : BitVec 32 := 1#32
  let v373 : BitVec 32 := Scalar.muli v0 c1_i32_391
  let v374 : BitVec 32 := Scalar.addi c0_i32_392 v373
  v374.toNat
def k0_dev25 (v1 : BitVec 32) : Nat :=
  let c0_i32_412 : BitVec 32 := 0#32
  let c1_i32_411 : BitVec 32 := 1#32
  let v391 : BitVec 32 := Scalar.muli v1 c1_i32_411
  let v392 : BitVec 32 := Scalar.addi c0_i32_412 v391
  v392.toNat
def k0_dev26 (v1 : BitVec 32) : Nat :=
  let c0_i32_432 : BitVec 32 := 0#32
  let c1_i32_431 : BitVec 32 := 1#32
  let v409 : BitVec 32 := Scalar.muli v1 c1_i32_431
  let v410 : BitVec 32 := Scalar.addi c0_i32_432 v409
  v410.toNat
def k0_dev27 (v0 : BitVec 32) : Nat :=
  let c0_i32_451 : BitVec 32 := 0#32
  let c1_i32_450 : BitVec 32 := 1#32
  let v427 : BitVec 32 := Scalar.muli v0 c1_i32_450
  let v428 : BitVec 32 := Scalar.addi c0_i32_451 v427
  v428.toNat
def k0_dev28 (v0 : BitVec 32) : Nat :=
  let c0_i32_470 : BitVec 32 := 0#32
  let c1_i32_469 : BitVec 32 := 1#32
  let v445 : BitVec 32 := Scalar.muli v0 c1_i32_469
  let v446 : BitVec 32 := Scalar.addi c0_i32_470 v445
  v446.toNat
def k0_dev29 (v1 : BitVec 32) : Nat :=
  let c0_i32_490 : BitVec 32 := 0#32
  let c1_i32_489 : BitVec 32 := 1#32
  let v463 : BitVec 32 := Scalar.muli v1 c1_i32_489
  let v464 : BitVec 32 := Scalar.addi c0_i32_490 v463
  v464.toNat
def k0_dev30 (v1 : BitVec 32) : Nat :=
  let c0_i32_510 : BitVec 32 := 0#32
  let c1_i32_509 : BitVec 32 := 1#32
  let v481 : BitVec 32 := Scalar.muli v1 c1_i32_509
  let v482 : BitVec 32 := Scalar.addi c0_i32_510 v481
  v482.toNat
def k0_dev31 (v0 : BitVec 32) : Nat :=
  let c0_i32_529 : BitVec 32 := 0#32
  let c1_i32_528 : BitVec 32 := 1#32
  let v499 : BitVec 32 := Scalar.muli v0 c1_i32_528
  let v500 : BitVec 32 := Scalar.addi c0_i32_529 v499
  v500.toNat
def k0_dev32 (v0 : BitVec 32) : Nat :=
  let c0_i32_548 : BitVec 32 := 0#32
  let c1_i32_547 : BitVec 32 := 1#32
  let v517 : BitVec 32 := Scalar.muli v0 c1_i32_547
  let v518 : BitVec 32 := Scalar.addi c0_i32_548 v517
  v518.toNat
def k0_dev33 (v1 : BitVec 32) : Nat :=
  let c0_i32_568 : BitVec 32 := 0#32
  let c1_i32_567 : BitVec 32 := 1#32
  let v535 : BitVec 32 := Scalar.muli v1 c1_i32_567
  let v536 : BitVec 32 := Scalar.addi c0_i32_568 v535
  v536.toNat
def k0_dev34 (v1 : BitVec 32) : Nat :=
  let c0_i32_588 : BitVec 32 := 0#32
  let c1_i32_587 : BitVec 32 := 1#32
  let v553 : BitVec 32 := Scalar.muli v1 c1_i32_587
  let v554 : BitVec 32 := Scalar.addi c0_i32_588 v553
  v554.toNat
def k0_dev35 (v0 : BitVec 32) : Nat :=
  let c0_i32_607 : BitVec 32 := 0#32
  let c1_i32_606 : BitVec 32 := 1#32
  let v571 : BitVec 32 := Scalar.muli v0 c1_i32_606
  let v572 : BitVec 32 := Scalar.addi c0_i32_607 v571
  v572.toNat
def k0_dev36 (v0 : BitVec 32) : Nat :=
  let c0_i32_626 : BitVec 32 := 0#32
  let c1_i32_625 : BitVec 32 := 1#32
  let v589 : BitVec 32 := Scalar.muli v0 c1_i32_625
  let v590 : BitVec 32 := Scalar.addi c0_i32_626 v589
  v590.toNat
def k0_dev37 (v1 : BitVec 32) : Nat :=
  let c0_i32_646 : BitVec 32 := 0#32
  let c1_i32_645 : BitVec 32 := 1#32
  let v607 : BitVec 32 := Scalar.muli v1 c1_i32_645
  let v608 : BitVec 32 := Scalar.addi c0_i32_646 v607
  v608.toNat
def k0_dev38 (v1 : BitVec 32) : Nat :=
  let c0_i32_666 : BitVec 32 := 0#32
  let c1_i32_665 : BitVec 32 := 1#32
  let v625 : BitVec 32 := Scalar.muli v1 c1_i32_665
  let v626 : BitVec 32 := Scalar.addi c0_i32_666 v625
  v626.toNat
def k0_dev39 (v0 : BitVec 32) : Nat :=
  let c0_i32_685 : BitVec 32 := 0#32
  let c1_i32_684 : BitVec 32 := 1#32
  let v643 : BitVec 32 := Scalar.muli v0 c1_i32_684
  let v644 : BitVec 32 := Scalar.addi c0_i32_685 v643
  v644.toNat
def k0_dev40 (v0 : BitVec 32) : Nat :=
  let c0_i32_704 : BitVec 32 := 0#32
  let c1_i32_703 : BitVec 32 := 1#32
  let v661 : BitVec 32 := Scalar.muli v0 c1_i32_703
  let v662 : BitVec 32 := Scalar.addi c0_i32_704 v661
  v662.toNat
def k0_dev41 (v1 : BitVec 32) : Nat :=
  let c0_i32_724 : BitVec 32 := 0#32
  let c1_i32_723 : BitVec 32 := 1#32
  let v679 : BitVec 32 := Scalar.muli v1 c1_i32_723
  let v680 : BitVec 32 := Scalar.addi c0_i32_724 v679
  v680.toNat
def k0_dev42 (v1 : BitVec 32) : Nat :=
  let c0_i32_744 : BitVec 32 := 0#32
  let c1_i32_743 : BitVec 32 := 1#32
  let v697 : BitVec 32 := Scalar.muli v1 c1_i32_743
  let v698 : BitVec 32 := Scalar.addi c0_i32_744 v697
  v698.toNat
def k0_dev43 (v0 : BitVec 32) : Nat :=
  let c0_i32_763 : BitVec 32 := 0#32
  let c1_i32_762 : BitVec 32 := 1#32
  let v715 : BitVec 32 := Scalar.muli v0 c1_i32_762
  let v716 : BitVec 32 := Scalar.addi c0_i32_763 v715
  v716.toNat
def k0_dev44 (v0 : BitVec 32) : Nat :=
  let c0_i32_782 : BitVec 32 := 0#32
  let c1_i32_781 : BitVec 32 := 1#32
  let v733 : BitVec 32 := Scalar.muli v0 c1_i32_781
  let v734 : BitVec 32 := Scalar.addi c0_i32_782 v733
  v734.toNat
def k0_dev45 (v1 : BitVec 32) : Nat :=
  let c0_i32_802 : BitVec 32 := 0#32
  let c1_i32_801 : BitVec 32 := 1#32
  let v751 : BitVec 32 := Scalar.muli v1 c1_i32_801
  let v752 : BitVec 32 := Scalar.addi c0_i32_802 v751
  v752.toNat
def k0_dev46 (v1 : BitVec 32) : Nat :=
  let c0_i32_822 : BitVec 32 := 0#32
  let c1_i32_821 : BitVec 32 := 1#32
  let v769 : BitVec 32 := Scalar.muli v1 c1_i32_821
  let v770 : BitVec 32 := Scalar.addi c0_i32_822 v769
  v770.toNat
def k0_dev47 (v0 : BitVec 32) : Nat :=
  let c0_i32_841 : BitVec 32 := 0#32
  let c1_i32_840 : BitVec 32 := 1#32
  let v787 : BitVec 32 := Scalar.muli v0 c1_i32_840
  let v788 : BitVec 32 := Scalar.addi c0_i32_841 v787
  v788.toNat
def k0_dev48 (v0 : BitVec 32) : Nat :=
  let c0_i32_860 : BitVec 32 := 0#32
  let c1_i32_859 : BitVec 32 := 1#32
  let v805 : BitVec 32 := Scalar.muli v0 c1_i32_859
  let v806 : BitVec 32 := Scalar.addi c0_i32_860 v805
  v806.toNat
def k0_dev49 (v1 : BitVec 32) : Nat :=
  let c0_i32_880 : BitVec 32 := 0#32
  let c1_i32_879 : BitVec 32 := 1#32
  let v823 : BitVec 32 := Scalar.muli v1 c1_i32_879
  let v824 : BitVec 32 := Scalar.addi c0_i32_880 v823
  v824.toNat
def k0_dev50 (v1 : BitVec 32) : Nat :=
  let c0_i32_900 : BitVec 32 := 0#32
  let c1_i32_899 : BitVec 32 := 1#32
  let v841 : BitVec 32 := Scalar.muli v1 c1_i32_899
  let v842 : BitVec 32 := Scalar.addi c0_i32_900 v841
  v842.toNat
def k0_dev51 (v0 : BitVec 32) : Nat :=
  let c0_i32_919 : BitVec 32 := 0#32
  let c1_i32_918 : BitVec 32 := 1#32
  let v859 : BitVec 32 := Scalar.muli v0 c1_i32_918
  let v860 : BitVec 32 := Scalar.addi c0_i32_919 v859
  v860.toNat
def k0_dev52 (v0 : BitVec 32) : Nat :=
  let c0_i32_938 : BitVec 32 := 0#32
  let c1_i32_937 : BitVec 32 := 1#32
  let v877 : BitVec 32 := Scalar.muli v0 c1_i32_937
  let v878 : BitVec 32 := Scalar.addi c0_i32_938 v877
  v878.toNat
def k0_dev53 (v1 : BitVec 32) : Nat :=
  let c0_i32_958 : BitVec 32 := 0#32
  let c1_i32_957 : BitVec 32 := 1#32
  let v895 : BitVec 32 := Scalar.muli v1 c1_i32_957
  let v896 : BitVec 32 := Scalar.addi c0_i32_958 v895
  v896.toNat
def k0_dev54 (v1 : BitVec 32) : Nat :=
  let c0_i32_978 : BitVec 32 := 0#32
  let c1_i32_977 : BitVec 32 := 1#32
  let v913 : BitVec 32 := Scalar.muli v1 c1_i32_977
  let v914 : BitVec 32 := Scalar.addi c0_i32_978 v913
  v914.toNat
def k0_dev55 (v0 : BitVec 32) : Nat :=
  let c0_i32_997 : BitVec 32 := 0#32
  let c1_i32_996 : BitVec 32 := 1#32
  let v931 : BitVec 32 := Scalar.muli v0 c1_i32_996
  let v932 : BitVec 32 := Scalar.addi c0_i32_997 v931
  v932.toNat
def k0_dev56 (v0 : BitVec 32) : Nat :=
  let c0_i32_1016 : BitVec 32 := 0#32
  let c1_i32_1015 : BitVec 32 := 1#32
  let v949 : BitVec 32 := Scalar.muli v0 c1_i32_1015
  let v950 : BitVec 32 := Scalar.addi c0_i32_1016 v949
  v950.toNat
def k0_dev57 (v1 : BitVec 32) : Nat :=
  let c0_i32_1036 : BitVec 32 := 0#32
  let c1_i32_1035 : BitVec 32 := 1#32
  let v967 : BitVec 32 := Scalar.muli v1 c1_i32_1035
  let v968 : BitVec 32 := Scalar.addi c0_i32_1036 v967
  v968.toNat
def k0_dev58 (v1 : BitVec 32) : Nat :=
  let c0_i32_1056 : BitVec 32 := 0#32
  let c1_i32_1055 : BitVec 32 := 1#32
  let v985 : BitVec 32 := Scalar.muli v1 c1_i32_1055
  let v986 : BitVec 32 := Scalar.addi c0_i32_1056 v985
  v986.toNat
def k0_dev59 (v0 : BitVec 32) : Nat :=
  let c0_i32_1075 : BitVec 32 := 0#32
  let c1_i32_1074 : BitVec 32 := 1#32
  let v1003 : BitVec 32 := Scalar.muli v0 c1_i32_1074
  let v1004 : BitVec 32 := Scalar.addi c0_i32_1075 v1003
  v1004.toNat
def k0_dev60 (v0 : BitVec 32) : Nat :=
  let c0_i32_1094 : BitVec 32 := 0#32
  let c1_i32_1093 : BitVec 32 := 1#32
  let v1021 : BitVec 32 := Scalar.muli v0 c1_i32_1093
  let v1022 : BitVec 32 := Scalar.addi c0_i32_1094 v1021
  v1022.toNat
def k0_dev61 (v1 : BitVec 32) : Nat :=
  let c0_i32_1114 : BitVec 32 := 0#32
  let c1_i32_1113 : BitVec 32 := 1#32
  let v1039 : BitVec 32 := Scalar.muli v1 c1_i32_1113
  let v1040 : BitVec 32 := Scalar.addi c0_i32_1114 v1039
  v1040.toNat
def k0_dev62 (v1 : BitVec 32) : Nat :=
  let c0_i32_1134 : BitVec 32 := 0#32
  let c1_i32_1133 : BitVec 32 := 1#32
  let v1057 : BitVec 32 := Scalar.muli v1 c1_i32_1133
  let v1058 : BitVec 32 := Scalar.addi c0_i32_1134 v1057
  v1058.toNat
def k0_dev63 (v0 : BitVec 32) : Nat :=
  let c0_i32_1154 : BitVec 32 := 0#32
  let c1_i32_1153 : BitVec 32 := 1#32
  let v1075 : BitVec 32 := Scalar.muli v0 c1_i32_1153
  let v1076 : BitVec 32 := Scalar.addi c0_i32_1154 v1075
  v1076.toNat

def k0_chk2 (v0 : BitVec 32) : Prop :=
  ((k0_dev2 v0) < nD) ∧
  ((k0_dev3 v0) < nD) ∧
  ((k0_dev4 v0) < nD) ∧
  ((k0_dev7 v0) < nD) ∧
  ((k0_dev8 v0) < nD) ∧
  ((k0_dev11 v0) < nD) ∧
  ((k0_dev12 v0) < nD) ∧
  ((k0_dev15 v0) < nD) ∧
  ((k0_dev16 v0) < nD) ∧
  ((k0_dev19 v0) < nD) ∧
  ((k0_dev20 v0) < nD) ∧
  ((k0_dev23 v0) < nD) ∧
  ((k0_dev24 v0) < nD) ∧
  ((k0_dev27 v0) < nD) ∧
  ((k0_dev28 v0) < nD) ∧
  ((k0_dev31 v0) < nD) ∧
  ((k0_dev32 v0) < nD) ∧
  ((k0_dev35 v0) < nD) ∧
  ((k0_dev36 v0) < nD) ∧
  ((k0_dev39 v0) < nD) ∧
  ((k0_dev40 v0) < nD) ∧
  ((k0_dev43 v0) < nD) ∧
  ((k0_dev44 v0) < nD) ∧
  ((k0_dev47 v0) < nD) ∧
  ((k0_dev48 v0) < nD) ∧
  ((k0_dev51 v0) < nD) ∧
  ((k0_dev52 v0) < nD) ∧
  ((k0_dev55 v0) < nD) ∧
  ((k0_dev56 v0) < nD) ∧
  ((k0_dev59 v0) < nD) ∧
  ((k0_dev60 v0) < nD) ∧
  ((k0_dev63 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0), (k0_dev3 v0) < nD := fun v0 k0_hw2 => k0_hw2.2.1
theorem k0_dev4_lt : ∀ (v0 : BitVec 32) (k0_hw2 : k0_chk2 v0), (k0_dev4 v0) < nD := fun v0 k0_hw2 => k0_hw2.2.2.1
theorem k0_dev7_lt : ∀ (v0 : BitVec 32) (k0_hw2 : k0_chk2 v0), (k0_dev7 v0) < nD := fun v0 k0_hw2 => k0_hw2.2.2.2.1
theorem k0_dev8_lt : ∀ (v0 : BitVec 32) (k0_hw2 : k0_chk2 v0), (k0_dev8 v0) < nD := fun v0 k0_hw2 => k0_hw2.2.2.2.2.1
theorem k0_dev11_lt : ∀ (v0 : BitVec 32) (k0_hw2 : k0_chk2 v0), (k0_dev11 v0) < nD := fun v0 k0_hw2 => k0_hw2.2.2.2.2.2.1
theorem k0_dev12_lt : ∀ (v0 : BitVec 32) (k0_hw2 : k0_chk2 v0), (k0_dev12 v0) < nD := fun v0 k0_hw2 => k0_hw2.2.2.2.2.2.2.1
theorem k0_dev15_lt : ∀ (v0 : BitVec 32) (k0_hw2 : k0_chk2 v0), (k0_dev15 v0) < nD := fun v0 k0_hw2 => k0_hw2.2.2.2.2.2.2.2.1
theorem k0_dev16_lt : ∀ (v0 : BitVec 32) (k0_hw2 : k0_chk2 v0), (k0_dev16 v0) < nD := fun v0 k0_hw2 => k0_hw2.2.2.2.2.2.2.2.2.1
theorem k0_dev19_lt : ∀ (v0 : BitVec 32) (k0_hw2 : k0_chk2 v0), (k0_dev19 v0) < nD := fun v0 k0_hw2 => k0_hw2.2.2.2.2.2.2.2.2.2.1
theorem k0_dev20_lt : ∀ (v0 : BitVec 32) (k0_hw2 : k0_chk2 v0), (k0_dev20 v0) < nD := fun v0 k0_hw2 => k0_hw2.2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.2.1
theorem k0_dev24_lt : ∀ (v0 : BitVec 32) (k0_hw2 : k0_chk2 v0), (k0_dev24 v0) < nD := fun v0 k0_hw2 => k0_hw2.2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.2.1
theorem k0_dev28_lt : ∀ (v0 : BitVec 32) (k0_hw2 : k0_chk2 v0), (k0_dev28 v0) < nD := fun v0 k0_hw2 => k0_hw2.2.2.2.2.2.2.2.2.2.2.2.2.2.2.1
theorem k0_dev31_lt : ∀ (v0 : BitVec 32) (k0_hw2 : k0_chk2 v0), (k0_dev31 v0) < nD := fun v0 k0_hw2 => k0_hw2.2.2.2.2.2.2.2.2.2.2.2.2.2.2.2.1
theorem k0_dev32_lt : ∀ (v0 : BitVec 32) (k0_hw2 : k0_chk2 v0), (k0_dev32 v0) < nD := fun v0 k0_hw2 => k0_hw2.2.2.2.2.2.2.2.2.2.2.2.2.2.2.2.2.1
theorem k0_dev35_lt : ∀ (v0 : BitVec 32) (k0_hw2 : k0_chk2 v0), (k0_dev35 v0) < nD := fun v0 k0_hw2 => k0_hw2.2.2.2.2.2.2.2.2.2.2.2.2.2.2.2.2.2.1
theorem k0_dev36_lt : ∀ (v0 : BitVec 32) (k0_hw2 : k0_chk2 v0), (k0_dev36 v0) < nD := fun v0 k0_hw2 => k0_hw2.2.2.2.2.2.2.2.2.2.2.2.2.2.2.2.2.2.2.1
theorem k0_dev39_lt : ∀ (v0 : BitVec 32) (k0_hw2 : k0_chk2 v0), (k0_dev39 v0) < nD := fun v0 k0_hw2 => k0_hw2.2.2.2.2.2.2.2.2.2.2.2.2.2.2.2.2.2.2.2.1
theorem k0_dev40_lt : ∀ (v0 : BitVec 32) (k0_hw2 : k0_chk2 v0), (k0_dev40 v0) < nD := fun v0 k0_hw2 => k0_hw2.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.2.2.2.2.2.2.2.2.2.2.2.2.2.2.2.2.2.2.2.2.2.1
theorem k0_dev44_lt : ∀ (v0 : BitVec 32) (k0_hw2 : k0_chk2 v0), (k0_dev44 v0) < nD := fun v0 k0_hw2 => k0_hw2.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.2.2.2.2.2.2.2.2.2.2.2.2.2.2.2.2.2.2.2.2.2.2.2.1
theorem k0_dev48_lt : ∀ (v0 : BitVec 32) (k0_hw2 : k0_chk2 v0), (k0_dev48 v0) < nD := fun v0 k0_hw2 => k0_hw2.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.2.2.2.2.2.2.2.2.2.2.2.2.2.2.2.2.2.2.2.2.2.2.2.2.2.1
theorem k0_dev52_lt : ∀ (v0 : BitVec 32) (k0_hw2 : k0_chk2 v0), (k0_dev52 v0) < nD := fun v0 k0_hw2 => k0_hw2.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.2.2.2.2.2.2.2.2.2.2.2.2.2.2.2.2.2.2.2.2.2.2.2.2.2.2.2.1
theorem k0_dev56_lt : ∀ (v0 : BitVec 32) (k0_hw2 : k0_chk2 v0), (k0_dev56 v0) < nD := fun v0 k0_hw2 => k0_hw2.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.2.2.2.2.2.2.2.2.2.2.2.2.2.2.2.2.2.2.2.2.2.2.2.2.2.2.2.2.2.1
theorem k0_dev60_lt : ∀ (v0 : BitVec 32) (k0_hw2 : k0_chk2 v0), (k0_dev60 v0) < nD := fun v0 k0_hw2 => k0_hw2.2.2.2.2.2.2.2.2.2.2.2.2.2.2.2.2.2.2.2.2.2.2.2.2.2.2.2.2.2.2.1
theorem k0_dev63_lt : ∀ (v0 : BitVec 32) (k0_hw2 : k0_chk2 v0), (k0_dev63 v0) < nD := fun v0 k0_hw2 => k0_hw2.2.2.2.2.2.2.2.2.2.2.2.2.2.2.2.2.2.2.2.2.2.2.2.2.2.2.2.2.2.2.2

def k0_dev64 (v1 : BitVec 32) : Nat :=
  let c0_i32_1193 : BitVec 32 := 0#32
  let c1_i32_1192 : BitVec 32 := 1#32
  let v1109 : BitVec 32 := Scalar.muli v1 c1_i32_1192
  let v1110 : BitVec 32 := Scalar.addi c0_i32_1193 v1109
  v1110.toNat

def k0_chk1 (v1 : BitVec 32) : Prop :=
  ((k0_dev1 v1) < nD) ∧
  ((k0_dev5 v1) < nD) ∧
  ((k0_dev6 v1) < nD) ∧
  ((k0_dev9 v1) < nD) ∧
  ((k0_dev10 v1) < nD) ∧
  ((k0_dev13 v1) < nD) ∧
  ((k0_dev14 v1) < nD) ∧
  ((k0_dev17 v1) < nD) ∧
  ((k0_dev18 v1) < nD) ∧
  ((k0_dev21 v1) < nD) ∧
  ((k0_dev22 v1) < nD) ∧
  ((k0_dev25 v1) < nD) ∧
  ((k0_dev26 v1) < nD) ∧
  ((k0_dev29 v1) < nD) ∧
  ((k0_dev30 v1) < nD) ∧
  ((k0_dev33 v1) < nD) ∧
  ((k0_dev34 v1) < nD) ∧
  ((k0_dev37 v1) < nD) ∧
  ((k0_dev38 v1) < nD) ∧
  ((k0_dev41 v1) < nD) ∧
  ((k0_dev42 v1) < nD) ∧
  ((k0_dev45 v1) < nD) ∧
  ((k0_dev46 v1) < nD) ∧
  ((k0_dev49 v1) < nD) ∧
  ((k0_dev50 v1) < nD) ∧
  ((k0_dev53 v1) < nD) ∧
  ((k0_dev54 v1) < nD) ∧
  ((k0_dev57 v1) < nD) ∧
  ((k0_dev58 v1) < nD) ∧
  ((k0_dev61 v1) < nD) ∧
  ((k0_dev62 v1) < nD) ∧
  ((k0_dev64 v1) < nD)
theorem k0_dev1_lt : ∀ (v1 : BitVec 32) (k0_hw1 : k0_chk1 v1), (k0_dev1 v1) < nD := fun v1 k0_hw1 => k0_hw1.1
theorem k0_dev5_lt : ∀ (v1 : BitVec 32) (k0_hw1 : k0_chk1 v1), (k0_dev5 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev9_lt : ∀ (v1 : BitVec 32) (k0_hw1 : k0_chk1 v1), (k0_dev9 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev13_lt : ∀ (v1 : BitVec 32) (k0_hw1 : k0_chk1 v1), (k0_dev13 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev17_lt : ∀ (v1 : BitVec 32) (k0_hw1 : k0_chk1 v1), (k0_dev17 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev21_lt : ∀ (v1 : BitVec 32) (k0_hw1 : k0_chk1 v1), (k0_dev21 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev25_lt : ∀ (v1 : BitVec 32) (k0_hw1 : k0_chk1 v1), (k0_dev25 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev29_lt : ∀ (v1 : BitVec 32) (k0_hw1 : k0_chk1 v1), (k0_dev29 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.1
theorem k0_dev33_lt : ∀ (v1 : BitVec 32) (k0_hw1 : k0_chk1 v1), (k0_dev33 v1) < nD := fun v1 k0_hw1 => k0_hw1.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.1
theorem k0_dev37_lt : ∀ (v1 : BitVec 32) (k0_hw1 : k0_chk1 v1), (k0_dev37 v1) < nD := fun v1 k0_hw1 => k0_hw1.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.1
theorem k0_dev41_lt : ∀ (v1 : BitVec 32) (k0_hw1 : k0_chk1 v1), (k0_dev41 v1) < nD := fun v1 k0_hw1 => k0_hw1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.2.2.2.2.2.2.2.2.2.2.2.2.2.2.2.2.2.2.2.2.1
theorem k0_dev45_lt : ∀ (v1 : BitVec 32) (k0_hw1 : k0_chk1 v1), (k0_dev45 v1) < nD := fun v1 k0_hw1 => k0_hw1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.1
theorem k0_dev61_lt : ∀ (v1 : BitVec 32) (k0_hw1 : k0_chk1 v1), (k0_dev61 v1) < nD := fun v1 k0_hw1 => k0_hw1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.2.2.2.2.2.2.2.2.2.2.2.2.2.2.2.2.2.2.2.2.2.2.2.2.2.2.2.2.2.2.2

def k0_off3 (v2 : BitVec 32) : Fin 1 → Nat :=
  let c_m1_i32 : BitVec 32 := 4294967295#32
  let v1126 : BitVec 32 := Scalar.addi v2 c_m1_i32
  let c32_i32_1205 : BitVec 32 := 32#32
  let v1127 : BitVec 32 := Scalar.addi v1126 c32_i32_1205
  let c32_i32_1206 : BitVec 32 := 32#32
  let v1128 : BitVec 32 := Scalar.remsi v1127 c32_i32_1206
  let v1129 : Index := Scalar.indexCast v1128
  ![v1129.toNat]
def k0_off4 (v1130 : BitVec 32) : Fin 2 → Nat :=
  let c64_i32_1207 : BitVec 32 := 64#32
  let v1132 : BitVec 32 := Scalar.muli v1130 c64_i32_1207
  let v1133 : Index := Scalar.indexCast v1132
  let c0_1208 : Index := 0#32
  ![v1133.toNat, 0]

def k0_chk5 (v1130 : BitVec 32) : Prop :=
  (∀ a, (k0_off4 v1130) a + S64x64.size a ≤ S2048x64.size a)
theorem k0_off4_inb : ∀ (v1130 : BitVec 32) (k0_hw5 : k0_chk5 v1130), ∀ a, (k0_off4 v1130) a + S64x64.size a ≤ S2048x64.size a := fun v1130 k0_hw5 => k0_hw5

def k0_off5 (v2 : BitVec 32) : Fin 1 → Nat :=
  let c_m2_i32 : BitVec 32 := 4294967294#32
  let v1135 : BitVec 32 := Scalar.addi v2 c_m2_i32
  let c32_i32_1209 : BitVec 32 := 32#32
  let v1136 : BitVec 32 := Scalar.addi v1135 c32_i32_1209
  let c32_i32_1210 : BitVec 32 := 32#32
  let v1137 : BitVec 32 := Scalar.remsi v1136 c32_i32_1210
  let v1138 : Index := Scalar.indexCast v1137
  ![v1138.toNat]
def k0_off6 (v1139 : BitVec 32) : Fin 2 → Nat :=
  let c64_i32_1211 : BitVec 32 := 64#32
  let v1141 : BitVec 32 := Scalar.muli v1139 c64_i32_1211
  let v1142 : Index := Scalar.indexCast v1141
  let c0_1212 : Index := 0#32
  ![v1142.toNat, 0]

def k0_chk6 (v1139 : BitVec 32) : Prop :=
  (∀ a, (k0_off6 v1139) a + S64x64.size a ≤ S2048x64.size a)
theorem k0_off6_inb : ∀ (v1139 : BitVec 32) (k0_hw6 : k0_chk6 v1139), ∀ a, (k0_off6 v1139) a + S64x64.size a ≤ S2048x64.size a := fun v1139 k0_hw6 => k0_hw6

def k0_off7 (v2 : BitVec 32) : Fin 1 → Nat :=
  let c_m3_i32 : BitVec 32 := 4294967293#32
  let v1144 : BitVec 32 := Scalar.addi v2 c_m3_i32
  let c32_i32_1213 : BitVec 32 := 32#32
  let v1145 : BitVec 32 := Scalar.addi v1144 c32_i32_1213
  let c32_i32_1214 : BitVec 32 := 32#32
  let v1146 : BitVec 32 := Scalar.remsi v1145 c32_i32_1214
  let v1147 : Index := Scalar.indexCast v1146
  ![v1147.toNat]
def k0_off8 (v1148 : BitVec 32) : Fin 2 → Nat :=
  let c64_i32_1215 : BitVec 32 := 64#32
  let v1150 : BitVec 32 := Scalar.muli v1148 c64_i32_1215
  let v1151 : Index := Scalar.indexCast v1150
  let c0_1216 : Index := 0#32
  ![v1151.toNat, 0]

def k0_chk7 (v1148 : BitVec 32) : Prop :=
  (∀ a, (k0_off8 v1148) a + S64x64.size a ≤ S2048x64.size a)
theorem k0_off8_inb : ∀ (v1148 : BitVec 32) (k0_hw7 : k0_chk7 v1148), ∀ a, (k0_off8 v1148) a + S64x64.size a ≤ S2048x64.size a := fun v1148 k0_hw7 => k0_hw7

def k0_off9 (v2 : BitVec 32) : Fin 1 → Nat :=
  let c_m4_i32 : BitVec 32 := 4294967292#32
  let v1153 : BitVec 32 := Scalar.addi v2 c_m4_i32
  let c32_i32_1217 : BitVec 32 := 32#32
  let v1154 : BitVec 32 := Scalar.addi v1153 c32_i32_1217
  let c32_i32_1218 : BitVec 32 := 32#32
  let v1155 : BitVec 32 := Scalar.remsi v1154 c32_i32_1218
  let v1156 : Index := Scalar.indexCast v1155
  ![v1156.toNat]
def k0_off10 (v1157 : BitVec 32) : Fin 2 → Nat :=
  let c64_i32_1219 : BitVec 32 := 64#32
  let v1159 : BitVec 32 := Scalar.muli v1157 c64_i32_1219
  let v1160 : Index := Scalar.indexCast v1159
  let c0_1220 : Index := 0#32
  ![v1160.toNat, 0]

def k0_chk8 (v1157 : BitVec 32) : Prop :=
  (∀ a, (k0_off10 v1157) a + S64x64.size a ≤ S2048x64.size a)
theorem k0_off10_inb : ∀ (v1157 : BitVec 32) (k0_hw8 : k0_chk8 v1157), ∀ a, (k0_off10 v1157) a + S64x64.size a ≤ S2048x64.size a := fun v1157 k0_hw8 => k0_hw8

def k0_off11 (v2 : BitVec 32) : Fin 1 → Nat :=
  let c_m5_i32 : BitVec 32 := 4294967291#32
  let v1162 : BitVec 32 := Scalar.addi v2 c_m5_i32
  let c32_i32_1221 : BitVec 32 := 32#32
  let v1163 : BitVec 32 := Scalar.addi v1162 c32_i32_1221
  let c32_i32_1222 : BitVec 32 := 32#32
  let v1164 : BitVec 32 := Scalar.remsi v1163 c32_i32_1222
  let v1165 : Index := Scalar.indexCast v1164
  ![v1165.toNat]
def k0_off12 (v1166 : BitVec 32) : Fin 2 → Nat :=
  let c64_i32_1223 : BitVec 32 := 64#32
  let v1168 : BitVec 32 := Scalar.muli v1166 c64_i32_1223
  let v1169 : Index := Scalar.indexCast v1168
  let c0_1224 : Index := 0#32
  ![v1169.toNat, 0]

def k0_chk9 (v1166 : BitVec 32) : Prop :=
  (∀ a, (k0_off12 v1166) a + S64x64.size a ≤ S2048x64.size a)
theorem k0_off12_inb : ∀ (v1166 : BitVec 32) (k0_hw9 : k0_chk9 v1166), ∀ a, (k0_off12 v1166) a + S64x64.size a ≤ S2048x64.size a := fun v1166 k0_hw9 => k0_hw9

def k0_off13 (v2 : BitVec 32) : Fin 1 → Nat :=
  let c_m6_i32 : BitVec 32 := 4294967290#32
  let v1171 : BitVec 32 := Scalar.addi v2 c_m6_i32
  let c32_i32_1225 : BitVec 32 := 32#32
  let v1172 : BitVec 32 := Scalar.addi v1171 c32_i32_1225
  let c32_i32_1226 : BitVec 32 := 32#32
  let v1173 : BitVec 32 := Scalar.remsi v1172 c32_i32_1226
  let v1174 : Index := Scalar.indexCast v1173
  ![v1174.toNat]
def k0_off14 (v1175 : BitVec 32) : Fin 2 → Nat :=
  let c64_i32_1227 : BitVec 32 := 64#32
  let v1177 : BitVec 32 := Scalar.muli v1175 c64_i32_1227
  let v1178 : Index := Scalar.indexCast v1177
  let c0_1228 : Index := 0#32
  ![v1178.toNat, 0]

def k0_chk10 (v1175 : BitVec 32) : Prop :=
  (∀ a, (k0_off14 v1175) a + S64x64.size a ≤ S2048x64.size a)
theorem k0_off14_inb : ∀ (v1175 : BitVec 32) (k0_hw10 : k0_chk10 v1175), ∀ a, (k0_off14 v1175) a + S64x64.size a ≤ S2048x64.size a := fun v1175 k0_hw10 => k0_hw10

def k0_off15 (v2 : BitVec 32) : Fin 1 → Nat :=
  let c_m7_i32 : BitVec 32 := 4294967289#32
  let v1180 : BitVec 32 := Scalar.addi v2 c_m7_i32
  let c32_i32_1229 : BitVec 32 := 32#32
  let v1181 : BitVec 32 := Scalar.addi v1180 c32_i32_1229
  let c32_i32_1230 : BitVec 32 := 32#32
  let v1182 : BitVec 32 := Scalar.remsi v1181 c32_i32_1230
  let v1183 : Index := Scalar.indexCast v1182
  ![v1183.toNat]
def k0_off16 (v1184 : BitVec 32) : Fin 2 → Nat :=
  let c64_i32_1231 : BitVec 32 := 64#32
  let v1186 : BitVec 32 := Scalar.muli v1184 c64_i32_1231
  let v1187 : Index := Scalar.indexCast v1186
  let c0_1232 : Index := 0#32
  ![v1187.toNat, 0]

def k0_chk11 (v1184 : BitVec 32) : Prop :=
  (∀ a, (k0_off16 v1184) a + S64x64.size a ≤ S2048x64.size a)
theorem k0_off16_inb : ∀ (v1184 : BitVec 32) (k0_hw11 : k0_chk11 v1184), ∀ a, (k0_off16 v1184) a + S64x64.size a ≤ S2048x64.size a := fun v1184 k0_hw11 => k0_hw11

def k0_off17 (v2 : BitVec 32) : Fin 1 → Nat :=
  let c_m8_i32 : BitVec 32 := 4294967288#32
  let v1189 : BitVec 32 := Scalar.addi v2 c_m8_i32
  let c32_i32_1233 : BitVec 32 := 32#32
  let v1190 : BitVec 32 := Scalar.addi v1189 c32_i32_1233
  let c32_i32_1234 : BitVec 32 := 32#32
  let v1191 : BitVec 32 := Scalar.remsi v1190 c32_i32_1234
  let v1192 : Index := Scalar.indexCast v1191
  ![v1192.toNat]
def k0_off18 (v1193 : BitVec 32) : Fin 2 → Nat :=
  let c64_i32_1235 : BitVec 32 := 64#32
  let v1195 : BitVec 32 := Scalar.muli v1193 c64_i32_1235
  let v1196 : Index := Scalar.indexCast v1195
  let c0_1236 : Index := 0#32
  ![v1196.toNat, 0]

def k0_chk12 (v1193 : BitVec 32) : Prop :=
  (∀ a, (k0_off18 v1193) a + S64x64.size a ≤ S2048x64.size a)
theorem k0_off18_inb : ∀ (v1193 : BitVec 32) (k0_hw12 : k0_chk12 v1193), ∀ a, (k0_off18 v1193) a + S64x64.size a ≤ S2048x64.size a := fun v1193 k0_hw12 => k0_hw12

def k0_off19 (v2 : BitVec 32) : Fin 1 → Nat :=
  let c_m9_i32 : BitVec 32 := 4294967287#32
  let v1198 : BitVec 32 := Scalar.addi v2 c_m9_i32
  let c32_i32_1237 : BitVec 32 := 32#32
  let v1199 : BitVec 32 := Scalar.addi v1198 c32_i32_1237
  let c32_i32_1238 : BitVec 32 := 32#32
  let v1200 : BitVec 32 := Scalar.remsi v1199 c32_i32_1238
  let v1201 : Index := Scalar.indexCast v1200
  ![v1201.toNat]
def k0_off20 (v1202 : BitVec 32) : Fin 2 → Nat :=
  let c64_i32_1239 : BitVec 32 := 64#32
  let v1204 : BitVec 32 := Scalar.muli v1202 c64_i32_1239
  let v1205 : Index := Scalar.indexCast v1204
  let c0_1240 : Index := 0#32
  ![v1205.toNat, 0]

def k0_chk13 (v1202 : BitVec 32) : Prop :=
  (∀ a, (k0_off20 v1202) a + S64x64.size a ≤ S2048x64.size a)
theorem k0_off20_inb : ∀ (v1202 : BitVec 32) (k0_hw13 : k0_chk13 v1202), ∀ a, (k0_off20 v1202) a + S64x64.size a ≤ S2048x64.size a := fun v1202 k0_hw13 => k0_hw13

def k0_off21 (v2 : BitVec 32) : Fin 1 → Nat :=
  let c_m10_i32 : BitVec 32 := 4294967286#32
  let v1207 : BitVec 32 := Scalar.addi v2 c_m10_i32
  let c32_i32_1241 : BitVec 32 := 32#32
  let v1208 : BitVec 32 := Scalar.addi v1207 c32_i32_1241
  let c32_i32_1242 : BitVec 32 := 32#32
  let v1209 : BitVec 32 := Scalar.remsi v1208 c32_i32_1242
  let v1210 : Index := Scalar.indexCast v1209
  ![v1210.toNat]
def k0_off22 (v1211 : BitVec 32) : Fin 2 → Nat :=
  let c64_i32_1243 : BitVec 32 := 64#32
  let v1213 : BitVec 32 := Scalar.muli v1211 c64_i32_1243
  let v1214 : Index := Scalar.indexCast v1213
  let c0_1244 : Index := 0#32
  ![v1214.toNat, 0]

def k0_chk14 (v1211 : BitVec 32) : Prop :=
  (∀ a, (k0_off22 v1211) a + S64x64.size a ≤ S2048x64.size a)
theorem k0_off22_inb : ∀ (v1211 : BitVec 32) (k0_hw14 : k0_chk14 v1211), ∀ a, (k0_off22 v1211) a + S64x64.size a ≤ S2048x64.size a := fun v1211 k0_hw14 => k0_hw14

def k0_off23 (v2 : BitVec 32) : Fin 1 → Nat :=
  let c_m11_i32 : BitVec 32 := 4294967285#32
  let v1216 : BitVec 32 := Scalar.addi v2 c_m11_i32
  let c32_i32_1245 : BitVec 32 := 32#32
  let v1217 : BitVec 32 := Scalar.addi v1216 c32_i32_1245
  let c32_i32_1246 : BitVec 32 := 32#32
  let v1218 : BitVec 32 := Scalar.remsi v1217 c32_i32_1246
  let v1219 : Index := Scalar.indexCast v1218
  ![v1219.toNat]
def k0_off24 (v1220 : BitVec 32) : Fin 2 → Nat :=
  let c64_i32_1247 : BitVec 32 := 64#32
  let v1222 : BitVec 32 := Scalar.muli v1220 c64_i32_1247
  let v1223 : Index := Scalar.indexCast v1222
  let c0_1248 : Index := 0#32
  ![v1223.toNat, 0]

def k0_chk15 (v1220 : BitVec 32) : Prop :=
  (∀ a, (k0_off24 v1220) a + S64x64.size a ≤ S2048x64.size a)
theorem k0_off24_inb : ∀ (v1220 : BitVec 32) (k0_hw15 : k0_chk15 v1220), ∀ a, (k0_off24 v1220) a + S64x64.size a ≤ S2048x64.size a := fun v1220 k0_hw15 => k0_hw15

def k0_off25 (v2 : BitVec 32) : Fin 1 → Nat :=
  let c_m12_i32 : BitVec 32 := 4294967284#32
  let v1225 : BitVec 32 := Scalar.addi v2 c_m12_i32
  let c32_i32_1249 : BitVec 32 := 32#32
  let v1226 : BitVec 32 := Scalar.addi v1225 c32_i32_1249
  let c32_i32_1250 : BitVec 32 := 32#32
  let v1227 : BitVec 32 := Scalar.remsi v1226 c32_i32_1250
  let v1228 : Index := Scalar.indexCast v1227
  ![v1228.toNat]
def k0_off26 (v1229 : BitVec 32) : Fin 2 → Nat :=
  let c64_i32_1251 : BitVec 32 := 64#32
  let v1231 : BitVec 32 := Scalar.muli v1229 c64_i32_1251
  let v1232 : Index := Scalar.indexCast v1231
  let c0_1252 : Index := 0#32
  ![v1232.toNat, 0]

def k0_chk16 (v1229 : BitVec 32) : Prop :=
  (∀ a, (k0_off26 v1229) a + S64x64.size a ≤ S2048x64.size a)
theorem k0_off26_inb : ∀ (v1229 : BitVec 32) (k0_hw16 : k0_chk16 v1229), ∀ a, (k0_off26 v1229) a + S64x64.size a ≤ S2048x64.size a := fun v1229 k0_hw16 => k0_hw16

def k0_off27 (v2 : BitVec 32) : Fin 1 → Nat :=
  let c_m13_i32 : BitVec 32 := 4294967283#32
  let v1234 : BitVec 32 := Scalar.addi v2 c_m13_i32
  let c32_i32_1253 : BitVec 32 := 32#32
  let v1235 : BitVec 32 := Scalar.addi v1234 c32_i32_1253
  let c32_i32_1254 : BitVec 32 := 32#32
  let v1236 : BitVec 32 := Scalar.remsi v1235 c32_i32_1254
  let v1237 : Index := Scalar.indexCast v1236
  ![v1237.toNat]
def k0_off28 (v1238 : BitVec 32) : Fin 2 → Nat :=
  let c64_i32_1255 : BitVec 32 := 64#32
  let v1240 : BitVec 32 := Scalar.muli v1238 c64_i32_1255
  let v1241 : Index := Scalar.indexCast v1240
  let c0_1256 : Index := 0#32
  ![v1241.toNat, 0]

def k0_chk17 (v1238 : BitVec 32) : Prop :=
  (∀ a, (k0_off28 v1238) a + S64x64.size a ≤ S2048x64.size a)
theorem k0_off28_inb : ∀ (v1238 : BitVec 32) (k0_hw17 : k0_chk17 v1238), ∀ a, (k0_off28 v1238) a + S64x64.size a ≤ S2048x64.size a := fun v1238 k0_hw17 => k0_hw17

def k0_off29 (v2 : BitVec 32) : Fin 1 → Nat :=
  let c_m14_i32 : BitVec 32 := 4294967282#32
  let v1243 : BitVec 32 := Scalar.addi v2 c_m14_i32
  let c32_i32_1257 : BitVec 32 := 32#32
  let v1244 : BitVec 32 := Scalar.addi v1243 c32_i32_1257
  let c32_i32_1258 : BitVec 32 := 32#32
  let v1245 : BitVec 32 := Scalar.remsi v1244 c32_i32_1258
  let v1246 : Index := Scalar.indexCast v1245
  ![v1246.toNat]
def k0_off30 (v1247 : BitVec 32) : Fin 2 → Nat :=
  let c64_i32_1259 : BitVec 32 := 64#32
  let v1249 : BitVec 32 := Scalar.muli v1247 c64_i32_1259
  let v1250 : Index := Scalar.indexCast v1249
  let c0_1260 : Index := 0#32
  ![v1250.toNat, 0]

def k0_chk18 (v1247 : BitVec 32) : Prop :=
  (∀ a, (k0_off30 v1247) a + S64x64.size a ≤ S2048x64.size a)
theorem k0_off30_inb : ∀ (v1247 : BitVec 32) (k0_hw18 : k0_chk18 v1247), ∀ a, (k0_off30 v1247) a + S64x64.size a ≤ S2048x64.size a := fun v1247 k0_hw18 => k0_hw18

def k0_off31 (v2 : BitVec 32) : Fin 1 → Nat :=
  let c_m15_i32 : BitVec 32 := 4294967281#32
  let v1252 : BitVec 32 := Scalar.addi v2 c_m15_i32
  let c32_i32_1261 : BitVec 32 := 32#32
  let v1253 : BitVec 32 := Scalar.addi v1252 c32_i32_1261
  let c32_i32_1262 : BitVec 32 := 32#32
  let v1254 : BitVec 32 := Scalar.remsi v1253 c32_i32_1262
  let v1255 : Index := Scalar.indexCast v1254
  ![v1255.toNat]
def k0_off32 (v1256 : BitVec 32) : Fin 2 → Nat :=
  let c64_i32_1263 : BitVec 32 := 64#32
  let v1258 : BitVec 32 := Scalar.muli v1256 c64_i32_1263
  let v1259 : Index := Scalar.indexCast v1258
  let c0_1264 : Index := 0#32
  ![v1259.toNat, 0]

def k0_chk19 (v1256 : BitVec 32) : Prop :=
  (∀ a, (k0_off32 v1256) a + S64x64.size a ≤ S2048x64.size a)
theorem k0_off32_inb : ∀ (v1256 : BitVec 32) (k0_hw19 : k0_chk19 v1256), ∀ a, (k0_off32 v1256) a + S64x64.size a ≤ S2048x64.size a := fun v1256 k0_hw19 => k0_hw19

def k0_off33 (v2 : BitVec 32) : Fin 1 → Nat :=
  let c1_i32_1272 : BitVec 32 := 1#32
  let v1268 : BitVec 32 := Scalar.addi v2 c1_i32_1272
  let c32_i32_1273 : BitVec 32 := 32#32
  let v1269 : BitVec 32 := Scalar.addi v1268 c32_i32_1273
  let c32_i32_1274 : BitVec 32 := 32#32
  let v1270 : BitVec 32 := Scalar.remsi v1269 c32_i32_1274
  let v1271 : Index := Scalar.indexCast v1270
  ![v1271.toNat]
def k0_off34 (v1272 : BitVec 32) : Fin 2 → Nat :=
  let c64_i32_1275 : BitVec 32 := 64#32
  let v1274 : BitVec 32 := Scalar.muli v1272 c64_i32_1275
  let v1275 : Index := Scalar.indexCast v1274
  let c0_1276 : Index := 0#32
  ![v1275.toNat, 0]

def k0_chk20 (v1272 : BitVec 32) : Prop :=
  (∀ a, (k0_off34 v1272) a + S64x64.size a ≤ S2048x64.size a)
theorem k0_off34_inb : ∀ (v1272 : BitVec 32) (k0_hw20 : k0_chk20 v1272), ∀ a, (k0_off34 v1272) a + S64x64.size a ≤ S2048x64.size a := fun v1272 k0_hw20 => k0_hw20

def k0_off35 (v2 : BitVec 32) : Fin 1 → Nat :=
  let c2_i32_1277 : BitVec 32 := 2#32
  let v1277 : BitVec 32 := Scalar.addi v2 c2_i32_1277
  let c32_i32_1278 : BitVec 32 := 32#32
  let v1278 : BitVec 32 := Scalar.addi v1277 c32_i32_1278
  let c32_i32_1279 : BitVec 32 := 32#32
  let v1279 : BitVec 32 := Scalar.remsi v1278 c32_i32_1279
  let v1280 : Index := Scalar.indexCast v1279
  ![v1280.toNat]
def k0_off36 (v1281 : BitVec 32) : Fin 2 → Nat :=
  let c64_i32_1280 : BitVec 32 := 64#32
  let v1283 : BitVec 32 := Scalar.muli v1281 c64_i32_1280
  let v1284 : Index := Scalar.indexCast v1283
  let c0_1281 : Index := 0#32
  ![v1284.toNat, 0]

def k0_chk21 (v1281 : BitVec 32) : Prop :=
  (∀ a, (k0_off36 v1281) a + S64x64.size a ≤ S2048x64.size a)
theorem k0_off36_inb : ∀ (v1281 : BitVec 32) (k0_hw21 : k0_chk21 v1281), ∀ a, (k0_off36 v1281) a + S64x64.size a ≤ S2048x64.size a := fun v1281 k0_hw21 => k0_hw21

def k0_off37 (v2 : BitVec 32) : Fin 1 → Nat :=
  let c3_i32_1282 : BitVec 32 := 3#32
  let v1286 : BitVec 32 := Scalar.addi v2 c3_i32_1282
  let c32_i32_1283 : BitVec 32 := 32#32
  let v1287 : BitVec 32 := Scalar.addi v1286 c32_i32_1283
  let c32_i32_1284 : BitVec 32 := 32#32
  let v1288 : BitVec 32 := Scalar.remsi v1287 c32_i32_1284
  let v1289 : Index := Scalar.indexCast v1288
  ![v1289.toNat]
def k0_off38 (v1290 : BitVec 32) : Fin 2 → Nat :=
  let c64_i32_1285 : BitVec 32 := 64#32
  let v1292 : BitVec 32 := Scalar.muli v1290 c64_i32_1285
  let v1293 : Index := Scalar.indexCast v1292
  let c0_1286 : Index := 0#32
  ![v1293.toNat, 0]

def k0_chk22 (v1290 : BitVec 32) : Prop :=
  (∀ a, (k0_off38 v1290) a + S64x64.size a ≤ S2048x64.size a)
theorem k0_off38_inb : ∀ (v1290 : BitVec 32) (k0_hw22 : k0_chk22 v1290), ∀ a, (k0_off38 v1290) a + S64x64.size a ≤ S2048x64.size a := fun v1290 k0_hw22 => k0_hw22

def k0_off39 (v2 : BitVec 32) : Fin 1 → Nat :=
  let c4_i32_1287 : BitVec 32 := 4#32
  let v1295 : BitVec 32 := Scalar.addi v2 c4_i32_1287
  let c32_i32_1288 : BitVec 32 := 32#32
  let v1296 : BitVec 32 := Scalar.addi v1295 c32_i32_1288
  let c32_i32_1289 : BitVec 32 := 32#32
  let v1297 : BitVec 32 := Scalar.remsi v1296 c32_i32_1289
  let v1298 : Index := Scalar.indexCast v1297
  ![v1298.toNat]
def k0_off40 (v1299 : BitVec 32) : Fin 2 → Nat :=
  let c64_i32_1290 : BitVec 32 := 64#32
  let v1301 : BitVec 32 := Scalar.muli v1299 c64_i32_1290
  let v1302 : Index := Scalar.indexCast v1301
  let c0_1291 : Index := 0#32
  ![v1302.toNat, 0]

def k0_chk23 (v1299 : BitVec 32) : Prop :=
  (∀ a, (k0_off40 v1299) a + S64x64.size a ≤ S2048x64.size a)
theorem k0_off40_inb : ∀ (v1299 : BitVec 32) (k0_hw23 : k0_chk23 v1299), ∀ a, (k0_off40 v1299) a + S64x64.size a ≤ S2048x64.size a := fun v1299 k0_hw23 => k0_hw23

def k0_off41 (v2 : BitVec 32) : Fin 1 → Nat :=
  let c5_i32_1292 : BitVec 32 := 5#32
  let v1304 : BitVec 32 := Scalar.addi v2 c5_i32_1292
  let c32_i32_1293 : BitVec 32 := 32#32
  let v1305 : BitVec 32 := Scalar.addi v1304 c32_i32_1293
  let c32_i32_1294 : BitVec 32 := 32#32
  let v1306 : BitVec 32 := Scalar.remsi v1305 c32_i32_1294
  let v1307 : Index := Scalar.indexCast v1306
  ![v1307.toNat]
def k0_off42 (v1308 : BitVec 32) : Fin 2 → Nat :=
  let c64_i32_1295 : BitVec 32 := 64#32
  let v1310 : BitVec 32 := Scalar.muli v1308 c64_i32_1295
  let v1311 : Index := Scalar.indexCast v1310
  let c0_1296 : Index := 0#32
  ![v1311.toNat, 0]

def k0_chk24 (v1308 : BitVec 32) : Prop :=
  (∀ a, (k0_off42 v1308) a + S64x64.size a ≤ S2048x64.size a)
theorem k0_off42_inb : ∀ (v1308 : BitVec 32) (k0_hw24 : k0_chk24 v1308), ∀ a, (k0_off42 v1308) a + S64x64.size a ≤ S2048x64.size a := fun v1308 k0_hw24 => k0_hw24

def k0_off43 (v2 : BitVec 32) : Fin 1 → Nat :=
  let c6_i32_1297 : BitVec 32 := 6#32
  let v1313 : BitVec 32 := Scalar.addi v2 c6_i32_1297
  let c32_i32_1298 : BitVec 32 := 32#32
  let v1314 : BitVec 32 := Scalar.addi v1313 c32_i32_1298
  let c32_i32_1299 : BitVec 32 := 32#32
  let v1315 : BitVec 32 := Scalar.remsi v1314 c32_i32_1299
  let v1316 : Index := Scalar.indexCast v1315
  ![v1316.toNat]
def k0_off44 (v1317 : BitVec 32) : Fin 2 → Nat :=
  let c64_i32_1300 : BitVec 32 := 64#32
  let v1319 : BitVec 32 := Scalar.muli v1317 c64_i32_1300
  let v1320 : Index := Scalar.indexCast v1319
  let c0_1301 : Index := 0#32
  ![v1320.toNat, 0]

def k0_chk25 (v1317 : BitVec 32) : Prop :=
  (∀ a, (k0_off44 v1317) a + S64x64.size a ≤ S2048x64.size a)
theorem k0_off44_inb : ∀ (v1317 : BitVec 32) (k0_hw25 : k0_chk25 v1317), ∀ a, (k0_off44 v1317) a + S64x64.size a ≤ S2048x64.size a := fun v1317 k0_hw25 => k0_hw25

def k0_off45 (v2 : BitVec 32) : Fin 1 → Nat :=
  let c7_i32_1302 : BitVec 32 := 7#32
  let v1322 : BitVec 32 := Scalar.addi v2 c7_i32_1302
  let c32_i32_1303 : BitVec 32 := 32#32
  let v1323 : BitVec 32 := Scalar.addi v1322 c32_i32_1303
  let c32_i32_1304 : BitVec 32 := 32#32
  let v1324 : BitVec 32 := Scalar.remsi v1323 c32_i32_1304
  let v1325 : Index := Scalar.indexCast v1324
  ![v1325.toNat]
def k0_off46 (v1326 : BitVec 32) : Fin 2 → Nat :=
  let c64_i32_1305 : BitVec 32 := 64#32
  let v1328 : BitVec 32 := Scalar.muli v1326 c64_i32_1305
  let v1329 : Index := Scalar.indexCast v1328
  let c0_1306 : Index := 0#32
  ![v1329.toNat, 0]

def k0_chk26 (v1326 : BitVec 32) : Prop :=
  (∀ a, (k0_off46 v1326) a + S64x64.size a ≤ S2048x64.size a)
theorem k0_off46_inb : ∀ (v1326 : BitVec 32) (k0_hw26 : k0_chk26 v1326), ∀ a, (k0_off46 v1326) a + S64x64.size a ≤ S2048x64.size a := fun v1326 k0_hw26 => k0_hw26

def k0_off47 (v2 : BitVec 32) : Fin 1 → Nat :=
  let c8_i32_1307 : BitVec 32 := 8#32
  let v1331 : BitVec 32 := Scalar.addi v2 c8_i32_1307
  let c32_i32_1308 : BitVec 32 := 32#32
  let v1332 : BitVec 32 := Scalar.addi v1331 c32_i32_1308
  let c32_i32_1309 : BitVec 32 := 32#32
  let v1333 : BitVec 32 := Scalar.remsi v1332 c32_i32_1309
  let v1334 : Index := Scalar.indexCast v1333
  ![v1334.toNat]
def k0_off48 (v1335 : BitVec 32) : Fin 2 → Nat :=
  let c64_i32_1310 : BitVec 32 := 64#32
  let v1337 : BitVec 32 := Scalar.muli v1335 c64_i32_1310
  let v1338 : Index := Scalar.indexCast v1337
  let c0_1311 : Index := 0#32
  ![v1338.toNat, 0]

def k0_chk27 (v1335 : BitVec 32) : Prop :=
  (∀ a, (k0_off48 v1335) a + S64x64.size a ≤ S2048x64.size a)
theorem k0_off48_inb : ∀ (v1335 : BitVec 32) (k0_hw27 : k0_chk27 v1335), ∀ a, (k0_off48 v1335) a + S64x64.size a ≤ S2048x64.size a := fun v1335 k0_hw27 => k0_hw27

def k0_off49 (v2 : BitVec 32) : Fin 1 → Nat :=
  let c9_i32_1312 : BitVec 32 := 9#32
  let v1340 : BitVec 32 := Scalar.addi v2 c9_i32_1312
  let c32_i32_1313 : BitVec 32 := 32#32
  let v1341 : BitVec 32 := Scalar.addi v1340 c32_i32_1313
  let c32_i32_1314 : BitVec 32 := 32#32
  let v1342 : BitVec 32 := Scalar.remsi v1341 c32_i32_1314
  let v1343 : Index := Scalar.indexCast v1342
  ![v1343.toNat]
def k0_off50 (v1344 : BitVec 32) : Fin 2 → Nat :=
  let c64_i32_1315 : BitVec 32 := 64#32
  let v1346 : BitVec 32 := Scalar.muli v1344 c64_i32_1315
  let v1347 : Index := Scalar.indexCast v1346
  let c0_1316 : Index := 0#32
  ![v1347.toNat, 0]

def k0_chk28 (v1344 : BitVec 32) : Prop :=
  (∀ a, (k0_off50 v1344) a + S64x64.size a ≤ S2048x64.size a)
theorem k0_off50_inb : ∀ (v1344 : BitVec 32) (k0_hw28 : k0_chk28 v1344), ∀ a, (k0_off50 v1344) a + S64x64.size a ≤ S2048x64.size a := fun v1344 k0_hw28 => k0_hw28

def k0_off51 (v2 : BitVec 32) : Fin 1 → Nat :=
  let c10_i32_1317 : BitVec 32 := 10#32
  let v1349 : BitVec 32 := Scalar.addi v2 c10_i32_1317
  let c32_i32_1318 : BitVec 32 := 32#32
  let v1350 : BitVec 32 := Scalar.addi v1349 c32_i32_1318
  let c32_i32_1319 : BitVec 32 := 32#32
  let v1351 : BitVec 32 := Scalar.remsi v1350 c32_i32_1319
  let v1352 : Index := Scalar.indexCast v1351
  ![v1352.toNat]
def k0_off52 (v1353 : BitVec 32) : Fin 2 → Nat :=
  let c64_i32_1320 : BitVec 32 := 64#32
  let v1355 : BitVec 32 := Scalar.muli v1353 c64_i32_1320
  let v1356 : Index := Scalar.indexCast v1355
  let c0_1321 : Index := 0#32
  ![v1356.toNat, 0]

def k0_chk29 (v1353 : BitVec 32) : Prop :=
  (∀ a, (k0_off52 v1353) a + S64x64.size a ≤ S2048x64.size a)
theorem k0_off52_inb : ∀ (v1353 : BitVec 32) (k0_hw29 : k0_chk29 v1353), ∀ a, (k0_off52 v1353) a + S64x64.size a ≤ S2048x64.size a := fun v1353 k0_hw29 => k0_hw29

def k0_off53 (v2 : BitVec 32) : Fin 1 → Nat :=
  let c11_i32_1322 : BitVec 32 := 11#32
  let v1358 : BitVec 32 := Scalar.addi v2 c11_i32_1322
  let c32_i32_1323 : BitVec 32 := 32#32
  let v1359 : BitVec 32 := Scalar.addi v1358 c32_i32_1323
  let c32_i32_1324 : BitVec 32 := 32#32
  let v1360 : BitVec 32 := Scalar.remsi v1359 c32_i32_1324
  let v1361 : Index := Scalar.indexCast v1360
  ![v1361.toNat]
def k0_off54 (v1362 : BitVec 32) : Fin 2 → Nat :=
  let c64_i32_1325 : BitVec 32 := 64#32
  let v1364 : BitVec 32 := Scalar.muli v1362 c64_i32_1325
  let v1365 : Index := Scalar.indexCast v1364
  let c0_1326 : Index := 0#32
  ![v1365.toNat, 0]

def k0_chk30 (v1362 : BitVec 32) : Prop :=
  (∀ a, (k0_off54 v1362) a + S64x64.size a ≤ S2048x64.size a)
theorem k0_off54_inb : ∀ (v1362 : BitVec 32) (k0_hw30 : k0_chk30 v1362), ∀ a, (k0_off54 v1362) a + S64x64.size a ≤ S2048x64.size a := fun v1362 k0_hw30 => k0_hw30

def k0_off55 (v2 : BitVec 32) : Fin 1 → Nat :=
  let c12_i32_1327 : BitVec 32 := 12#32
  let v1367 : BitVec 32 := Scalar.addi v2 c12_i32_1327
  let c32_i32_1328 : BitVec 32 := 32#32
  let v1368 : BitVec 32 := Scalar.addi v1367 c32_i32_1328
  let c32_i32_1329 : BitVec 32 := 32#32
  let v1369 : BitVec 32 := Scalar.remsi v1368 c32_i32_1329
  let v1370 : Index := Scalar.indexCast v1369
  ![v1370.toNat]
def k0_off56 (v1371 : BitVec 32) : Fin 2 → Nat :=
  let c64_i32_1330 : BitVec 32 := 64#32
  let v1373 : BitVec 32 := Scalar.muli v1371 c64_i32_1330
  let v1374 : Index := Scalar.indexCast v1373
  let c0_1331 : Index := 0#32
  ![v1374.toNat, 0]

def k0_chk31 (v1371 : BitVec 32) : Prop :=
  (∀ a, (k0_off56 v1371) a + S64x64.size a ≤ S2048x64.size a)
theorem k0_off56_inb : ∀ (v1371 : BitVec 32) (k0_hw31 : k0_chk31 v1371), ∀ a, (k0_off56 v1371) a + S64x64.size a ≤ S2048x64.size a := fun v1371 k0_hw31 => k0_hw31

def k0_off57 (v2 : BitVec 32) : Fin 1 → Nat :=
  let c13_i32_1332 : BitVec 32 := 13#32
  let v1376 : BitVec 32 := Scalar.addi v2 c13_i32_1332
  let c32_i32_1333 : BitVec 32 := 32#32
  let v1377 : BitVec 32 := Scalar.addi v1376 c32_i32_1333
  let c32_i32_1334 : BitVec 32 := 32#32
  let v1378 : BitVec 32 := Scalar.remsi v1377 c32_i32_1334
  let v1379 : Index := Scalar.indexCast v1378
  ![v1379.toNat]
def k0_off58 (v1380 : BitVec 32) : Fin 2 → Nat :=
  let c64_i32_1335 : BitVec 32 := 64#32
  let v1382 : BitVec 32 := Scalar.muli v1380 c64_i32_1335
  let v1383 : Index := Scalar.indexCast v1382
  let c0_1336 : Index := 0#32
  ![v1383.toNat, 0]

def k0_chk32 (v1380 : BitVec 32) : Prop :=
  (∀ a, (k0_off58 v1380) a + S64x64.size a ≤ S2048x64.size a)
theorem k0_off58_inb : ∀ (v1380 : BitVec 32) (k0_hw32 : k0_chk32 v1380), ∀ a, (k0_off58 v1380) a + S64x64.size a ≤ S2048x64.size a := fun v1380 k0_hw32 => k0_hw32

def k0_off59 (v2 : BitVec 32) : Fin 1 → Nat :=
  let c14_i32_1337 : BitVec 32 := 14#32
  let v1385 : BitVec 32 := Scalar.addi v2 c14_i32_1337
  let c32_i32_1338 : BitVec 32 := 32#32
  let v1386 : BitVec 32 := Scalar.addi v1385 c32_i32_1338
  let c32_i32_1339 : BitVec 32 := 32#32
  let v1387 : BitVec 32 := Scalar.remsi v1386 c32_i32_1339
  let v1388 : Index := Scalar.indexCast v1387
  ![v1388.toNat]
def k0_off60 (v1389 : BitVec 32) : Fin 2 → Nat :=
  let c64_i32_1340 : BitVec 32 := 64#32
  let v1391 : BitVec 32 := Scalar.muli v1389 c64_i32_1340
  let v1392 : Index := Scalar.indexCast v1391
  let c0_1341 : Index := 0#32
  ![v1392.toNat, 0]

def k0_chk33 (v1389 : BitVec 32) : Prop :=
  (∀ a, (k0_off60 v1389) a + S64x64.size a ≤ S2048x64.size a)
theorem k0_off60_inb : ∀ (v1389 : BitVec 32) (k0_hw33 : k0_chk33 v1389), ∀ a, (k0_off60 v1389) a + S64x64.size a ≤ S2048x64.size a := fun v1389 k0_hw33 => k0_hw33

def k0_off61 (v2 : BitVec 32) : Fin 1 → Nat :=
  let c15_i32_1342 : BitVec 32 := 15#32
  let v1394 : BitVec 32 := Scalar.addi v2 c15_i32_1342
  let c32_i32_1343 : BitVec 32 := 32#32
  let v1395 : BitVec 32 := Scalar.addi v1394 c32_i32_1343
  let c32_i32_1344 : BitVec 32 := 32#32
  let v1396 : BitVec 32 := Scalar.remsi v1395 c32_i32_1344
  let v1397 : Index := Scalar.indexCast v1396
  ![v1397.toNat]
def k0_off62 (v1398 : BitVec 32) : Fin 2 → Nat :=
  let c64_i32_1345 : BitVec 32 := 64#32
  let v1400 : BitVec 32 := Scalar.muli v1398 c64_i32_1345
  let v1401 : Index := Scalar.indexCast v1400
  let c0_1346 : Index := 0#32
  ![v1401.toNat, 0]

def k0_chk34 (v1398 : BitVec 32) : Prop :=
  (∀ a, (k0_off62 v1398) a + S64x64.size a ≤ S2048x64.size a)
theorem k0_off62_inb : ∀ (v1398 : BitVec 32) (k0_hw34 : k0_chk34 v1398), ∀ a, (k0_off62 v1398) a + S64x64.size a ≤ S2048x64.size a := fun v1398 k0_hw34 => k0_hw34

def k0_off63 (v2 : BitVec 32) : Fin 1 → Nat :=
  let c16_i32_1347 : BitVec 32 := 16#32
  let v1403 : BitVec 32 := Scalar.addi v2 c16_i32_1347
  let c32_i32_1348 : BitVec 32 := 32#32
  let v1404 : BitVec 32 := Scalar.addi v1403 c32_i32_1348
  let c32_i32_1349 : BitVec 32 := 32#32
  let v1405 : BitVec 32 := Scalar.remsi v1404 c32_i32_1349
  let v1406 : Index := Scalar.indexCast v1405
  ![v1406.toNat]

def k0_chk3 (v2 : BitVec 32) : Prop :=
  (∀ a, (k0_off1 v2) a + S1.size a ≤ S32.size a) ∧
  (∀ a, (k0_off3 v2) a + S1.size a ≤ S32.size a) ∧
  (∀ a, (k0_off5 v2) a + S1.size a ≤ S32.size a) ∧
  (∀ a, (k0_off7 v2) a + S1.size a ≤ S32.size a) ∧
  (∀ a, (k0_off9 v2) a + S1.size a ≤ S32.size a) ∧
  (∀ a, (k0_off11 v2) a + S1.size a ≤ S32.size a) ∧
  (∀ a, (k0_off13 v2) a + S1.size a ≤ S32.size a) ∧
  (∀ a, (k0_off15 v2) a + S1.size a ≤ S32.size a) ∧
  (∀ a, (k0_off17 v2) a + S1.size a ≤ S32.size a) ∧
  (∀ a, (k0_off19 v2) a + S1.size a ≤ S32.size a) ∧
  (∀ a, (k0_off21 v2) a + S1.size a ≤ S32.size a) ∧
  (∀ a, (k0_off23 v2) a + S1.size a ≤ S32.size a) ∧
  (∀ a, (k0_off25 v2) a + S1.size a ≤ S32.size a) ∧
  (∀ a, (k0_off27 v2) a + S1.size a ≤ S32.size a) ∧
  (∀ a, (k0_off29 v2) a + S1.size a ≤ S32.size a) ∧
  (∀ a, (k0_off31 v2) a + S1.size a ≤ S32.size a) ∧
  (∀ a, (k0_off33 v2) a + S1.size a ≤ S32.size a) ∧
  (∀ a, (k0_off35 v2) a + S1.size a ≤ S32.size a) ∧
  (∀ a, (k0_off37 v2) a + S1.size a ≤ S32.size a) ∧
  (∀ a, (k0_off39 v2) a + S1.size a ≤ S32.size a) ∧
  (∀ a, (k0_off41 v2) a + S1.size a ≤ S32.size a) ∧
  (∀ a, (k0_off43 v2) a + S1.size a ≤ S32.size a) ∧
  (∀ a, (k0_off45 v2) a + S1.size a ≤ S32.size a) ∧
  (∀ a, (k0_off47 v2) a + S1.size a ≤ S32.size a) ∧
  (∀ a, (k0_off49 v2) a + S1.size a ≤ S32.size a) ∧
  (∀ a, (k0_off51 v2) a + S1.size a ≤ S32.size a) ∧
  (∀ a, (k0_off53 v2) a + S1.size a ≤ S32.size a) ∧
  (∀ a, (k0_off55 v2) a + S1.size a ≤ S32.size a) ∧
  (∀ a, (k0_off57 v2) a + S1.size a ≤ S32.size a) ∧
  (∀ a, (k0_off59 v2) a + S1.size a ≤ S32.size a) ∧
  (∀ a, (k0_off61 v2) a + S1.size a ≤ S32.size a) ∧
  (∀ a, (k0_off63 v2) a + S1.size a ≤ S32.size a)
theorem k0_off1_inb : ∀ (v2 : BitVec 32) (k0_hw3 : k0_chk3 v2), ∀ a, (k0_off1 v2) a + S1.size a ≤ S32.size a := fun v2 k0_hw3 => k0_hw3.1
theorem k0_off3_inb : ∀ (v2 : BitVec 32) (k0_hw3 : k0_chk3 v2), ∀ a, (k0_off3 v2) a + S1.size a ≤ S32.size a := fun v2 k0_hw3 => k0_hw3.2.1
theorem k0_off5_inb : ∀ (v2 : BitVec 32) (k0_hw3 : k0_chk3 v2), ∀ a, (k0_off5 v2) a + S1.size a ≤ S32.size a := fun v2 k0_hw3 => k0_hw3.2.2.1
theorem k0_off7_inb : ∀ (v2 : BitVec 32) (k0_hw3 : k0_chk3 v2), ∀ a, (k0_off7 v2) a + S1.size a ≤ S32.size a := fun v2 k0_hw3 => k0_hw3.2.2.2.1
theorem k0_off9_inb : ∀ (v2 : BitVec 32) (k0_hw3 : k0_chk3 v2), ∀ a, (k0_off9 v2) a + S1.size a ≤ S32.size a := fun v2 k0_hw3 => k0_hw3.2.2.2.2.1
theorem k0_off11_inb : ∀ (v2 : BitVec 32) (k0_hw3 : k0_chk3 v2), ∀ a, (k0_off11 v2) a + S1.size a ≤ S32.size a := fun v2 k0_hw3 => k0_hw3.2.2.2.2.2.1
theorem k0_off13_inb : ∀ (v2 : BitVec 32) (k0_hw3 : k0_chk3 v2), ∀ a, (k0_off13 v2) a + S1.size a ≤ S32.size a := fun v2 k0_hw3 => k0_hw3.2.2.2.2.2.2.1
theorem k0_off15_inb : ∀ (v2 : BitVec 32) (k0_hw3 : k0_chk3 v2), ∀ a, (k0_off15 v2) a + S1.size a ≤ S32.size a := fun v2 k0_hw3 => k0_hw3.2.2.2.2.2.2.2.1
theorem k0_off17_inb : ∀ (v2 : BitVec 32) (k0_hw3 : k0_chk3 v2), ∀ a, (k0_off17 v2) a + S1.size a ≤ S32.size a := fun v2 k0_hw3 => k0_hw3.2.2.2.2.2.2.2.2.1
theorem k0_off19_inb : ∀ (v2 : BitVec 32) (k0_hw3 : k0_chk3 v2), ∀ a, (k0_off19 v2) a + S1.size a ≤ S32.size a := fun v2 k0_hw3 => k0_hw3.2.2.2.2.2.2.2.2.2.1
theorem k0_off21_inb : ∀ (v2 : BitVec 32) (k0_hw3 : k0_chk3 v2), ∀ a, (k0_off21 v2) a + S1.size a ≤ S32.size a := fun v2 k0_hw3 => k0_hw3.2.2.2.2.2.2.2.2.2.2.1
theorem k0_off23_inb : ∀ (v2 : BitVec 32) (k0_hw3 : k0_chk3 v2), ∀ a, (k0_off23 v2) a + S1.size a ≤ S32.size a := fun v2 k0_hw3 => k0_hw3.2.2.2.2.2.2.2.2.2.2.2.1
theorem k0_off25_inb : ∀ (v2 : BitVec 32) (k0_hw3 : k0_chk3 v2), ∀ a, (k0_off25 v2) a + S1.size a ≤ S32.size a := fun v2 k0_hw3 => k0_hw3.2.2.2.2.2.2.2.2.2.2.2.2.1
theorem k0_off27_inb : ∀ (v2 : BitVec 32) (k0_hw3 : k0_chk3 v2), ∀ a, (k0_off27 v2) a + S1.size a ≤ S32.size a := fun v2 k0_hw3 => k0_hw3.2.2.2.2.2.2.2.2.2.2.2.2.2.1
theorem k0_off29_inb : ∀ (v2 : BitVec 32) (k0_hw3 : k0_chk3 v2), ∀ a, (k0_off29 v2) a + S1.size a ≤ S32.size a := fun v2 k0_hw3 => k0_hw3.2.2.2.2.2.2.2.2.2.2.2.2.2.2.1
theorem k0_off31_inb : ∀ (v2 : BitVec 32) (k0_hw3 : k0_chk3 v2), ∀ a, (k0_off31 v2) a + S1.size a ≤ S32.size a := fun v2 k0_hw3 => k0_hw3.2.2.2.2.2.2.2.2.2.2.2.2.2.2.2.1
theorem k0_off33_inb : ∀ (v2 : BitVec 32) (k0_hw3 : k0_chk3 v2), ∀ a, (k0_off33 v2) a + S1.size a ≤ S32.size a := fun v2 k0_hw3 => k0_hw3.2.2.2.2.2.2.2.2.2.2.2.2.2.2.2.2.1
theorem k0_off35_inb : ∀ (v2 : BitVec 32) (k0_hw3 : k0_chk3 v2), ∀ a, (k0_off35 v2) a + S1.size a ≤ S32.size a := fun v2 k0_hw3 => k0_hw3.2.2.2.2.2.2.2.2.2.2.2.2.2.2.2.2.2.1
theorem k0_off37_inb : ∀ (v2 : BitVec 32) (k0_hw3 : k0_chk3 v2), ∀ a, (k0_off37 v2) a + S1.size a ≤ S32.size a := fun v2 k0_hw3 => k0_hw3.2.2.2.2.2.2.2.2.2.2.2.2.2.2.2.2.2.2.1
theorem k0_off39_inb : ∀ (v2 : BitVec 32) (k0_hw3 : k0_chk3 v2), ∀ a, (k0_off39 v2) a + S1.size a ≤ S32.size a := fun v2 k0_hw3 => k0_hw3.2.2.2.2.2.2.2.2.2.2.2.2.2.2.2.2.2.2.2.1
theorem k0_off41_inb : ∀ (v2 : BitVec 32) (k0_hw3 : k0_chk3 v2), ∀ a, (k0_off41 v2) a + S1.size a ≤ S32.size a := fun v2 k0_hw3 => k0_hw3.2.2.2.2.2.2.2.2.2.2.2.2.2.2.2.2.2.2.2.2.1
theorem k0_off43_inb : ∀ (v2 : BitVec 32) (k0_hw3 : k0_chk3 v2), ∀ a, (k0_off43 v2) a + S1.size a ≤ S32.size a := fun v2 k0_hw3 => k0_hw3.2.2.2.2.2.2.2.2.2.2.2.2.2.2.2.2.2.2.2.2.2.1
theorem k0_off45_inb : ∀ (v2 : BitVec 32) (k0_hw3 : k0_chk3 v2), ∀ a, (k0_off45 v2) a + S1.size a ≤ S32.size a := fun v2 k0_hw3 => k0_hw3.2.2.2.2.2.2.2.2.2.2.2.2.2.2.2.2.2.2.2.2.2.2.1
theorem k0_off47_inb : ∀ (v2 : BitVec 32) (k0_hw3 : k0_chk3 v2), ∀ a, (k0_off47 v2) a + S1.size a ≤ S32.size a := fun v2 k0_hw3 => k0_hw3.2.2.2.2.2.2.2.2.2.2.2.2.2.2.2.2.2.2.2.2.2.2.2.1
theorem k0_off49_inb : ∀ (v2 : BitVec 32) (k0_hw3 : k0_chk3 v2), ∀ a, (k0_off49 v2) a + S1.size a ≤ S32.size a := fun v2 k0_hw3 => k0_hw3.2.2.2.2.2.2.2.2.2.2.2.2.2.2.2.2.2.2.2.2.2.2.2.2.1
theorem k0_off51_inb : ∀ (v2 : BitVec 32) (k0_hw3 : k0_chk3 v2), ∀ a, (k0_off51 v2) a + S1.size a ≤ S32.size a := fun v2 k0_hw3 => k0_hw3.2.2.2.2.2.2.2.2.2.2.2.2.2.2.2.2.2.2.2.2.2.2.2.2.2.1
theorem k0_off53_inb : ∀ (v2 : BitVec 32) (k0_hw3 : k0_chk3 v2), ∀ a, (k0_off53 v2) a + S1.size a ≤ S32.size a := fun v2 k0_hw3 => k0_hw3.2.2.2.2.2.2.2.2.2.2.2.2.2.2.2.2.2.2.2.2.2.2.2.2.2.2.1
theorem k0_off55_inb : ∀ (v2 : BitVec 32) (k0_hw3 : k0_chk3 v2), ∀ a, (k0_off55 v2) a + S1.size a ≤ S32.size a := fun v2 k0_hw3 => k0_hw3.2.2.2.2.2.2.2.2.2.2.2.2.2.2.2.2.2.2.2.2.2.2.2.2.2.2.2.1
theorem k0_off57_inb : ∀ (v2 : BitVec 32) (k0_hw3 : k0_chk3 v2), ∀ a, (k0_off57 v2) a + S1.size a ≤ S32.size a := fun v2 k0_hw3 => k0_hw3.2.2.2.2.2.2.2.2.2.2.2.2.2.2.2.2.2.2.2.2.2.2.2.2.2.2.2.2.1
theorem k0_off59_inb : ∀ (v2 : BitVec 32) (k0_hw3 : k0_chk3 v2), ∀ a, (k0_off59 v2) a + S1.size a ≤ S32.size a := fun v2 k0_hw3 => k0_hw3.2.2.2.2.2.2.2.2.2.2.2.2.2.2.2.2.2.2.2.2.2.2.2.2.2.2.2.2.2.1
theorem k0_off61_inb : ∀ (v2 : BitVec 32) (k0_hw3 : k0_chk3 v2), ∀ a, (k0_off61 v2) a + S1.size a ≤ S32.size a := fun v2 k0_hw3 => k0_hw3.2.2.2.2.2.2.2.2.2.2.2.2.2.2.2.2.2.2.2.2.2.2.2.2.2.2.2.2.2.2.1
theorem k0_off63_inb : ∀ (v2 : BitVec 32) (k0_hw3 : k0_chk3 v2), ∀ a, (k0_off63 v2) a + S1.size a ≤ S32.size a := fun v2 k0_hw3 => k0_hw3.2.2.2.2.2.2.2.2.2.2.2.2.2.2.2.2.2.2.2.2.2.2.2.2.2.2.2.2.2.2.2

def k0_off64 (v1407 : BitVec 32) (c0_i32_1377 : BitVec 32) : Fin 2 → Nat :=
  let c64_i32_1376 : BitVec 32 := 64#32
  let v1431 : BitVec 32 := Scalar.muli v1407 c64_i32_1376
  let v1432 : BitVec 32 := Scalar.addi v1431 c0_i32_1377
  let v1433 : Index := Scalar.indexCast v1432
  let c0_1378 : Index := 0#32
  ![v1433.toNat, 0]

def k0_chk35 (v1407 : BitVec 32) : Prop :=
  (∀ (r : Fin 2), ∀ a, (k0_off64 v1407 (BitVec.ofNat 32 (32 * r.val))) a + S32x64.size a ≤ S2048x64.size a)
theorem k0_off64_inb : ∀ (v1407 : BitVec 32) (k0_hw35 : k0_chk35 v1407), ∀ (r : Fin 2), ∀ a, (k0_off64 v1407 (BitVec.ofNat 32 (32 * r.val))) a + S32x64.size a ≤ S2048x64.size a := fun v1407 k0_hw35 r => k0_hw35 r

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Same.lean ====
module

public import proofs.«01_k».proof.Proof.Gen.Kernel.Skeleton
public import proofs.«01_k».proof.Proof.Gen.KernelIdeal.Skeleton

@[expose] public section

noncomputable section

/-! # The two printed kernels are one program

The kernel read over exact real arithmetic is printed with no operation rewritten, so at any reading of
the floats it is the program of the kernel itself. What is proved of the one then holds of the other. -/

namespace Cert.Proof

open Idealize.ShloMosaic Idealize.SL.Sem

variable {F : FTy → Type} [FloatOps F]

set_option maxRecDepth 100000 in
set_option maxHeartbeats 40000000 in
/-- The two bodies are the same once each is read as its memory operations. -/
theorem skel_same : Cert.Kernel.Gen.cc0_body_skel (F := F) = Cert.KernelIdeal.Gen.cc0_body_skel (F := F) := (rfl)

/-- The two bodies are the same. -/
theorem body_same : Cert.Kernel.cc0_body (F := F) = Cert.KernelIdeal.cc0_body (F := F) :=
  Cert.Kernel.Gen.cc0_body_eq_skeleton.trans (skel_same.trans Cert.KernelIdeal.Gen.cc0_body_eq_skeleton.symm)

/-- The two tables of kernel bodies are the same. -/
theorem bodies_same : Cert.Kernel.defs₀ (F := F) = Cert.KernelIdeal.defs₀ (F := F) := by
  unfold Cert.Kernel.defs₀ Cert.KernelIdeal.defs₀
  rw [body_same]
  refine congrArg Defs.onTc (funext fun l => funext fun a => ?_)
  match l, a with
  | 0, (t, s) => rfl

/-- The two launches are set up the same way. -/
theorem pcfgs_same : Cert.Kernel.pcfgs (F := F) = Cert.KernelIdeal.pcfgs (F := F) := (rfl)

/-- The two tables of bodies, with the launches', are the same. -/
theorem defs_same : Cert.Kernel.defs (F := F) = Cert.KernelIdeal.defs (F := F) := by
  unfold Cert.Kernel.defs Cert.KernelIdeal.defs
  rw [bodies_same]
  rfl

set_option maxHeartbeats 4000000 in
/-- The two host programs are the same. -/
theorem main_same : Cert.Kernel.main (F := F) = Cert.KernelIdeal.main (F := F) := (rfl)

end Cert.Proof

end
-- ==== Proof.Shape.lean ====
module

public import proofs.«01_k».proof.Proof.Gen.KernelIdeal.Skeleton
public import proofs.«01_k».proof.Proof.Gen.KernelIdeal.Points

@[expose] public section

noncomputable section

/-! # The body as a ring program

The kernel's body is printed as one straight line. Here it is again with its loops: two lanes, one
running clockwise and one counter-clockwise round the ring, each with a buffer of slots, each slot two
halves of thirty-two rows. -/

namespace Cert.KernelIdeal.Ring

open Idealize.ShloMosaic Idealize.SL.Sem Cert.KernelIdeal.Gen

variable {F : FTy → Type} [FloatOps F]

/-- A program of the kernel's body. -/
abbrev BodyProg (F : FTy → Type) (α : Type) := Prog (TpuEff nD τ sig (Elt F) Λ₀ .tc) α

/-- Run `f 0`, `f 1`, …, `f (n - 1)` in order. -/
def loop : (n : ℕ) → (Fin n → BodyProg F PUnit) → BodyProg F PUnit
  | 0, _ => pure ⟨⟩
  | n + 1, f => f 0 >>= fun _ => loop n fun i => f i.succ

/-- Half `i` of slot `d` lies inside the lane's buffer. -/
theorem slot_inb {d i : ℕ} (hd : d < 17) (hi : i < 2) :
    ∀ a, (![d, 32 * i, 0] : Fin 3 → ℕ) a + S1x32x2048.size a ≤ S17x64x2048.size a := by
  intro a
  fin_cases a <;> simp [S1x32x2048, S17x64x2048] <;> omega

/-- Half `i` of the source rows lies inside the operand. -/
theorem src_inb {i : ℕ} (hi : i < 2) :
    ∀ a, (![32 * i, 0] : Fin 2 → ℕ) a + S32x2048.size a ≤ S64x2048.size a := by
  intro a
  fin_cases a <;> simp [S32x2048, S64x2048] <;> omega

/-- The rectangle of half `i` of slot `d`. -/
abbrev slotRect (d i : ℕ) (hd : d < 17) (hi : i < 2) : Rect S17x64x2048 :=
  Rect.unit (s := S17x64x2048) ![d, 32 * i, 0] S1x32x2048.size (slot_inb hd hi)

/-- The rectangle of half `i` of the source rows. -/
abbrev srcRect (i : ℕ) (hi : i < 2) : Rect S64x2048 :=
  Rect.unit (s := S64x2048) ![32 * i, 0] S32x2048.size (src_inb hi)

/-- Half `i` of slot `d` of a lane's buffer, as a matrix of thirty-two rows. -/
def slotM (b : Memref sig .tc .vmem S17x64x2048 .f32) (d i : ℕ) (hd : d < 17) (hi : i < 2) :
    Memref sig .tc .vmem S32x2048 .f32 :=
  (b.slice (slotRect d i hd hi) (fun _ => rfl)).squeeze S32x2048 squeezes_S1x32x2048_S32x2048

/-- Half `i` of the source rows. -/
def srcM (x : Memref sig .tc .vmem S64x2048 .f32) (i : ℕ) (hi : i < 2) :
    Memref sig .tc .vmem S32x2048 .f32 :=
  x.slice (srcRect i hi) (fun _ => rfl)

theorem unit32_inb {j : ℕ} (hj : j < 32) : ∀ a, (![j] : Fin 1 → ℕ) a + S1.size a ≤ S32.size a := by
  intro a; fin_cases a; simp [S1, S32]; omega

theorem unit34_inb {j : ℕ} (hj : j < 34) : ∀ a, (![j] : Fin 1 → ℕ) a + S1.size a ≤ S34.size a := by
  intro a; fin_cases a; simp [S1, S34]; omega

theorem unit3_inb {j : ℕ} (hj : j < 3) : ∀ a, (![j] : Fin 1 → ℕ) a + S1.size a ≤ S3.size a := by
  intro a; fin_cases a; simp [S1, S3]; omega

/-- Semaphore `j` of a lane's send array. -/
def sendSem (s : DmaSems sig S32) (j : ℕ) (hj : j < 32) : DmaSem sig :=
  ((s.slice (Rect.unit (s := S32) ![j] S1.size (unit32_inb hj))).squeeze S_ squeezes_S1_S_).sem

/-- Semaphore `j` of a lane's receive array. -/
def recvSem (s : DmaSems sig S34) (j : ℕ) (hj : j < 34) : DmaSem sig :=
  ((s.slice (Rect.unit (s := S34) ![j] S1.size (unit34_inb hj))).squeeze S_ squeezes_S1_S_).sem

/-- One lane: its buffer and its two arrays of semaphores. -/
structure Lane where
  buf : Memref sig .tc .vmem S17x64x2048 .f32
  send : DmaSems sig S32
  recv : DmaSems sig S34

/-- Send half `i` of the source rows to device `p`, into its slot 1. -/
def sendSrc (x : Memref sig .tc .vmem S64x2048 .f32) (L : Lane) (p : Dev nD) (i : ℕ) (hi : i < 2) :
    BodyProg F PUnit :=
  Prog.lift (.enqueueDma (srcM x i hi)
    (.remote (Dev.tc p) (slotM L.buf 1 i (by omega) hi) (.dma (sendSem L.send i (by omega))))
    (.dma (recvSem L.recv (2 + i) (by omega))) (View.wordExact_bits rfl)
    ((View.wordExact_bits rfl).reshape _ _) ⟨⟨rfl, Or.inl rfl⟩, trivial⟩)

/-- Send half `i` of slot `d` on to device `p`, into its slot `d + 1`. -/
def sendSlot (L : Lane) (p : Dev nD) (d i : ℕ) (hd : d < 16) (hi : i < 2) : BodyProg F PUnit :=
  Prog.lift (.enqueueDma (slotM L.buf d i (by omega) hi)
    (.remote (Dev.tc p) (slotM L.buf (d + 1) i (by omega) hi) (.dma (sendSem L.send (2 * d + i) (by omega))))
    (.dma (recvSem L.recv (2 * d + 2 + i) (by omega))) ((View.wordExact_bits rfl).reshape _ _)
    ((View.wordExact_bits rfl).reshape _ _) ⟨⟨rfl, Or.inl rfl⟩, trivial⟩)

/-- Wait for half `i` of slot `d` to have landed. -/
def waitSlot (L : Lane) (d i : ℕ) (hd : d < 17) (hi : i < 2) : BodyProg F PUnit :=
  Prog.lift (.waitDma2 (recvSem L.recv (2 * d + i) (by omega)) (slotM L.buf d i hd hi)
    (slotM L.buf d i hd hi) ((View.wordExact_bits rfl).reshape _ _) ((View.wordExact_bits rfl).reshape _ _))

/-- Wait for the send of half `i` of the source rows to have left. -/
def doneSrc (x : Memref sig .tc .vmem S64x2048 .f32) (L : Lane) (i : ℕ) (hi : i < 2) : BodyProg F PUnit :=
  Prog.lift (.waitDma2 (sendSem L.send i (by omega)) (slotM L.buf 1 i (by omega) hi) (srcM x i hi)
    ((View.wordExact_bits rfl).reshape _ _) (View.wordExact_bits rfl))

/-- Wait for the send of half `i` of slot `d` to have left. -/
def doneSlot (L : Lane) (d i : ℕ) (hd : d < 16) (hi : i < 2) : BodyProg F PUnit :=
  Prog.lift (.waitDma2 (sendSem L.send (2 * d + i) (by omega)) (slotM L.buf (d + 1) i (by omega) hi)
    (slotM L.buf d i (by omega) hi) ((View.wordExact_bits rfl).reshape _ _)
    ((View.wordExact_bits rfl).reshape _ _))

/-- Both halves of slot `d` received and sent on. -/
def hopLane (L : Lane) (p : Dev nD) (d : ℕ) (hd : d < 16) : BodyProg F PUnit := do
  waitSlot L d 0 (by omega) (by omega)
  sendSlot L p d 0 hd (by omega)
  waitSlot L d 1 (by omega) (by omega)
  sendSlot L p d 1 hd (by omega)

/-- The position in the ring `k` further, read modulo 32, as the table's index. -/
def posOff (k v2 : BitVec 32) : Fin 1 → ℕ :=
  ![(Scalar.indexCast (Scalar.remsi (Scalar.addi (Scalar.addi v2 k) 32#32) 32#32)).toNat]

/-- The positions a clockwise band's blocks come from. -/
def kCw (n : Fin 15) : BitVec 32 := BitVec.ofNat 32 (4294967296 - (n.val + 1))

/-- The positions a counter-clockwise band's blocks come from. -/
def kCcw (n : Fin 15) : BitVec 32 := BitVec.ofNat 32 (n.val + 1)

/-- Every position the body computes lies in the table: its own, those of the two bands, and the one
half-way round. -/
structure PosOk (v2 : BitVec 32) : Prop where
  own : ∀ a, posOff 0#32 v2 a + S1.size a ≤ S32.size a
  cw : ∀ n a, posOff (kCw n) v2 a + S1.size a ≤ S32.size a
  ccw : ∀ n a, posOff (kCcw n) v2 a + S1.size a ≤ S32.size a
  far : ∀ a, posOff 16#32 v2 a + S1.size a ≤ S32.size a

/-- The check of the position covers every position the body computes. -/
theorem posOk {v2 : BitVec 32} (h : k0_chk3 v2) : PosOk v2 := by
  obtain ⟨o, a1, a2, a3, a4, a5, a6, a7, a8, a9, a10, a11, a12, a13, a14, a15, b1, b2, b3, b4, b5, b6, b7, b8, b9, b10, b11, b12, b13, b14, b15, f⟩ := h
  refine ⟨o, fun n => ?_, fun n => ?_, f⟩
  · fin_cases n
    exacts [a1, a2, a3, a4, a5, a6, a7, a8, a9, a10, a11, a12, a13, a14, a15]
  · fin_cases n
    exacts [b1, b2, b3, b4, b5, b6, b7, b8, b9, b10, b11, b12, b13, b14, b15]

/-- Store the sixty-four rows `v` at block `w` of the result, after a load there. -/
def putBlock (o : Memref sig .tc .vmem S2048x64 .f32) (w : BitVec 32) (hw : k0_chk4 w) (v : FVec F S64x64 .f32) :
    BodyProg F PUnit := do
  let _ : Vec F S64x64 .f32 ← Prog.lift (.load o (Rect.unit (s := S2048x64) (k0_off2 w) S64x64.size (k0_off2_inb w hw)).toLoadRect (View.loadsAt_vmem h_S64x64))
  Prog.lift (.store o (Rect.unit (s := S2048x64) (k0_off2 w) S64x64.size (k0_off2_inb w hw)) v Finset.univ (View.stores_vmem_bits_univ h_S64x64 rfl) (.inl rfl))

/-- Look up block `k` positions further in the table `t`. -/
def lookup (t : Memref sig .tc .smem S32 .i32) (k v2 : BitVec 32)
    (h : ∀ a, posOff k v2 a + S1.size a ≤ S32.size a) : BodyProg F (Elt F .i32) :=
  smemLoad t (Rect.unit (s := S32) (posOff k v2) S1.size h) numel1_S1 rfl

/-- Look up the block `k` positions further, and store the rows `v` there. -/
def lookupPut (t : Memref sig .tc .smem S32 .i32) (o : Memref sig .tc .vmem S2048x64 .f32) (k v2 : BitVec 32)
    (h : ∀ a, posOff k v2 a + S1.size a ≤ S32.size a) (v : FVec F S64x64 .f32) : BodyProg F PUnit := do
  let w : Elt F .i32 ← lookup t k v2 h
  have hw : k0_chk4 w := (← Prog.lift (TpuEff.assume (k0_chk4 w) (k0_chk4.dec w))).down
  putBlock o w hw v

/-- Rows `64 n …` of a band are inside the band. -/
theorem band_slices {n : ℕ} (hn : n < 15) : S960x64.Slices ![64 * n, 0] S64x64 := by
  refine ⟨rfl, fun a => ?_⟩
  fin_cases a <;> simp [S64x64, S960x64] <;> omega

/-- The fifteen blocks of a band, one to a slot. -/
def band (t : Memref sig .tc .smem S32 .i32) (w : Memref sig .tc .vmem S2048x64 .f32)
    (o : Memref sig .tc .vmem S2048x64 .f32) (L : Lane) (v2 : BitVec 32) (k : Fin 15 → BitVec 32)
    (h : ∀ n a, posOff (k n) v2 a + S1.size a ≤ S32.size a) : BodyProg F PUnit := do
  let xs : Vec F S15x64x2048 .f32 ← Prog.lift (.load L.buf (Rect.unit (s := S17x64x2048) ![1, 0, 0] S15x64x2048.size inb_S17x64x2048_S15x64x2048_1_0_0).toLoadRect (View.loadsAt_vmem h_S15x64x2048))
  let ws : Vec F S2048x64 .f32 ← Prog.lift (.load w (Rect.unit (s := S2048x64) ![0, 0] S2048x64.size inb_S2048x64_S2048x64_0_0).toLoadRect (View.loadsAt_vmem h_S2048x64))
  loop 15 fun n => lookupPut t o (k n) v2 (h n)
    (extractStridedSlice S64x64 ![64 * n.val, 0] (k0_pay3 xs ws) (band_slices n.isLt))

/-- Half `i` of the last slot, its block's rows of the result. -/
def farHalf (w o : Memref sig .tc .vmem S2048x64 .f32) (L : Lane) (i : Fin 2) (v : BitVec 32) (hv : k0_chk35 v) :
    BodyProg F PUnit := do
  let xs : Vec F S1x32x2048 .f32 ← Prog.lift (.load L.buf (slotRect 16 i.val (by omega) i.isLt).toLoadRect (View.loadsAt_vmem h_S1x32x2048))
  let ws : Vec F S2048x64 .f32 ← Prog.lift (.load w (Rect.unit (s := S2048x64) ![0, 0] S2048x64.size inb_S2048x64_S2048x64_0_0).toLoadRect (View.loadsAt_vmem h_S2048x64))
  let _ : Vec F S32x64 .f32 ← Prog.lift (.load o (Rect.unit (s := S2048x64) (k0_off64 v (BitVec.ofNat 32 (32 * i.val))) S32x64.size (k0_off64_inb v hv i)).toLoadRect (View.loadsAt_vmem h_S32x64))
  Prog.lift (.store o (Rect.unit (s := S2048x64) (k0_off64 v (BitVec.ofNat 32 (32 * i.val))) S32x64.size (k0_off64_inb v hv i)) (k0_pay35 xs ws) Finset.univ (View.stores_vmem_bits_univ h_S32x64 rfl) (.inl rfl))

/-- The words the body starts from: its neighbours and its own position, each checked. -/
def words (a0 : Memref sig .tc .smem S3 .i32) :
    BodyProg F (Σ' (v0 : Elt F .i32) (_ : k0_chk2 v0) (v1 : Elt F .i32) (_ : k0_chk1 v1) (v2 : Elt F .i32), k0_chk3 v2) := do
  let v0 : Elt F .i32 ← smemLoad a0 (Rect.unit (s := S3) ![0] S1.size inb_S3_S1_0) numel1_S1 rfl
  have h2 : k0_chk2 v0 := (← Prog.lift (TpuEff.assume (k0_chk2 v0) (k0_chk2.dec v0))).down
  let v1 : Elt F .i32 ← smemLoad a0 (Rect.unit (s := S3) ![1] S1.size inb_S3_S1_1) numel1_S1 rfl
  have h1 : k0_chk1 v1 := (← Prog.lift (TpuEff.assume (k0_chk1 v1) (k0_chk1.dec v1))).down
  let v2 : Elt F .i32 ← smemLoad a0 (Rect.unit (s := S3) ![2] S1.size inb_S3_S1_2) numel1_S1 rfl
  have h3 : k0_chk3 v2 := (← Prog.lift (TpuEff.assume (k0_chk3 v2) (k0_chk3.dec v2))).down
  pure ⟨v0, h2, v1, h1, v2, h3⟩

/-- Tell both neighbours that this device's slots are free, and wait for both to say so. -/
def meet (l r : Dev nD) : BodyProg F PUnit := do
  semSignalWord l (sig.barrier 0 rfl) 1#32
  semSignalWord r (sig.barrier 0 rfl) 1#32
  semWaitWord (sig.barrier 0 rfl) 2#32

/-- The block of the device's own rows. -/
def ownBlock (t : Memref sig .tc .smem S32 .i32) (x : Memref sig .tc .vmem S64x2048 .f32)
    (w o : Memref sig .tc .vmem S2048x64 .f32) (v2 : BitVec 32)
    (h : ∀ a, posOff 0#32 v2 a + S1.size a ≤ S32.size a) : BodyProg F PUnit := do
  let xs : Vec F S64x2048 .f32 ← Prog.lift (.load x (Rect.unit (s := S64x2048) ![0, 0] S64x2048.size inb_S64x2048_S64x2048_0_0).toLoadRect (View.loadsAt_vmem h_S64x2048))
  let v : Elt F .i32 ← lookup t 0#32 v2 h
  have hv : k0_chk4 v := (← Prog.lift (TpuEff.assume (k0_chk4 v) (k0_chk4.dec v))).down
  let ws : Vec F S2048x64 .f32 ← Prog.lift (.load w (Rect.unit (s := S2048x64) ![0, 0] S2048x64.size inb_S2048x64_S2048x64_0_0).toLoadRect (View.loadsAt_vmem h_S2048x64))
  putBlock o v hv (k0_pay2 (k0_pay1 xs ws))

/-- The blocks of the device half-way round, one half from each lane. -/
def farBlock (t : Memref sig .tc .smem S32 .i32) (w o : Memref sig .tc .vmem S2048x64 .f32) (L R : Lane)
    (v2 : BitVec 32) (h : ∀ a, posOff 16#32 v2 a + S1.size a ≤ S32.size a) : BodyProg F PUnit := do
  let v : Elt F .i32 ← lookup t 16#32 v2 h
  have hv : k0_chk35 v := (← Prog.lift (TpuEff.assume (k0_chk35 v) (k0_chk35.dec v))).down
  waitSlot L 16 0 (by omega) (by omega)
  waitSlot R 16 1 (by omega) (by omega)
  farHalf w o L 0 v hv
  farHalf w o R 1 v hv

/-- Wait for every send of the lane to have left, those of slot `d`. -/
def doneHop (L : Lane) (d : ℕ) (hd : d < 16) : BodyProg F PUnit := do
  doneSlot L d 0 hd (by omega)
  doneSlot L d 1 hd (by omega)

/-- What follows the meeting: the sends, the hops, the blocks and the waits for the sends. -/
def rounds (t : Memref sig .tc .smem S32 .i32) (x : Memref sig .tc .vmem S64x2048 .f32)
    (w o : Memref sig .tc .vmem S2048x64 .f32) (L R : Lane) (r l : Dev nD) (v2 : BitVec 32) (h : PosOk v2) :
    BodyProg F PUnit := do
  sendSrc x L r 0 (by omega)
  sendSrc x L r 1 (by omega)
  sendSrc x R l 0 (by omega)
  sendSrc x R l 1 (by omega)
  ownBlock t x w o v2 h.own
  loop 14 fun n => do
    hopLane L r (n.val + 1) (by omega)
    hopLane R l (n.val + 1) (by omega)
  waitSlot L 15 0 (by omega) (by omega)
  sendSlot L r 15 0 (by omega) (by omega)
  waitSlot L 15 1 (by omega) (by omega)
  waitSlot R 15 0 (by omega) (by omega)
  waitSlot R 15 1 (by omega) (by omega)
  sendSlot R l 15 1 (by omega) (by omega)
  band t w o L v2 kCw h.cw
  band t w o R v2 kCcw h.ccw
  farBlock t w o L R v2 h.far
  doneSrc x L 0 (by omega)
  doneSrc x L 1 (by omega)
  doneSrc x R 0 (by omega)
  doneSrc x R 1 (by omega)
  loop 14 fun n => do
    doneHop L (n.val + 1) (by omega)
    doneHop R (n.val + 1) (by omega)
  doneSlot L 15 0 (by omega) (by omega)
  doneSlot R 15 1 (by omega) (by omega)

/-- The body, with its loops. -/
def ringBody (a0 : Memref sig .tc .smem S3 .i32) (t : Memref sig .tc .smem S32 .i32)
    (x : Memref sig .tc .vmem S64x2048 .f32) (w o : Memref sig .tc .vmem S2048x64 .f32) (L R : Lane) :
    BodyProg F PUnit := do
  let ⟨v0, h2, v1, h1, v2, h3⟩ ← words a0
  meet ⟨k0_dev1 v1, k0_dev1_lt v1 h1⟩ ⟨k0_dev2 v0, k0_dev2_lt v0 h2⟩
  rounds t x w o L R ⟨k0_dev2 v0, k0_dev2_lt v0 h2⟩ ⟨k0_dev1 v1, k0_dev1_lt v1 h1⟩ v2 (posOk h3)

end Cert.KernelIdeal.Ring

end
-- ==== Proof.Around.lean ====
module

public import proofs.«01_k».proof.Proof.Shape

@[expose] public section

noncomputable section

/-! # The ring the tables describe

The tables name, for each device, the next and the previous device of a ring through all thirty-two and
the device's position in it, and for each position the device there. -/

namespace Cert.KernelIdeal.Ring

open Idealize.ShloMosaic Idealize.SL.Sem Cert.KernelIdeal.Gen

/-- The first table's word names a device. -/
theorem nxt_lt : ∀ c : Dev nD, k0_dev2 (lit0 c) < nD := by decide

/-- The second table's word names a device. -/
theorem prv_lt : ∀ c : Dev nD, k0_dev1 (lit1 c) < nD := by decide

/-- The next device of the ring. -/
def nxt (c : Dev nD) : Dev nD := ⟨k0_dev2 (lit0 c), nxt_lt c⟩

/-- The previous device of the ring. -/
def prv (c : Dev nD) : Dev nD := ⟨k0_dev1 (lit1 c), prv_lt c⟩

/-- Where a lane of device `c` sends to: clockwise (`true`) to the next device, counter-clockwise to the
previous. -/
def fwd (ℓ : Bool) (c : Dev nD) : Dev nD := if ℓ then nxt c else prv c

/-- The next device's previous is the device itself, and the other way round. -/
theorem fwd_fwd (ℓ : Bool) (c : Dev nD) : fwd (!ℓ) (fwd ℓ c) = c := by
  revert ℓ c; decide

/-- Going one way round the ring, as a bijection. -/
def turn (ℓ : Bool) : Dev nD ≃ Dev nD where
  toFun := fwd ℓ
  invFun := fwd (!ℓ)
  left_inv := fwd_fwd ℓ
  right_inv c := by simpa using fwd_fwd (!ℓ) c

/-- The device whose rows a lane of device `c` holds in slot `d`. -/
def org (ℓ : Bool) (d : ℕ) (c : Dev nD) : Dev nD := (fwd (!ℓ))^[d] c

@[simp] theorem org_zero (ℓ : Bool) (c : Dev nD) : org ℓ 0 c = c := rfl

/-- What a device holds in slot `d` its neighbour holds in slot `d + 1`. -/
theorem org_fwd (ℓ : Bool) (d : ℕ) (c : Dev nD) : org ℓ (d + 1) (fwd ℓ c) = org ℓ d c := by
  unfold org; rw [Function.iterate_succ_apply, fwd_fwd]

/-- The first table's check holds. -/
theorem chk2_ok : ∀ c : Dev nD, k0_chk2 (lit0 c) := by decide

/-- The second table's check holds. -/
theorem chk1_ok : ∀ c : Dev nD, k0_chk1 (lit1 c) := by decide

/-- The device at a position of the ring. -/
def there (p : Fin 32) : Dev nD := ⟨(lit3 p).toNat, by revert p; decide⟩

/-- The position of a device. -/
def pos (c : Dev nD) : Fin 32 := ⟨(lit2 c).toNat, by revert c; decide⟩

theorem there_pos : ∀ c : Dev nD, there (pos c) = c := by decide

/-- The rows of the result a word of the last table names: the block of the device it is. -/
theorem off2_eq : ∀ p : Fin 32, k0_off2 (lit3 p) = ![64 * (there p).val, 0] := by
  have h : ∀ p : Fin 32, k0_off2 (lit3 p) 0 = 64 * (there p).val := by decide
  intro p; funext a; fin_cases a
  · exact h p
  · rfl

/-- The same for half a block. -/
theorem off64_eq : ∀ (p : Fin 32) (i : Fin 2),
    k0_off64 (lit3 p) (BitVec.ofNat 32 (32 * i.val)) = ![64 * (there p).val + 32 * i.val, 0] := by
  have h : ∀ (p : Fin 32) (i : Fin 2),
    k0_off64 (lit3 p) (BitVec.ofNat 32 (32 * i.val)) 0 = 64 * (there p).val + 32 * i.val := by decide
  intro p i; funext a; fin_cases a
  · exact h p i
  · rfl

/-- Every block a word of the last table names lies in the result. -/
theorem chk4_ok (p : Fin 32) : k0_chk4 (lit3 p) := by
  unfold k0_chk4
  rw [off2_eq]
  have : (there p).val < 32 := (there p).isLt
  intro a; fin_cases a
  · simp [S64x64, S2048x64]; omega
  · simp [S64x64, S2048x64]

/-- Every half block a word of the last table names lies in the result. -/
theorem chk35_ok (p : Fin 32) : k0_chk35 (lit3 p) := by
  unfold k0_chk35
  intro i
  rw [off64_eq]
  have : (there p).val < 32 := (there p).isLt
  have := i.isLt
  intro a; fin_cases a
  · simp [S32x64, S2048x64]; omega
  · simp [S32x64, S2048x64]

/-- A position some way round, as a natural number. -/
theorem posOff_own : ∀ c : Dev nD, posOff 0#32 (lit2 c) = ![(pos c).val] := by
  have h : ∀ c : Dev nD, posOff 0#32 (lit2 c) 0 = (pos c).val := by decide
  intro c; funext a; fin_cases a; exact h c

/-- The position half-way round, of the device both lanes hold in their last slots. -/
theorem posOff_far : ∀ c : Dev nD, posOff 16#32 (lit2 c) = ![(pos (org true 16 c)).val] := by
  have h : ∀ c : Dev nD, posOff 16#32 (lit2 c) 0 = (pos (org true 16 c)).val := by decide +kernel
  intro c; funext a; fin_cases a; exact h c

theorem org_far : ∀ c : Dev nD, org false 16 c = org true 16 c := by decide +kernel

/-- A position of the clockwise band, of the device whose rows the lane holds there. -/
theorem posOff_cw : ∀ (c : Dev nD) (n : Fin 15), posOff (kCw n) (lit2 c) = ![(pos (org true (n.val + 1) c)).val] := by
  have h : ∀ (c : Dev nD) (n : Fin 15), posOff (kCw n) (lit2 c) 0 = (pos (org true (n.val + 1) c)).val := by decide +kernel
  intro c n; funext a; fin_cases a; exact h c n

/-- A position of the counter-clockwise band, of the device whose rows the lane holds there. -/
theorem posOff_ccw : ∀ (c : Dev nD) (n : Fin 15), posOff (kCcw n) (lit2 c) = ![(pos (org false (n.val + 1) c)).val] := by
  have h : ∀ (c : Dev nD) (n : Fin 15), posOff (kCcw n) (lit2 c) 0 = (pos (org false (n.val + 1) c)).val := by decide +kernel
  intro c n; funext a; fin_cases a; exact h c n

/-- The position's check holds. -/
theorem chk3_ok (c : Dev nD) : k0_chk3 (lit2 c) := by
  revert c; decide +kernel

end Cert.KernelIdeal.Ring

end
-- ==== Proof.Protocol.lean ====
module

public import proofs.«01_k».proof.Proof.Around
public import proofs.«01_k».proof.Proof.Gen.KernelIdeal.Launch
public import Idealize.ShloMosaic.Lib.Rounds
public import Idealize.ShloMosaic.Lib.Tactic
public import Idealize.ShloMosaic.Lib.Pipeline.RegionTalk
public import Idealize.ShloMosaic.Harness.Basic

@[expose] public section

noncomputable section

/-! # Who tells whom what

Each device has one barrier cell, and on each lane thirty-one send cells and thirty-one receive cells,
one for each half slot that travels. A device first tells each neighbour that its slots are free; then each
copy pays two cells, the sender's with the source given back and the receiver's with the rows that landed. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type}

/-! ## Lanes and copies -/

/-- The two lanes: clockwise (`true`) and counter-clockwise. -/
def lane : Bool → Lane
  | true => ⟨Memref.whole cc0_scratch0, cc0_scratch2, cc0_scratch3⟩
  | false => ⟨Memref.whole cc0_scratch1, cc0_scratch4, cc0_scratch5⟩

/-- The half of the last slot that a lane fills. -/
def last (ℓ : Bool) : ℕ := if ℓ then 0 else 1

/-- The slot copy `j` of a lane is made from; slot 0 stands for the device's own rows. -/
def dj (j : Fin 31) : ℕ := j.val / 2

/-- The half copy `j` of a lane moves. -/
def ij (ℓ : Bool) (j : Fin 31) : ℕ := if j.val = 30 then last ℓ else j.val % 2

theorem dj_lt (j : Fin 31) : dj j < 16 := by unfold dj; omega

theorem ij_lt (ℓ : Bool) (j : Fin 31) : ij ℓ j < 2 := by
  unfold ij last; split
  · split <;> omega
  · omega

/-- The semaphore copy `j` of a lane counts up at its sender. -/
def sendS (ℓ : Bool) (j : Fin 31) : DmaSem sig :=
  sendSem (lane ℓ).send (2 * dj j + ij ℓ j) (by have := dj_lt j; have := ij_lt ℓ j; omega)

/-- The semaphore copy `j` of a lane counts up at its receiver. -/
def recvS (ℓ : Bool) (j : Fin 31) : DmaSem sig :=
  recvSem (lane ℓ).recv (2 * dj j + 2 + ij ℓ j) (by have := dj_lt j; have := ij_lt ℓ j; omega)

/-- The barrier semaphore. -/
abbrev barS : Sem sig := sig.barrier 0 rfl

/-- The cells' semaphores: the barrier, and of each lane the senders' (`true`) and the receivers'. -/
def cellSem : Option (Bool × Bool × Fin 31) → SemLoc sig
  | none => .reg barS
  | some (true, ℓ, j) => .dma (sendS ℓ j)
  | some (false, ℓ, j) => .dma (recvS ℓ j)

theorem sendSem_val (ℓ : Bool) (j : ℕ) (hj : j < 32) :
    (sendSem (lane ℓ).send j hj).val = (if ℓ then 5 else 71) + j := by
  have h : ∀ (ℓ : Bool) (j : Fin 32), (sendSem (lane ℓ).send j.val j.isLt).val = (if ℓ then 5 else 71) + j.val := by
    decide
  exact h ℓ ⟨j, hj⟩

theorem recvSem_val (ℓ : Bool) (j : ℕ) (hj : j < 34) :
    (recvSem (lane ℓ).recv j hj).val = (if ℓ then 37 else 103) + j := by
  have h : ∀ (ℓ : Bool) (j : Fin 34), (recvSem (lane ℓ).recv j.val j.isLt).val = (if ℓ then 37 else 103) + j.val := by
    decide
  exact h ℓ ⟨j, hj⟩

/-- A copy is known by its slot and its half. -/
theorem copy_inj (ℓ : Bool) (j j' : Fin 31) (h : 2 * dj j + ij ℓ j = 2 * dj j' + ij ℓ j') : j = j' := by
  have := j.isLt; have := j'.isLt
  unfold dj ij last at h
  apply Fin.ext
  cases ℓ <;> simp only [Bool.false_eq_true, if_true, if_false] at h <;> split at h <;> split at h <;> omega

/-- No two cells share a semaphore. -/
theorem cellSem_inj : Function.Injective cellSem := by
  intro a b h
  rcases a with _ | ⟨ka, la, ja⟩ <;> rcases b with _ | ⟨kb, lb, jb⟩
  · rfl
  · cases kb <;> cases h
  · cases ka <;> cases h
  · have hv : ∀ (k ℓ : Bool) (j : Fin 31), ∃ s : DmaSem sig, cellSem (some (k, ℓ, j)) = .dma s
        ∧ s.val = (if k then (if ℓ then 5 else 71) else (if ℓ then 39 else 105)) + (2 * dj j + ij ℓ j) := by
      intro k ℓ j
      cases k
      · refine ⟨recvS ℓ j, rfl, ?_⟩
        unfold recvS; rw [recvSem_val]; cases ℓ <;> simp <;> omega
      · refine ⟨sendS ℓ j, rfl, ?_⟩
        unfold sendS; rw [sendSem_val]; cases ℓ <;> simp
    obtain ⟨s, hs, es⟩ := hv ka la ja
    obtain ⟨s', hs', es'⟩ := hv kb lb jb
    rw [hs, hs'] at h
    have e : s.val = s'.val := by injection h with h; rw [h]
    rw [es, es'] at e
    have := dj_lt ja; have := ij_lt la ja; have := dj_lt jb; have := ij_lt lb jb
    cases ka <;> cases kb <;> cases la <;> cases lb <;>
      first
      | (simp only [Bool.false_eq_true, if_true, if_false] at e; exfalso; omega)
      | (rw [copy_inj true ja jb (by omega)])
      | (rw [copy_inj false ja jb (by omega)])

/-- Which cell a semaphore is. -/
def role (s : SemLoc sig) : Option (Option (Bool × Bool × Fin 31)) := Function.partialInv cellSem s

theorem role_cell (k : Option (Bool × Bool × Fin 31)) : role (cellSem k) = some k :=
  Function.partialInv_left cellSem_inj k

theorem role_bar : role (.reg barS) = some none := role_cell none
theorem role_send (ℓ : Bool) (j : Fin 31) : role (.dma (sendS ℓ j)) = some (some (true, ℓ, j)) := role_cell (some (true, ℓ, j))
theorem role_recv (ℓ : Bool) (j : Fin 31) : role (.dma (recvS ℓ j)) = some (some (false, ℓ, j)) := role_cell (some (false, ℓ, j))

abbrev barCell (c : Dev nD) : GSem nD τ sig := ((c : Thread nD τ), .reg barS)
abbrev sendCell (ℓ : Bool) (c : Dev nD) (j : Fin 31) : GSem nD τ sig := ((c : Thread nD τ), .dma (sendS ℓ j))
abbrev recvCell (ℓ : Bool) (c : Dev nD) (j : Fin 31) : GSem nD τ sig := ((c : Thread nD τ), .dma (recvS ℓ j))

/-- What one copy of half a slot counts. -/
def N : ℕ := RefSig.tileCredit S32x2048 .f32

theorem credit (b : Memref sig .tc .vmem S32x2048 .f32) : b.view.dmaCredit = N := rfl

theorem N_pos : 0 < N := RefSig.tileCredit_pos _ _ (by decide)

/-! ## The resources -/

/-- The two sides' ghost state: the staging's and the ring's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The operand's rows, staged. -/
abbrev xM : Memref sig .tc .vmem S64x2048 .f32 := Memref.whole cc0_stg2_0

/-- The half slot that copy `j` lands in. -/
abbrev landM (ℓ : Bool) (j : Fin 31) : Memref sig .tc .vmem S32x2048 .f32 :=
  slotM (lane ℓ).buf (dj j + 1) (ij ℓ j) (by have := dj_lt j; omega) (ij_lt ℓ j)

/-- The half slot that copy `j` is made from, when that is not the operand. -/
abbrev fromM (ℓ : Bool) (j : Fin 31) : Memref sig .tc .vmem S32x2048 .f32 :=
  slotM (lane ℓ).buf (dj j) (ij ℓ j) (by have := dj_lt j; omega) (ij_lt ℓ j)

/-- Where copy `j` is made from. -/
def originM (ℓ : Bool) (j : Fin 31) : Memref sig .tc .vmem S32x2048 .f32 :=
  if dj j = 0 then srcM xM (ij ℓ j) (ij_lt ℓ j) else fromM ℓ j

/-- Share `q` of a thirty-two row window of device `c` at contents `f`. -/
abbrev pts (b : Memref sig .tc .vmem S32x2048 .f32) (c : Dev nD) (q : PosShare TreeShare)
    (f : Buf (Elt F) (b.view.loc (c : Thread nD τ))) : sProp 𝕄 :=
  b.view.loc (c : Thread nD τ) ↦[b.view.set]{q} f

/-- Share `q` of a window, contents not chosen. -/
def anyAt (b : Memref sig .tc .vmem S32x2048 .f32) (c : Dev nD) (q : PosShare TreeShare) : sProp 𝕄 :=
  iprop(∃ f, pts b c q f)

/-- Share `q` of a window that reads `v`. -/
def heldAt (b : Memref sig .tc .vmem S32x2048 .f32) (c : Dev nD) (q : PosShare TreeShare)
    (v : S32x2048.Idx → Elt F .f32) : sProp 𝕄 :=
  iprop(∃ f, ⌜b.view.read (Elt F) f = v⌝ ∗ pts b c q f)

/-- The share a lane's copies take of what they are made from: of the operand each lane takes its own. -/
def qOf (ℓ : Bool) (j : Fin 31) : PosShare TreeShare :=
  if dj j = 0 then (if ℓ then fullShare.left else fullShare.right.left) else fullShare.left

/-- Half `i` of sixty-four rows. -/
def halfOf (i : ℕ) (hi : i < 2) (v : S64x2048.Idx → Elt F .f32) : S32x2048.Idx → Elt F .f32 :=
  fun y => v ((srcRect i hi).emb y)

variable (X : Dev nD → S64x2048.Idx → Elt F .f32)

/-- What lands at device `c` with copy `j`: half of the rows of the device that many steps back. -/
def landed (ℓ : Bool) (c : Dev nD) (j : Fin 31) : S32x2048.Idx → Elt F .f32 :=
  halfOf (ij ℓ j) (ij_lt ℓ j) (X (org ℓ (dj j + 1) c))

/-! ## The schedule -/

/-- Told to device `c`'s barrier cell for lane `ℓ`, by the neighbour the lane sends to: that neighbour's
slots of the lane, and that the cells its landings count are open. -/
def barPay (c : Dev nD) (ℓ : Bool) : sProp 𝕄 :=
  bigSep Finset.univ fun j : Fin 31 =>
    iprop(anyAt (landM ℓ j) (fwd ℓ c) fullShare ∗ reached ER (recvCell ℓ (fwd ℓ c) j) 0)

/-- Paid to the sender's cell: the source given back. -/
def sendPay (ℓ : Bool) (c : Dev nD) (j : Fin 31) : sProp 𝕄 := anyAt (originM ℓ j) c (qOf ℓ j)

/-- Paid to the receiver's cell: the half slot, holding what landed. -/
def recvPay (ℓ : Bool) (c : Dev nD) (j : Fin 31) : sProp 𝕄 := heldAt (landM ℓ j) c fullShare (landed X ℓ c j)

/-- One round everywhere: a duty for each lane at a barrier cell, one at each send and receive cell. -/
def ringRd : Rounds.Schedule (GSem nD τ sig) Bool 𝕄 where
  duties g r := if r = 0 ∧ g.1.2 = .tc then
      (match role g.2 with | some none => Finset.univ | some (some _) => {true} | none => ∅) else ∅
  amount g _ _ := match role g.2 with | some none => 1 | _ => N
  payload g _ d := match role g.2 with
    | some none => barPay g.1.1 d
    | some (some (true, ℓ, j)) => sendPay ℓ g.1.1 j
    | some (some (false, ℓ, j)) => recvPay X ℓ g.1.1 j
    | none => iprop(emp)
  amount_pos g _ _ _ := by
    split
    · exact Nat.one_pos
    · exact N_pos

instance ringRd_storable (g : GSem nD τ sig) (r : ℕ) (d : Bool) :
    BI.Storable (upEmb : UEmb _ 𝕄) ((ringRd X).payload g r d) := by
  dsimp only [ringRd]
  unfold barPay sendPay recvPay heldAt anyAt
  split <;> infer_instance

section Facts

variable (c : Dev nD) (ℓ : Bool) (j : Fin 31)

theorem duties_bar : (ringRd X).duties (barCell c) 0 = Finset.univ := by
  dsimp only [ringRd]; rw [if_pos ⟨rfl, rfl⟩, role_bar]
theorem duties_send : (ringRd X).duties (sendCell ℓ c j) 0 = {true} := by
  dsimp only [ringRd]; rw [if_pos ⟨rfl, rfl⟩, role_send]
theorem duties_recv : (ringRd X).duties (recvCell ℓ c j) 0 = {true} := by
  dsimp only [ringRd]; rw [if_pos ⟨rfl, rfl⟩, role_recv]
theorem duties_later (g : GSem nD τ sig) : ∀ r, 1 ≤ r → (ringRd X).duties g r = ∅ :=
  fun r hr => by dsimp only [ringRd]; rw [if_neg (fun h => by omega)]

theorem amount_bar (d : Bool) : (ringRd X).amount (barCell c) 0 d = 1 := by
  dsimp only [ringRd]; rw [role_bar]
theorem amount_send (d : Bool) : (ringRd X).amount (sendCell ℓ c j) 0 d = N := by
  dsimp only [ringRd]; rw [role_send]
theorem amount_recv (d : Bool) : (ringRd X).amount (recvCell ℓ c j) 0 d = N := by
  dsimp only [ringRd]; rw [role_recv]

theorem payload_bar (d : Bool) : (ringRd X).payload (barCell c) 0 d = barPay c d := by
  dsimp only [ringRd]; rw [role_bar]
theorem payload_send (d : Bool) : (ringRd X).payload (sendCell ℓ c j) 0 d = sendPay ℓ c j := by
  dsimp only [ringRd]; rw [role_send]
theorem payload_recv (d : Bool) : (ringRd X).payload (recvCell ℓ c j) 0 d = recvPay X ℓ c j := by
  dsimp only [ringRd]; rw [role_recv]

theorem expect_bar : (ringRd X).expect (barCell c) 0 = 2 := by
  unfold Schedule.expect Schedule.amountOf; rw [duties_bar]; simp [amount_bar]
theorem expect_send : (ringRd X).expect (sendCell ℓ c j) 0 = N := by
  unfold Schedule.expect Schedule.amountOf; rw [duties_send, Finset.sum_singleton, amount_send]
theorem expect_recv : (ringRd X).expect (recvCell ℓ c j) 0 = N := by
  unfold Schedule.expect Schedule.amountOf; rw [duties_recv, Finset.sum_singleton, amount_recv]

/-- Both lanes' payments, one after the other. -/
theorem bigSep_lanes (Φ : Bool → sProp 𝕄) : bigSep Finset.univ Φ = iprop(Φ true ∗ Φ false) := by
  rw [show (Finset.univ : Finset Bool) = {true, false} by decide, BI.bigSep_insert (by decide), BI.bigSep_singleton]; rfl

theorem rest_bar : bigSep ((ringRd X).duties (barCell c) 0 \ ∅) (fun d => (ringRd X).payload (barCell c) 0 d)
    = (iprop(barPay c true ∗ barPay c false) : sProp 𝕄) := by
  rw [Finset.sdiff_empty, duties_bar, bigSep_lanes, payload_bar, payload_bar]
theorem rest_send : bigSep ((ringRd X).duties (sendCell ℓ c j) 0 \ ∅) (fun d => (ringRd X).payload (sendCell ℓ c j) 0 d)
    = (sendPay ℓ c j : sProp 𝕄) := by
  rw [Finset.sdiff_empty, duties_send, bigSep_singleton, payload_send]
theorem rest_recv : bigSep ((ringRd X).duties (recvCell ℓ c j) 0 \ ∅) (fun d => (ringRd X).payload (recvCell ℓ c j) 0 d)
    = recvPay X ℓ c j := by
  rw [Finset.sdiff_empty, duties_recv, bigSep_singleton, payload_recv]

end Facts

/-! ## What is owed, and the order of the cells -/

/-- The place of copy `j` of a lane in the order a device makes its copies. -/
def ord (ℓ : Bool) (j : Fin 31) : ℕ := 4 * dj j + (if ℓ then 0 else 2) + ij ℓ j

/-- The copies not yet made when `s` places have passed. -/
def left (s : ℕ) : Finset (Bool × Fin 31) := Finset.univ.filter fun p => s ≤ ord p.1 p.2

/-- What device `c` still owes when `s` places have passed. -/
def owing (c : Dev nD) (s : ℕ) : CellTallies nD τ sig Unit :=
  ∑ p ∈ left s, tallyAt (recvCell p.1 (fwd p.1 c) p.2) () N

theorem ord_inj : ∀ p p' : Bool × Fin 31, ord p.1 p.2 = ord p'.1 p'.2 → p = p' := by
  rintro ⟨ℓ, j⟩ ⟨ℓ', j'⟩ h
  simp only [ord] at h
  have := ij_lt ℓ j; have := ij_lt ℓ' j'
  have e : ℓ = ℓ' := by
    cases ℓ <;> cases ℓ' <;> simp only [Bool.false_eq_true, if_true, if_false] at h <;> first | rfl | (exfalso; omega)
  subst e
  rw [copy_inj ℓ j j' (by omega)]

/-- A copy made, one is owed less. -/
theorem owing_step (c : Dev nD) (ℓ : Bool) (j : Fin 31) (s : ℕ) (h : ord ℓ j = s) :
    owing c s = owing c (s + 1) + tallyAt (recvCell ℓ (fwd ℓ c) j) () N := by
  have e : left s = insert (ℓ, j) (left (s + 1)) := by
    ext p
    simp only [left, Finset.mem_filter, Finset.mem_univ, true_and, Finset.mem_insert]
    constructor
    · intro hp
      by_cases hq : ord p.1 p.2 = s
      · exact .inl (ord_inj p (ℓ, j) (hq.trans h.symm))
      · exact .inr (by omega)
    · rintro (rfl | hp)
      · exact le_of_eq h.symm
      · omega
  unfold owing
  rw [e, Finset.sum_insert (by simp only [left, Finset.mem_filter, Finset.mem_univ, true_and]; omega), add_comm]

/-- The two places that no copy takes. -/
theorem owing_skip (c : Dev nD) : owing c 61 = owing c 63 := by
  unfold owing; rw [show left 61 = left 63 from by decide]

/-- After the last place nothing is owed. -/
theorem owing_end (c : Dev nD) : owing c 64 = 0 := by
  unfold owing; rw [show left 64 = ∅ from by decide, Finset.sum_empty]

/-- What a device owes at launch: its copies, and one signal to each neighbour. -/
def O₀ (c : Dev nD) : CellTallies nD τ sig Unit :=
  owing c 0 + tallyAt (barCell (fwd true c)) () 1 + tallyAt (barCell (fwd false c)) () 1

/-- Waiting is indexed at every core's cells. -/
def L (g : GSem nD τ sig) : Finset Unit := if g.1.2 = .tc then {()} else ∅

/-- The order in which the cells are waited for: the sends first, then the barrier, then the landings by
slot. -/
def lv (g : GSem nD τ sig) (_ : Unit) : ℕ :=
  match role g.2 with
  | some none => 1
  | some (some (false, _, j)) => dj j + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (ℓ : Bool) (c : Dev nD) (j : Fin 31) : lv (recvCell ℓ c j) () = dj j + 2 := by
  unfold lv; rw [role_recv]

/-- What is owed after `s` places is owed at landings of copies with later places. -/
theorem owing_pos {c : Dev nD} {s : ℕ} {g : GSem nD τ sig} {u : Unit} (h : 0 < owing c s g u) :
    ∃ p : Bool × Fin 31, s ≤ ord p.1 p.2 ∧ g = recvCell p.1 (fwd p.1 c) p.2 := by
  unfold owing at h
  rw [Finset.sum_apply, Finsupp.finset_sum_apply] at h
  obtain ⟨p, hp, hp'⟩ := Finset.exists_ne_zero_of_sum_ne_zero (Nat.pos_iff_ne_zero.mp h)
  refine ⟨p, (Finset.mem_filter.mp hp).2, ?_⟩
  rw [tallyAt_apply] at hp'
  by_contra hg
  exact hp' (if_neg fun h => hg h.1)

/-- A cell may be waited for while what is owed is owed at cells further on. -/
theorem mayWait (c : Dev nD) (sm : SemLoc sig) (s b : ℕ) (hb : lv ((c : Thread nD τ), sm) () ≤ b)
    (hs : ∀ p : Bool × Fin 31, s ≤ ord p.1 p.2 → b < dj p.2 + 2) :
    (levAts L lv : sProp 𝕄) ⊢ MayWait (c : Thread nD τ) sm () (owing c s) :=
  MayOwe.of_cut (L := L) (lev := lv) b
    (fun p hp => by rw [Finset.mem_singleton.mp hp, L_tc]; exact Finset.mem_singleton_self _)
    (fun g u hg => by obtain ⟨p, _, rfl⟩ := owing_pos hg; rw [L_tc]; exact Finset.mem_singleton_self _)
    (fun p hp => by rw [Finset.mem_singleton.mp hp]; exact hb)
    (fun g u hg => by obtain ⟨p, hp, rfl⟩ := owing_pos hg; rw [lv_recv]; exact hs p hp)

/-- The barrier may be waited for while only copies are owed. -/
theorem mayWait_bar (c : Dev nD) (s : ℕ) :
    (levAts L lv : sProp 𝕄) ⊢ MayWait (c : Thread nD τ) (.reg barS) () (owing c s) :=
  mayWait c _ s 1 (le_of_eq (lv_bar c)) fun _ _ => by omega

/-- The landing in slot `d` may be waited for while the copies owed are made from slot `d` on. -/
theorem mayWait_recv (c : Dev nD) (ℓ : Bool) (j : Fin 31) (s : ℕ) (h : 4 * (dj j + 1) ≤ s) :
    (levAts L lv : sProp 𝕄) ⊢ MayWait (c : Thread nD τ) (.dma (recvS ℓ j)) () (owing c s) :=
  mayWait c _ s (dj j + 2) (le_of_eq (lv_recv ℓ c j)) fun p hp => by
    have := ij_lt p.1 p.2
    unfold ord at hp
    split at hp <;> omega

end Cert.KernelIdeal.Ring

end
-- ==== Proof.Steps.lean ====
module

public import proofs.«01_k».proof.Proof.Protocol

@[expose] public section

noncomputable section

/-! # One copy, one wait

What a device holds for each copy it makes and each it waits for, and what the body's single steps do with
it: make a copy, wait for one to land, wait for one to have left. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-- No loop of the program needs a variant. -/
abbrev 𝒱₀ : Variants := Variants.none

/-- The weakest precondition of a piece of the body at device `c`. -/
abbrev WP (c : Dev nD) {α : Type} (p : BodyProg F α) (Q : α → sProp 𝕄) : sProp 𝕄 :=
  wp frame (wpE (defs₀ (F := F)) 𝒱₀ (c : Thread nD τ) none) Set.univ p Q

/-- A piece of the body whose effect is known, and then the rest. -/
theorem run_then {c : Dev nD} {p : BodyProg F PUnit} {k : PUnit → BodyProg F PUnit} {P Q : sProp 𝕄} {K : PUnit → sProp 𝕄}
    (h : P ⊢ WP c p fun _ => Q) : P ⊢ iprop((Q -∗ WP c (k ⟨⟩) K) -∗ WP c (p >>= k) K) := by
  iintro HP Hk
  unfold WP
  rw [wp_bind]
  iapply (wp_wand_r frame (wpE (defs₀ (F := F)) 𝒱₀ (c : Thread nD τ) none) (E := Set.univ) (Q := fun _ => Q))
  isplitl [HP]
  · iapply h; iexact HP
  · iintro %a HQ
    iapply Hk; iexact HQ

/-- The last piece of the body, whose effect is known. -/
theorem run_last {c : Dev nD} {p : BodyProg F PUnit} {P Q : sProp 𝕄} {K : PUnit → sProp 𝕄}
    (h : P ⊢ WP c p fun _ => Q) : P ⊢ iprop((Q -∗ K ⟨⟩) -∗ WP c p K) := by
  iintro HP Hk
  iapply (wp_wand_r frame (wpE (defs₀ (F := F)) 𝒱₀ (c : Thread nD τ) none) (E := Set.univ) (Q := fun _ => Q))
  isplitl [HP]
  · iapply h; iexact HP
  · iintro %a HQ
    iapply Hk; iexact HQ

/-! ## Every cell's record -/

/-- The barrier cells. -/
def barCells : Finset (GSem nD τ sig) :=
  Finset.univ.map ⟨fun c : Dev nD => barCell c, fun a b h => by injection h with h _; injection h⟩

/-- The cells the copies count. -/
def copyCells : Finset (GSem nD τ sig) :=
  Finset.univ.map ⟨fun p : Dev nD × Bool × Bool × Fin 31 => (((p.1 : Thread nD τ), cellSem (some p.2)) : GSem nD τ sig),
    fun a b h => by
      injection h with h h'
      injection h with h _
      have := cellSem_inj h'
      injection this with this
      exact Prod.ext h this⟩

theorem mem_bar (c : Dev nD) : barCell c ∈ barCells := Finset.mem_map.mpr ⟨c, Finset.mem_univ _, rfl⟩
theorem mem_send (ℓ : Bool) (c : Dev nD) (j : Fin 31) : sendCell ℓ c j ∈ copyCells :=
  Finset.mem_map.mpr ⟨(c, true, ℓ, j), Finset.mem_univ _, rfl⟩
theorem mem_recv (ℓ : Bool) (c : Dev nD) (j : Fin 31) : recvCell ℓ c j ∈ copyCells :=
  Finset.mem_map.mpr ⟨(c, false, ℓ, j), Finset.mem_univ _, rfl⟩

variable (X : Dev nD → S64x2048.Idx → Elt F .f32) (κ : GSem nD τ sig → ℕ)

/-- What every step may use: each cell's invariant, that the barrier cells are open, and the order of the
cells. -/
def ctx : sProp 𝕄 :=
  iprop((bigSep (barCells ∪ copyCells) fun g => cellInv ER (ringRd X) (κ g) g)
    ∗ (bigSep barCells fun g => reached ER g 0) ∗ levAts L lv)

instance ctx_persistent : BI.Persistent (ctx X κ) := by unfold ctx; infer_instance

theorem ctx_inv {g : GSem nD τ sig} (h : g ∈ barCells ∪ copyCells) : ctx X κ ⊢ cellInv ER (ringRd X) (κ g) g := by
  unfold ctx
  iintro ⟨Hi, -, -⟩
  iapply (show (bigSep (barCells ∪ copyCells) fun g => (cellInv ER (ringRd X) (κ g) g : sProp 𝕄)) ⊢ cellInv ER (ringRd X) (κ g) g from bigSep_elim h); iexact Hi

theorem ctx_bar (c : Dev nD) : ctx X κ ⊢ cellInv ER (ringRd X) (κ (barCell c)) (barCell c) :=
  ctx_inv X κ (Finset.mem_union_left _ (mem_bar c))
theorem ctx_send (ℓ : Bool) (c : Dev nD) (j : Fin 31) : ctx X κ ⊢ cellInv ER (ringRd X) (κ (sendCell ℓ c j)) (sendCell ℓ c j) :=
  ctx_inv X κ (Finset.mem_union_right _ (mem_send ℓ c j))
theorem ctx_recv (ℓ : Bool) (c : Dev nD) (j : Fin 31) : ctx X κ ⊢ cellInv ER (ringRd X) (κ (recvCell ℓ c j)) (recvCell ℓ c j) :=
  ctx_inv X κ (Finset.mem_union_right _ (mem_recv ℓ c j))
theorem ctx_reached (c : Dev nD) : ctx X κ ⊢ (reached ER (barCell c) 0 : sProp 𝕄) := by
  unfold ctx
  iintro ⟨-, Hr, -⟩
  iapply (show (bigSep barCells fun g => (reached ER g 0 : sProp 𝕄)) ⊢ reached ER (barCell c) 0 from bigSep_elim (mem_bar c)); iexact Hr
theorem ctx_mayWait_bar (c : Dev nD) (s : ℕ) :
    ctx X κ ⊢ (MayWait (c : Thread nD τ) (.reg barS) () (owing c s) : sProp 𝕄) := by
  unfold ctx
  iintro ⟨-, -, Hl⟩; iapply (mayWait_bar c s); iexact Hl
theorem ctx_mayWait_recv (ℓ : Bool) (c : Dev nD) (j : Fin 31) (s : ℕ) (h : 4 * (dj j + 1) ≤ s) :
    ctx X κ ⊢ (MayWait (c : Thread nD τ) (.dma (recvS ℓ j)) () (owing c s) : sProp 𝕄) := by
  unfold ctx
  iintro ⟨-, -, Hl⟩; iapply (mayWait_recv c ℓ j s h); iexact Hl

/-! ## What is held for a copy -/

section Held

variable (ℓ : Bool) (c : Dev nD) (j : Fin 31)

/-- The account of what device `c` owes when `s` places have passed. -/
def acct (s : ℕ) : sProp 𝕄 := iprop(∃ W, owes (c : Thread nD τ) (owing c s) W)

/-- To make copy `j`: both duties, and the neighbour's half slot. -/
def toSend : sProp 𝕄 :=
  iprop(dutyTok ER (sendCell ℓ c j) 0 true ∗ reached ER (sendCell ℓ c j) 0
    ∗ dutyTok ER (recvCell ℓ (fwd ℓ c) j) 0 true ∗ reached ER (recvCell ℓ (fwd ℓ c) j) 0
    ∗ anyAt (landM ℓ j) (fwd ℓ c) fullShare)

/-- To wait for copy `j` to land. -/
def toRecv : sProp 𝕄 := iprop(atPos ER (recvCell ℓ c j) 0 ∅ 0 ∗ cred (tallyAt (recvCell ℓ c j) () N))

/-- Copy `j` is under way. -/
def sent : sProp 𝕄 := iprop(cred (tallyAt (sendCell ℓ c j) () N))

/-- To wait for copy `j` to have left. -/
def toDone : sProp 𝕄 := iprop(atPos ER (sendCell ℓ c j) 0 ∅ 0)

/-- Copy `j` has landed, and its cell is done with. -/
def recvDone : sProp 𝕄 := iprop(atPos ER (recvCell ℓ c j) 1 ∅ 0)

/-- Copy `j` has left, its source is back, and its cell is done with. -/
def sendDone : sProp 𝕄 := iprop(atPos ER (sendCell ℓ c j) 1 ∅ 0 ∗ sendPay ℓ c j)

end Held

/-! ## The steps -/

/-- What copy `j` is made from reads as the rows that belong at its landing. -/
theorem landed_fwd (ℓ : Bool) (c : Dev nD) (j : Fin 31) :
    landed X ℓ (fwd ℓ c) j = halfOf (ij ℓ j) (ij_lt ℓ j) (X (org ℓ (dj j) c)) := by
  unfold landed; rw [org_fwd]

/-- A half slot written whole with the rows that belong there holds what lands. -/
theorem heldAt_landed (c : Dev nD) (ℓ : Bool) (j : Fin 31) {src : Memref sig .tc .vmem S32x2048 .f32}
    (fs : Buf (Elt F) (src.view.loc (c : Thread nD τ)))
    (hfs : src.view.read (Elt F) fs = halfOf (ij ℓ j) (ij_lt ℓ j) (X (org ℓ (dj j) c)))
    (fd : Buf (Elt F) ((landM ℓ j).view.loc ((fwd ℓ c : Dev nD) : Thread nD τ))) :
    pts (landM ℓ j) (fwd ℓ c) fullShare
      ((landM ℓ j).view.write (Elt F) fd (src.view.read (Elt F) fs) Finset.univ) ⊢ recvPay X ℓ (fwd ℓ c) j := by
  unfold recvPay heldAt
  generalize landM ℓ j = b at fd ⊢
  iintro H
  iexists (b.view.write (Elt F) fd (src.view.read (Elt F) fs) Finset.univ)
  isplitr
  · ipureintro
    exact (View.read_write_univ _ _).trans (hfs.trans (landed_fwd X ℓ c j).symm)
  · iexact H

/-- Make copy `j`, at its place in the order. -/
theorem send_step (c : Dev nD) (ℓ : Bool) (j : Fin 31) (src dst : Memref sig .tc .vmem S32x2048 .f32)
    (hs : src = originM ℓ j) (hd : dst = landM ℓ j) (sS sR : DmaSem sig) (hS : sS = sendS ℓ j) (hR : sR = recvS ℓ j)
    (hw : src.view.WordExact) (hw' : dst.view.WordExact)
    (ht : DmaTarget.Typed .vmem (SemLoc.dma sR) (.remote (Dev.tc (fwd ℓ c)) dst (.dma sS))) (s : ℕ) (ho : ord ℓ j = s) :
    iprop(ctx X κ ∗ acct c s ∗ toSend ℓ c j ∗ heldAt src c (qOf ℓ j) (halfOf (ij ℓ j) (ij_lt ℓ j) (X (org ℓ (dj j) c))))
      ⊢ WP c (Prog.lift (.enqueueDma src (.remote (Dev.tc (fwd ℓ c)) dst (.dma sS)) (.dma sR) hw hw' ht))
          fun _ => iprop(acct c (s + 1) ∗ sent ℓ c j) := by
  subst hd hS hR
  unfold acct toSend heldAt anyAt
  iintro ⟨#Hctx, ⟨%W, HO⟩, ⟨HtS, HrS, HtR, HrR, ⟨%fd, Hd⟩⟩, ⟨%fs, %hfs, Hs⟩⟩
  ihave #HiS := (ctx_send X κ ℓ c j) $$ Hctx
  ihave #HiR := (ctx_recv X κ ℓ (fwd ℓ c) j) $$ Hctx
  iapply (Rounds.wp_send_pointsTo 𝒱₀ ER (ringRd X) (c : Thread nD τ) none (c' := ((fwd ℓ c : Dev nD) : Thread nD τ)) (src := src) (dst := landM ℓ j)
      (sS := .dma (sendS ℓ j)) (sem := .dma (recvS ℓ j)) (q := qOf ℓ j) (fs := fs) (fd := fd)
      (κ₁ := κ (sendCell ℓ c j)) (κ₂ := κ (recvCell ℓ (fwd ℓ c) j)) (r₁ := 0) (r₂ := 0) (d₁ := true) (d₂ := true)
      (by rw [duties_send]; exact Finset.mem_singleton_self _) (by rw [duties_recv]; exact Finset.mem_singleton_self _)
      () () N rfl (amount_send X c ℓ j true) (amount_recv X (fwd ℓ c) ℓ j true) (owing c (s + 1)) (owing_step c ℓ j s ho) (W := W)
      (by rw [payload_send]; unfold sendPay anyAt; rw [← hs]; iintro H; iexists fs; iexact H)
      (by
        rw [payload_recv]
        exact heldAt_landed X c ℓ j fs hfs fd)) $$ [HO HtS HrS HtR HrR Hd Hs]
  · isplitr; · iexact HiS
    isplitr; · iexact HiR
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  rw [wp_ret]
  imodintro
  isplitl [HO]
  · iexists W; iexact HO
  · unfold sent; iexact Hc

/-- Wait for copy `j` to land. -/
theorem recv_step (c : Dev nD) (ℓ : Bool) (j : Fin 31) (src dst : Memref sig .tc .vmem S32x2048 .f32)
    (sR : DmaSem sig) (hR : sR = recvS ℓ j) (hw : src.view.WordExact) (hw' : dst.view.WordExact)
    (s : ℕ) (hs : 4 * (dj j + 1) ≤ s) :
    iprop(ctx X κ ∗ acct c s ∗ toRecv ℓ c j)
      ⊢ WP c (Prog.lift (.waitDma2 sR src dst hw hw'))
          fun _ => iprop(acct c s ∗ recvDone ℓ c j ∗ recvPay X ℓ c j) := by
  subst hR
  unfold acct toRecv
  iintro ⟨#Hctx, ⟨%W, HO⟩, ⟨Hat, Hcr⟩⟩
  ihave #Hi := (ctx_recv X κ ℓ c j) $$ Hctx
  iapply (Rounds.wp_wait_rest_token 𝒱₀ ER (ringRd X) (c : Thread nD τ) none (κ := κ (recvCell ℓ c j))
      (wpE_waitDma2_eq (src := src) (dst := dst) 𝒱₀ (c : Thread nD τ) none Set.univ) (Set.mem_univ _) () (O := owing c s) (W := W) (R := 0) (m := 0) (T := ∅)
      ((Nat.zero_add _).trans (expect_recv X c ℓ j).symm)) $$ [HO Hat Hcr]
  · isplitr; · iexact Hi
    isplitl [Hcr]; · iexact Hcr
    isplitl [HO]; · iexact HO
    isplitr; · iapply (ctx_mayWait_recv X κ ℓ c j s hs); iexact Hctx
    iexact Hat
  iintro ⟨HO, Hat, -, Hpay⟩
  ihave Hp := (Entails.of_eq (rest_recv X c ℓ j)) $$ Hpay
  rw [wp_ret]
  imodintro
  isplitl [HO]
  · iexists _; iexact HO
  isplitl [Hat]
  · unfold recvDone; iexact Hat
  iexact Hp

/-- Wait for copy `j` to have left, nothing being owed. -/
theorem done_step (c : Dev nD) (ℓ : Bool) (j : Fin 31) (src dst : Memref sig .tc .vmem S32x2048 .f32)
    (sS : DmaSem sig) (hS : sS = sendS ℓ j) (hw : src.view.WordExact) (hw' : dst.view.WordExact) :
    iprop(ctx X κ ∗ acct c 64 ∗ sent ℓ c j ∗ toDone ℓ c j)
      ⊢ WP c (Prog.lift (.waitDma2 sS src dst hw hw')) fun _ => iprop(acct c 64 ∗ sendDone ℓ c j) := by
  subst hS
  unfold acct sent toDone
  iintro ⟨#Hctx, ⟨%W, HO⟩, Hcr, Hat⟩
  ihave #Hi := (ctx_send X κ ℓ c j) $$ Hctx
  rw [owing_end]
  iapply (Rounds.wp_wait_rest_token 𝒱₀ ER (ringRd X) (c : Thread nD τ) none (κ := κ (sendCell ℓ c j))
      (wpE_waitDma2_eq (src := src) (dst := dst) 𝒱₀ (c : Thread nD τ) none Set.univ) (Set.mem_univ _) () (O := 0) (W := W) (R := 0) (m := 0) (T := ∅)
      ((Nat.zero_add _).trans (expect_send X c ℓ j).symm)) $$ [HO Hat Hcr]
  · isplitr; · iexact Hi
    isplitl [Hcr]; · iexact Hcr
    isplitl [HO]; · iexact HO
    isplitr; · rw [MayWait_zero]; iempintro
    iexact Hat
  iintro ⟨HO, Hat, -, Hpay⟩
  ihave Hp := (Entails.of_eq (rest_send X c ℓ j)) $$ Hpay
  rw [wp_ret]
  imodintro
  isplitl [HO]
  · iexists _; iexact HO
  unfold sendDone
  isplitl [Hat]
  · iexact Hat
  iexact Hp

/-! ## The meeting -/

/-- Tell both neighbours that this device's slots are free, and learn the same of theirs. -/
theorem meet_step (c : Dev nD) :
    iprop(ctx X κ ∗ (∃ W, owes (c : Thread nD τ) (O₀ c) W)
        ∗ dutyTok ER (barCell (fwd false c)) 0 true ∗ dutyTok ER (barCell (fwd true c)) 0 false
        ∗ barPay (fwd false c) true ∗ barPay (fwd true c) false
        ∗ atPos ER (barCell c) 0 ∅ 0 ∗ cred (tallyAt (barCell c) () 2))
      ⊢ WP c (meet (fwd false c) (fwd true c)) fun _ => iprop(acct c 0 ∗ atPos ER (barCell c) 1 ∅ 0 ∗ barPay c true ∗ barPay c false) := by
  iintro ⟨#Hctx, ⟨%W, HO⟩, Ht1, Ht2, Hp1, Hp2, Hat, Hcr⟩
  ihave #Hi1 := (ctx_bar X κ (fwd false c)) $$ Hctx
  ihave #Hi2 := (ctx_bar X κ (fwd true c)) $$ Hctx
  ihave #Hi := (ctx_bar X κ c) $$ Hctx
  ihave #Hr1 := (ctx_reached X κ (fwd false c)) $$ Hctx
  ihave #Hr2 := (ctx_reached X κ (fwd true c)) $$ Hctx
  unfold meet
  simp only [semSignalWord, semWaitWord, Prog.lift, Prog.bind_op, Prog.bind_ret, Prog.pure_eq_ret]
  rw [show ((1#32 : BitVec 32).toInt) = (((1#32 : BitVec 32).toNat : ℕ) : Int) from rfl]
  iapply (Rounds.wp_signal 𝒱₀ ER (ringRd X) (c : Thread nD τ) none (dst := ((fwd false c : Dev nD) : Thread nD τ)) (sem := barS) (r := 0) (d := true) (κ := κ (barCell (fwd false c)))
      (by rw [duties_bar]; exact Finset.mem_univ _) (amount_bar X (fwd false c) true) ()
      (O₀ := O₀ c) (owing c 0 + tallyAt (barCell (fwd true c)) () 1) rfl (W := W)) $$ [HO Ht1 Hp1]
  · isplitr; · iexact Hi1
    isplitl [HO]; · iexact HO
    isplitl [Ht1]; · iexact Ht1
    isplitl [Hp1]; · rw [payload_bar]; iexact Hp1
    iexact Hr1
  iintro HO
  iapply (Rounds.wp_signal 𝒱₀ ER (ringRd X) (c : Thread nD τ) none (dst := ((fwd true c : Dev nD) : Thread nD τ)) (sem := barS) (r := 0) (d := false) (κ := κ (barCell (fwd true c)))
      (by rw [duties_bar]; exact Finset.mem_univ _) (amount_bar X (fwd true c) false) ()
      (O₀ := owing c 0 + tallyAt (barCell (fwd true c)) () 1) (owing c 0) rfl (W := W)) $$ [HO Ht2 Hp2]
  · isplitr; · iexact Hi2
    isplitl [HO]; · iexact HO
    isplitl [Ht2]; · iexact Ht2
    isplitl [Hp2]; · rw [payload_bar]; iexact Hp2
    iexact Hr2
  iintro HO
  iapply (Rounds.wp_wait_rest_token 𝒱₀ ER (ringRd X) (c : Thread nD τ) none (κ := κ (barCell c))
      (wpE_semWait_eq 𝒱₀ (c : Thread nD τ) none Set.univ) (Set.mem_univ _) () (O := owing c 0) (W := W) (R := 0) (m := 0) (T := ∅)
      ((Nat.zero_add _).trans (expect_bar X c).symm)) $$ [HO Hat Hcr]
  · isplitr; · iexact Hi
    isplitl [Hcr]; · iexact Hcr
    isplitl [HO]; · iexact HO
    isplitr; · iapply (ctx_mayWait_bar X κ c 0); iexact Hctx
    iexact Hat
  iintro ⟨HO, Hat, -, Hpay⟩
  ihave Hp := (Entails.of_eq (rest_bar X c)) $$ Hpay
  rw [wp_ret]
  imodintro
  isplitl [HO]
  · unfold acct; iexists _; iexact HO
  isplitl [Hat]; · iexact Hat
  iexact Hp

end Cert.KernelIdeal.Ring

end
-- ==== Proof.Hops.lean ====
module

public import proofs.«01_k».proof.Proof.Steps

@[expose] public section

noncomputable section

/-! # The hops of the ring

The single steps as the body makes them, slot by slot: what has landed in a slot is kept at one half of its
share and sent on with the other. The repeated hops are one loop, and so are the waits for the copies to
have left. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-! ## Loops -/

/-- A family over the first `m + 1` numbers is its head and its tail. -/
theorem bigSep_head {m : ℕ} (Φ : Fin (m + 1) → sProp 𝕄) :
    bigSep Finset.univ Φ = iprop(Φ 0 ∗ bigSep Finset.univ fun k : Fin m => Φ k.succ) := by
  rw [Fin.univ_succ, Finset.cons_eq_insert, BI.bigSep_insert (by simp), BI.bigSep_map]; rfl

/-- A loop whose turns each use their own resources and pass on a running one. -/
theorem run_loop {c : Dev nD} (C : sProp 𝕄) [BI.Persistent C] : ∀ (n : ℕ) (f : Fin n → BodyProg F PUnit) (P Q : Fin n → sProp 𝕄) (I : ℕ → sProp 𝕄)
    (_ : ∀ i, iprop(C ∗ I i.val ∗ P i) ⊢ WP c (f i) fun _ => iprop(I (i.val + 1) ∗ Q i)),
    iprop(C ∗ I 0 ∗ bigSep Finset.univ P) ⊢ WP c (loop n f) fun _ => iprop(I n ∗ bigSep Finset.univ Q)
  | 0, f, P, Q, I, h => by
    rw [show (Finset.univ : Finset (Fin 0)) = ∅ from rfl, bigSep_empty, bigSep_empty]
    unfold loop WP
    iintro ⟨-, HI, He⟩
    rw [Prog.pure_eq_ret, wp_ret]
    imodintro
    isplitl [HI]; · iexact HI
    iexact He
  | n + 1, f, P, Q, I, h => by
    have h0 : iprop(C ∗ I 0 ∗ P 0) ⊢ WP c (f 0) fun _ => iprop(I (0 + 1) ∗ Q 0) := h 0
    have hs := run_loop C n (fun i => f i.succ) (fun i => P i.succ) (fun i => Q i.succ) (fun k => I (k + 1)) fun i => h i.succ
    rw [bigSep_head, bigSep_head]
    unfold loop
    iintro ⟨#HC, HI, HP, HPs⟩
    iapply (run_then h0) $$ [HI HP]
    · isplitr; · iexact HC
      isplitl [HI]; · iexact HI
      iexact HP
    iintro ⟨HI, HQ⟩
    iapply (run_last hs) $$ [HI HPs]
    · isplitr; · iexact HC
      isplitl [HI]; · iexact HI
      iexact HPs
    iintro ⟨HI, HQs⟩
    isplitl [HI]; · iexact HI
    isplitl [HQ]; · iexact HQ
    iexact HQs

attribute [local irreducible] loop

/-! ## Shares of a half slot -/

section Shares

variable (b : Memref sig .tc .vmem S32x2048 .f32) (c : Dev nD) (q : PosShare TreeShare)

/-- A window is held at both halves of a share. -/
theorem heldAt_split (v : S32x2048.Idx → Elt F .f32) : heldAt b c q v ⊢ iprop(heldAt b c q.left v ∗ heldAt b c q.right v) := by
  unfold heldAt
  iintro ⟨%f, %hf, H⟩
  ihave H' := ((pointsTo_share (PosShare.mem_left_op_right q)).1) $$ H
  icases H' with ⟨H1, H2⟩
  isplitl [H1]
  · iexists f
    isplitr; · ipureintro; exact hf
    iexact H1
  · iexists f
    isplitr; · ipureintro; exact hf
    iexact H2

theorem heldAt_any (v : S32x2048.Idx → Elt F .f32) : heldAt b c q v ⊢ (anyAt b c q : sProp 𝕄) := by
  unfold heldAt anyAt
  iintro ⟨%f, -, H⟩
  iexists f; iexact H

/-- Both halves of a share make the share again. -/
theorem anyAt_join : iprop(anyAt b c q.left ∗ anyAt b c q.right) ⊢ (anyAt b c q : sProp 𝕄) := by
  unfold anyAt
  iintro ⟨⟨%f, H1⟩, %g, H2⟩
  icombine H1 H2 as H
  ihave %hag := pointsTo_agree $$ H
  icases H with ⟨H1, H2⟩
  iexists f
  iapply (pointsTo_share (PosShare.mem_left_op_right q)).2
  isplitl [H1]; · iexact H1
  unfold pts
  rw [pointsTo_congr (f := f) (g := g) fun i hi => (hag i (Finset.mem_inter.mpr ⟨hi, hi⟩)).1]
  iexact H2

end Shares

/-! ## Numbers of the copies -/

/-- Copy `2 n + o + i`. -/
def jn (o : ℕ) (ho : o ≤ 2) (n : Fin 14) (i : Fin 2) : Fin 31 := ⟨2 * n.val + o + i.val, by omega⟩

/-- The copy that lands in half `i` of slot `n + 1`. -/
abbrev jr (n : Fin 14) (i : Fin 2) : Fin 31 := jn 0 (by omega) n i
/-- The copy made from half `i` of slot `n + 1`. -/
abbrev js (n : Fin 14) (i : Fin 2) : Fin 31 := jn 2 (by omega) n i

theorem dj_jr (n : Fin 14) (i : Fin 2) : dj (jr n i) = n.val := by unfold dj jr jn; simp only; omega
theorem dj_js (n : Fin 14) (i : Fin 2) : dj (js n i) = n.val + 1 := by unfold dj js jn; simp only; omega
theorem ij_jr (ℓ : Bool) (n : Fin 14) (i : Fin 2) : ij ℓ (jr n i) = i.val := by
  unfold ij jr jn; simp only; rw [if_neg (by omega)]; omega
theorem ij_js (ℓ : Bool) (n : Fin 14) (i : Fin 2) : ij ℓ (js n i) = i.val := by
  unfold ij js jn; simp only; rw [if_neg (by omega)]; omega

/-- The copies `2 n + o + i`, one for each turn and half. -/
def turns (o : ℕ) (ho : o ≤ 2) : Fin 14 × Fin 2 ↪ Fin 31 :=
  ⟨fun p => jn o ho p.1 p.2, fun a b h => by
    have h : 2 * a.1.val + o + a.2.val = 2 * b.1.val + o + b.2.val := congrArg Fin.val h
    exact Prod.ext (Fin.ext (by omega)) (Fin.ext (by omega))⟩

theorem bigSep_turns (o : ℕ) (ho : o ≤ 2) (Φ : Fin 31 → sProp 𝕄) :
    bigSep (Finset.univ.map (turns o ho)) Φ = bigSep Finset.univ fun n : Fin 14 => iprop(Φ (jn o ho n 0) ∗ Φ (jn o ho n 1)) := by
  rw [bigSep_map, bigSep_univ_prod]
  exact bigSep_congr fun n _ => bigSep_fin_two _

/-- All copies as their landings are waited for: those of the turns, then the last three. -/
theorem bigSep_landings (Φ : Fin 31 → sProp 𝕄) :
    bigSep Finset.univ Φ = iprop((bigSep Finset.univ fun n : Fin 14 => iprop(Φ (jr n 0) ∗ Φ (jr n 1))) ∗ Φ 28 ∗ Φ 29 ∗ Φ 30) := by
  rw [show (Finset.univ : Finset (Fin 31)) = Finset.univ.map (turns 0 (by omega)) ∪ {28, 29, 30} from by decide,
    bigSep_union (by decide), bigSep_turns, bigSep_insert (by decide), bigSep_insert (by decide), bigSep_singleton]; rfl

/-- All copies as they are made: the first two, those of the turns, then the last. -/
theorem bigSep_sends (Φ : Fin 31 → sProp 𝕄) :
    bigSep Finset.univ Φ = iprop((bigSep Finset.univ fun n : Fin 14 => iprop(Φ (js n 0) ∗ Φ (js n 1))) ∗ Φ 0 ∗ Φ 1 ∗ Φ 30) := by
  rw [show (Finset.univ : Finset (Fin 31)) = Finset.univ.map (turns 2 (by omega)) ∪ {0, 1, 30} from by decide,
    bigSep_union (by decide), bigSep_turns, bigSep_insert (by decide), bigSep_insert (by decide), bigSep_singleton]; rfl

/-! ## The steps by slot -/

theorem sendSem_congr (s : DmaSems sig S32) {a b : ℕ} (h : a = b) (ha : a < 32) (hb : b < 32) : sendSem s a ha = sendSem s b hb := by
  subst h; rfl
theorem recvSem_congr (s : DmaSems sig S34) {a b : ℕ} (h : a = b) (ha : a < 34) (hb : b < 34) : recvSem s a ha = recvSem s b hb := by
  subst h; rfl
theorem slotM_congr (b : Memref sig .tc .vmem S17x64x2048 .f32) {d d' i i' : ℕ} (h : d = d') (h' : i = i')
    (hd : d < 17) (hd' : d' < 17) (hi : i < 2) (hi' : i' < 2) : slotM b d i hd hi = slotM b d' i' hd' hi' := by
  subst h h'; rfl

theorem halfOf_congr {i i' : ℕ} (h : i = i') (hi : i < 2) (hi' : i' < 2) (v : S64x2048.Idx → Elt F .f32) :
    halfOf i hi v = halfOf i' hi' v := by
  subst h; rfl

variable (X : Dev nD → S64x2048.Idx → Elt F .f32) (κ : GSem nD τ sig → ℕ) (c : Dev nD) (ℓ : Bool)

/-- What is kept of a landing. -/
def kept (j : Fin 31) : sProp 𝕄 := heldAt (landM ℓ j) c fullShare.right (landed X ℓ c j)
/-- What is there to send on of a landing. -/
def onward (j : Fin 31) : sProp 𝕄 := heldAt (landM ℓ j) c fullShare.left (landed X ℓ c j)

/-- Wait for half `i` of slot `d`. -/
theorem wait_slot (j : Fin 31) {d i : ℕ} (hd : d < 17) (hi : i < 2) (ed : d = dj j + 1) (ei : i = ij ℓ j) (s : ℕ) (hs : 4 * d ≤ s) :
    iprop(ctx X κ ∗ acct c s ∗ toRecv ℓ c j)
      ⊢ WP c (waitSlot (lane ℓ) d i hd hi) fun _ => iprop(acct c s ∗ recvDone ℓ c j ∗ onward X c ℓ j ∗ kept X c ℓ j) := by
  have hR : recvSem (lane ℓ).recv (2 * d + i) (by omega) = recvS ℓ j := recvSem_congr _ (by omega) _ _
  refine (recv_step X κ c ℓ j (slotM (lane ℓ).buf d i hd hi) (slotM (lane ℓ).buf d i hd hi) _ hR ((View.wordExact_bits rfl).reshape _ _)
    ((View.wordExact_bits rfl).reshape _ _) s (by omega)).trans (wp_mono _ _ _ fun _ => ?_)
  refine sep_mono_right (sep_mono_right ?_)
  exact heldAt_split _ _ _ _

/-- Send half `i` of slot `d` on. -/
theorem send_slot (j j' : Fin 31) {d i : ℕ} (hd : d < 16) (hi : i < 2) (ed : d = dj j + 1) (ei : i = ij ℓ j) (ed' : d = dj j') (ei' : i = ij ℓ j')
    (s : ℕ) (hs : ord ℓ j' = s) :
    iprop(ctx X κ ∗ acct c s ∗ toSend ℓ c j' ∗ onward X c ℓ j)
      ⊢ WP c (sendSlot (lane ℓ) (fwd ℓ c) d i hd hi) fun _ => iprop(acct c (s + 1) ∗ sent ℓ c j') := by
  have h0 : dj j' ≠ 0 := by omega
  have hsrc : slotM (lane ℓ).buf d i (by omega) hi = originM ℓ j' := by
    unfold originM; rw [if_neg h0]; exact slotM_congr _ ed' ei' _ _ _ _
  have hv : onward X c ℓ j = heldAt (slotM (lane ℓ).buf d i (by omega) hi) c (qOf ℓ j') (halfOf (ij ℓ j') (ij_lt ℓ j') (X (org ℓ (dj j') c))) := by
    unfold onward landed qOf
    rw [if_neg h0]
    subst ed ei
    have : dj j' = dj j + 1 := ed'.symm
    have e2 : ij ℓ j' = ij ℓ j := ei'.symm
    rw [this, halfOf_congr e2 (ij_lt ℓ j') (ij_lt ℓ j)]
  rw [hv]
  exact send_step X κ c ℓ j' _ _ hsrc (slotM_congr _ (by omega) ei' _ _ _ _) _ _
    (sendSem_congr _ (by omega) _ _) (recvSem_congr _ (by omega) _ _) _ _ _ s hs

/-- Send half `i` of the operand's rows. -/
theorem send_src (j : Fin 31) {i : ℕ} (hi : i < 2) (ed : dj j = 0) (ei : i = ij ℓ j) (s : ℕ) (hs : ord ℓ j = s) :
    iprop(ctx X κ ∗ acct c s ∗ toSend ℓ c j ∗ heldAt (srcM xM i hi) c (qOf ℓ j) (halfOf i hi (X c)))
      ⊢ WP c (sendSrc xM (lane ℓ) (fwd ℓ c) i hi) fun _ => iprop(acct c (s + 1) ∗ sent ℓ c j) := by
  subst ei
  have hsrc : srcM xM (ij ℓ j) hi = originM ℓ j := by unfold originM; rw [if_pos ed]
  have hv : X c = X (org ℓ (dj j) c) := by rw [ed, org_zero]
  rw [hv]
  exact send_step X κ c ℓ j _ _ hsrc (slotM_congr _ (by omega) rfl _ _ _ _) _ _
    (sendSem_congr _ (by omega) _ _) (recvSem_congr _ (by omega) _ _) _ _ _ s hs

/-! ## A hop -/

/-- What a lane brings to a hop. -/
def hopPre (n : Fin 14) : sProp 𝕄 :=
  iprop((toRecv ℓ c (jr n 0) ∗ toRecv ℓ c (jr n 1)) ∗ toSend ℓ c (js n 0) ∗ toSend ℓ c (js n 1))

/-- What a lane has after a hop. -/
def hopPost (n : Fin 14) : sProp 𝕄 :=
  iprop(((recvDone ℓ c (jr n 0) ∗ kept X c ℓ (jr n 0)) ∗ recvDone ℓ c (jr n 1) ∗ kept X c ℓ (jr n 1)) ∗ sent ℓ c (js n 0) ∗ sent ℓ c (js n 1))

/-- Both halves of a slot received and sent on. -/
theorem hop_lane (n : Fin 14) (s : ℕ) (hs : s = 4 * (n.val + 1) + (if ℓ then 0 else 2)) :
    iprop(ctx X κ ∗ acct c s ∗ hopPre c ℓ n)
      ⊢ WP c (hopLane (lane ℓ) (fwd ℓ c) (n.val + 1) (by omega)) fun _ => iprop(acct c (s + 2) ∗ hopPost X c ℓ n) := by
  unfold hopLane hopPre hopPost
  have o0 : ord ℓ (js n 0) = s := by unfold ord; rw [dj_js, ij_js, hs]; rfl
  have o1 : ord ℓ (js n 1) = s + 1 := by unfold ord; rw [dj_js, ij_js, hs]; rfl
  iintro ⟨#Hctx, HA, ⟨HR0, HR1⟩, HS0, HS1⟩
  iapply (run_then (wait_slot X κ c ℓ (jr n 0) _ _ (by rw [dj_jr]) (by rw [ij_jr]; rfl) s (by omega))) $$ [HA HR0]
  · isplitr; · iexact Hctx
    isplitl [HA]; · iexact HA
    iexact HR0
  iintro ⟨HA, HD0, HO, HK0⟩
  iapply (run_then (send_slot X κ c ℓ (jr n 0) (js n 0) _ _ (by rw [dj_jr]) (by rw [ij_jr]; rfl) (by rw [dj_js]) (by rw [ij_js]; rfl) s o0)) $$ [HA HS0 HO]
  · isplitr; · iexact Hctx
    isplitl [HA]; · iexact HA
    isplitl [HS0]; · iexact HS0
    iexact HO
  iintro ⟨HA, HT0⟩
  iapply (run_then (wait_slot X κ c ℓ (jr n 1) _ _ (by rw [dj_jr]) (by rw [ij_jr]; rfl) (s + 1) (by omega))) $$ [HA HR1]
  · isplitr; · iexact Hctx
    isplitl [HA]; · iexact HA
    iexact HR1
  iintro ⟨HA, HD1, HO, HK1⟩
  iapply (run_last (send_slot X κ c ℓ (jr n 1) (js n 1) _ _ (by rw [dj_jr]) (by rw [ij_jr]; rfl) (by rw [dj_js]) (by rw [ij_js]; rfl) (s + 1) o1)) $$ [HA HS1 HO]
  · isplitr; · iexact Hctx
    isplitl [HA]; · iexact HA
    isplitl [HS1]; · iexact HS1
    iexact HO
  iintro ⟨HA, HT1⟩
  isplitl [HA]; · iexact HA
  isplitl [HD0 HK0 HD1 HK1]
  · isplitl [HD0 HK0]
    · isplitl [HD0]; · iexact HD0
      iexact HK0
    · isplitl [HD1]; · iexact HD1
      iexact HK1
  isplitl [HT0]; · iexact HT0
  iexact HT1

/-- The hops of both lanes, slots 1 to 14. -/
theorem hops_run :
    iprop(ctx X κ ∗ acct c 4 ∗ bigSep Finset.univ fun n : Fin 14 => iprop(hopPre c true n ∗ hopPre c false n))
      ⊢ WP c (loop 14 fun n => do
          hopLane (lane true) (fwd true c) (n.val + 1) (by omega)
          hopLane (lane false) (fwd false c) (n.val + 1) (by omega))
        fun _ => iprop(acct c 60 ∗ bigSep Finset.univ fun n : Fin 14 => iprop(hopPost X c true n ∗ hopPost X c false n)) := by
  refine run_loop (ctx X κ) 14 (fun n => _) (fun n => _) (fun n => iprop(hopPost X c true n ∗ hopPost X c false n)) (fun k => acct c (4 * (k + 1))) fun n => ?_
  iintro ⟨#Hctx, HA, HT, HF⟩
  iapply (run_then (hop_lane X κ c true n (4 * (n.val + 1)) (by simp))) $$ [HA HT]
  · isplitr; · iexact Hctx
    isplitl [HA]; · iexact HA
    iexact HT
  iintro ⟨HA, HT⟩
  iapply (run_last (hop_lane X κ c false n (4 * (n.val + 1) + 2) (by simp))) $$ [HA HF]
  · isplitr; · iexact Hctx
    isplitl [HA]; · iexact HA
    iexact HF
  iintro ⟨HA, HF⟩
  isplitl [HA]; · iexact HA
  isplitl [HT]; · iexact HT
  iexact HF

/-! ## The waits for the copies to have left -/

/-- To wait for a copy that has been made. -/
def leaving (j : Fin 31) : sProp 𝕄 := iprop(sent ℓ c j ∗ toDone ℓ c j)

/-- Wait for the copy of half `i` of slot `d` to have left. -/
theorem done_slot (j : Fin 31) {d i : ℕ} (hd : d < 16) (hi : i < 2) (ed : d = dj j) (ei : i = ij ℓ j) :
    iprop(ctx X κ ∗ acct c 64 ∗ leaving c ℓ j) ⊢ WP c (doneSlot (lane ℓ) d i hd hi) fun _ => iprop(acct c 64 ∗ sendDone ℓ c j) :=
  done_step X κ c ℓ j _ _ _ (sendSem_congr _ (by omega) _ _) _ _

/-- Wait for the copy of half `i` of the operand's rows to have left. -/
theorem done_src (j : Fin 31) {i : ℕ} (hi : i < 2) (ed : dj j = 0) (ei : i = ij ℓ j) :
    iprop(ctx X κ ∗ acct c 64 ∗ leaving c ℓ j) ⊢ WP c (doneSrc xM (lane ℓ) i hi) fun _ => iprop(acct c 64 ∗ sendDone ℓ c j) :=
  done_step X κ c ℓ j _ _ _ (sendSem_congr _ (by omega) _ _) _ _

/-- Both halves of a slot. -/
theorem done_hop (n : Fin 14) :
    iprop(ctx X κ ∗ acct c 64 ∗ leaving c ℓ (js n 0) ∗ leaving c ℓ (js n 1))
      ⊢ WP c (doneHop (lane ℓ) (n.val + 1) (by omega)) fun _ => iprop(acct c 64 ∗ sendDone ℓ c (js n 0) ∗ sendDone ℓ c (js n 1)) := by
  unfold doneHop
  iintro ⟨#Hctx, HA, H0, H1⟩
  iapply (run_then (done_slot X κ c ℓ (js n 0) _ _ (by rw [dj_js]) (by rw [ij_js]; rfl))) $$ [HA H0]
  · isplitr; · iexact Hctx
    isplitl [HA]; · iexact HA
    iexact H0
  iintro ⟨HA, H0⟩
  iapply (run_last (done_slot X κ c ℓ (js n 1) _ _ (by rw [dj_js]) (by rw [ij_js]; rfl))) $$ [HA H1]
  · isplitr; · iexact Hctx
    isplitl [HA]; · iexact HA
    iexact H1
  iintro ⟨HA, H1⟩
  isplitl [HA]; · iexact HA
  isplitl [H0]; · iexact H0
  iexact H1

/-- The waits for the copies made from slots 1 to 14. -/
theorem dones_run :
    iprop(ctx X κ ∗ acct c 64 ∗ bigSep Finset.univ fun n : Fin 14 =>
        iprop((leaving c true (js n 0) ∗ leaving c true (js n 1)) ∗ leaving c false (js n 0) ∗ leaving c false (js n 1)))
      ⊢ WP c (loop 14 fun n => do
          doneHop (lane true) (n.val + 1) (by omega)
          doneHop (lane false) (n.val + 1) (by omega))
        fun _ => iprop(acct c 64 ∗ bigSep Finset.univ fun n : Fin 14 =>
          iprop((sendDone true c (js n 0) ∗ sendDone true c (js n 1)) ∗ sendDone false c (js n 0) ∗ sendDone false c (js n 1))) := by
  refine run_loop (ctx X κ) 14 (fun n => _) (fun n => _) (fun n => iprop((sendDone true c (js n 0) ∗ sendDone true c (js n 1)) ∗ sendDone false c (js n 0) ∗ sendDone false c (js n 1)))
    (fun _ => acct c 64) fun n => ?_
  iintro ⟨#Hctx, HA, HT, HF⟩
  iapply (run_then (done_hop X κ c true n)) $$ [HA HT]
  · isplitr; · iexact Hctx
    isplitl [HA]; · iexact HA
    iexact HT
  iintro ⟨HA, HT⟩
  iapply (run_last (done_hop X κ c false n)) $$ [HA HF]
  · isplitr; · iexact Hctx
    isplitl [HA]; · iexact HA
    iexact HF
  iintro ⟨HA, HF⟩
  isplitl [HA]; · iexact HA
  isplitl [HT]; · iexact HT
  iexact HF

end Cert.KernelIdeal.Ring

end
-- ==== Proof.OutSpec.lean ====
module

public import proofs.«01_k».proof.Proof.Hops
public import Idealize.ShloMosaic.Lib.ViewIndex
public import Idealize.ShloMosaic.Lib.ValueLayout

@[expose] public section

noncomputable section

/-! # What the result holds

Each device's result is made of blocks of sixty-four rows, one for each device of the ring: its own from
its own operand, fifteen from each lane's slots, and the one half-way round from the two lanes' last slots. -/

namespace Cert.KernelIdeal.Ring

open Idealize.ShloMosaic Idealize.ShloMosaic.ValueIdx Cert.KernelIdeal.Gen

variable {F : FTy → Type} [FloatOps F]

/-! ## Positions -/

/-- Going `k` steps back on a lane, in positions of the ring. -/
theorem pos_org : ∀ (ℓ : Bool) (c : Dev nD) (k : Fin 17),
    (pos (org ℓ k.val c)).val = ((pos c).val + (if ℓ then 32 - k.val else k.val)) % 32 := by decide +kernel

/-- How many positions device `b` comes after device `c`. -/
def dist (c b : Dev nD) : ℕ := ((pos b).val + 32 - (pos c).val) % 32

theorem dist_lt (c b : Dev nD) : dist c b < 32 := Nat.mod_lt _ (by omega)

theorem dist_self (c : Dev nD) : dist c c = 0 := by
  unfold dist; have := (pos c).isLt; omega

theorem dist_cw (c : Dev nD) (k : ℕ) (h : k < 17) (h0 : 0 < k) : dist c (org true k c) = 32 - k := by
  unfold dist
  rw [pos_org true c ⟨k, h⟩]
  have := (pos c).isLt
  simp only [if_true]; omega

theorem dist_ccw (c : Dev nD) (k : ℕ) (h : k < 17) : dist c (org false k c) = k := by
  unfold dist
  rw [pos_org false c ⟨k, h⟩]
  have := (pos c).isLt
  simp only [Bool.false_eq_true, if_false]; omega

/-- Every device is reached. -/
theorem reach : ∀ c b : Dev nD, b = c ∨ (∃ n : Fin 15, b = org true (n.val + 1) c) ∨ (∃ n : Fin 15, b = org false (n.val + 1) c)
    ∨ b = org true 16 c := by decide +kernel

/-! ## The blocks -/

variable (X : Dev nD → S64x2048.Idx → Elt F .f32) (W : Dev nD → S2048x64.Idx → Elt F .f32)

/-- The rows of a lane's slots 1 to 15. -/
def bandIn (ℓ : Bool) (c : Dev nD) : Vec F S15x64x2048 .f32 :=
  fun y => X (org ℓ ((y 0).val + 1) c) (ix2 (n0 := 64) (n1 := 2048) (y 1) (y 2))

/-- Half `i` of the rows of the device half-way round. -/
def farIn (c : Dev nD) (i : Fin 2) : Vec F S1x32x2048 .f32 :=
  fun y => X (org true 16 c) (ix2 (n0 := 64) (n1 := 2048) ⟨32 * i.val + (y 1).val, by have : (y 1).val < 32 := (y 1).isLt; omega⟩ (y 2))

/-- A device's own block. -/
def blkOwn (c : Dev nD) : FVec F S64x64 .f32 := k0_pay2 (k0_pay1 (X c) (W c))

/-- Block `n` of a lane's band. -/
def blkBand (ℓ : Bool) (c : Dev nD) (n : Fin 15) : FVec F S64x64 .f32 :=
  extractStridedSlice S64x64 ![64 * n.val, 0] (k0_pay3 (bandIn X ℓ c) (W c)) (band_slices n.isLt)

/-- Half of the block of the device half-way round. -/
def blkFar (c : Dev nD) (i : Fin 2) : FVec F S32x64 .f32 := k0_pay35 (farIn X c i) (W c)

/-- The block for the rows of device `b`. -/
def blk (c b : Dev nD) : S64x64.Idx → Elt F .f32 := fun y =>
  if h0 : dist c b = 0 then blkOwn X W c y
  else if h : dist c b < 16 then blkBand X W false c ⟨dist c b - 1, by omega⟩ y
  else if h' : dist c b = 16 then
    blkFar X W c ⟨(y 0).val / 32, by have : (y 0).val < 64 := (y 0).isLt; omega⟩
      (ix2 (n0 := 32) (n1 := 64) ⟨(y 0).val % 32, by omega⟩ (y 1))
  else blkBand X W true c ⟨31 - dist c b, by omega⟩ y

theorem blk_own (c : Dev nD) (y : S64x64.Idx) : blk X W c c y = blkOwn X W c y := by
  unfold blk; rw [dif_pos (dist_self c)]

theorem blk_band (ℓ : Bool) (c : Dev nD) (n : Fin 15) (y : S64x64.Idx) : blk X W c (org ℓ (n.val + 1) c) y = blkBand X W ℓ c n y := by
  have hn := n.isLt
  unfold blk
  cases ℓ
  · have e := dist_ccw c (n.val + 1) (by omega)
    rw [dif_neg (by omega), dif_pos (by omega)]
    congr 1
    exact Fin.ext (by simp only; omega)
  · have e := dist_cw c (n.val + 1) (by omega) (by omega)
    rw [dif_neg (by omega), dif_neg (by omega), dif_neg (by omega)]
    congr 1
    exact Fin.ext (by simp only; omega)

theorem blk_far (c : Dev nD) (i : Fin 2) (r : Fin 32) (k : Fin 64) (h : 32 * i.val + r.val < 64) :
    blk X W c (org true 16 c) (ix2 (n0 := 64) (n1 := 64) ⟨32 * i.val + r.val, h⟩ k) = blkFar X W c i (ix2 r k) := by
  have e := dist_cw c 16 (by omega) (by omega)
  have hr := r.isLt
  have hi : (⟨(32 * i.val + r.val) / 32, by omega⟩ : Fin 2) = i := Fin.ext (by simp only; omega)
  have hr' : (⟨(32 * i.val + r.val) % 32, by omega⟩ : Fin 32) = r := Fin.ext (by simp only; omega)
  unfold blk
  rw [dif_neg (by omega), dif_neg (by omega), dif_pos e]
  show blkFar X W c ⟨(32 * i.val + r.val) / 32, _⟩ (ix2 ⟨(32 * i.val + r.val) % 32, _⟩ k) = _
  rw [hi, hr']

/-- What the result of device `c` holds. -/
def outSpec (c : Dev nD) : S2048x64.Idx → Elt F .f32 := fun i =>
  blk X W c ⟨(i 0).val / 64, by have : (i 0).val < 2048 := (i 0).isLt; show _ < 32; omega⟩
    (ix2 (n0 := 64) (n1 := 64) ⟨(i 0).val % 64, by omega⟩ (i 1))

theorem outSpec_at (c b : Dev nD) (r k : Fin 64) (i : S2048x64.Idx) (h0 : (i 0).val = 64 * b.val + r.val) (h1 : (i 1).val = k.val) :
    outSpec X W c i = blk X W c b (ix2 r k) := by
  have hr := r.isLt
  have hb : b.val < 32 := b.isLt
  unfold outSpec
  have e0 : (⟨(i 0).val / 64, by have : (i 0).val < 2048 := (i 0).isLt; show _ < 32; omega⟩ : Dev nD) = b := Fin.ext (by simp only; omega)
  have e1 : (⟨(i 0).val % 64, by omega⟩ : Fin 64) = r := Fin.ext (by simp only; omega)
  have e2 : (i 1 : Fin 64) = k := Fin.ext h1
  rw [e0, e1]
  exact congrArg (fun k => blk X W c b (ix2 r k)) e2

/-! ## What the slots read as -/

/-- A half slot read at a row and a column is the lane's buffer read there. -/
theorem slot_read (b : Memref sig .tc .vmem S17x64x2048 .f32) (g : b.view.ty.Contents (Elt F)) (d i : ℕ) (hd : d < 17) (hi : i < 2)
    (x : Fin 32) (k : Fin 2048) :
    (slotM b d i hd hi).view.read (Elt F) g (ix2 x k)
      = b.view.read (Elt F) g (ix3 (n0 := 17) (n1 := 64) (n2 := 2048) ⟨d, hd⟩ ⟨32 * i + x.val, by have := x.isLt; omega⟩ k) := by
  show b.view.read (Elt F) g ((slotRect d i hd hi).emb (Shape.reshapeEquiv _ (ix2 x k))) = _
  congr 1
  have e := reshapeEquiv_ix2_1ab (a := 32) (b := 2048) squeezes_S1x32x2048_S32x2048.numel_eq x k
  rw [e]
  apply Shape.idx3_ext
  · simp
  · simp
  · simp

/-- The lane's buffer between slots 1 and 15. -/
abbrev bandRect : Rect S17x64x2048 :=
  Rect.unit (s := S17x64x2048) ![1, 0, 0] S15x64x2048.size inb_S17x64x2048_S15x64x2048_1_0_0

/-- The landing that holds row `r` of slot `a + 1`. -/
def bandCopy (a : Fin 15) (r : Fin 64) : Fin 30 := ⟨2 * a.val + r.val / 32, by omega⟩

theorem dj_cast (j : Fin 30) : dj j.castSucc = j.val / 2 := rfl
theorem ij_cast (ℓ : Bool) (j : Fin 30) : ij ℓ j.castSucc = j.val % 2 := by
  unfold ij; rw [if_neg]; · rfl
  · have := j.isLt; simp; omega

/-- What landed, at a row and a column. -/
theorem landed_at (ℓ : Bool) (c : Dev nD) (j : Fin 31) (x : Fin 32) (k : Fin 2048) (h : 32 * ij ℓ j + x.val < 64) :
    landed X ℓ c j (ix2 x k) = X (org ℓ (dj j + 1) c) (ix2 (n0 := 64) (n1 := 2048) ⟨32 * ij ℓ j + x.val, h⟩ k) := by
  unfold landed halfOf
  congr 1
  funext a
  apply Fin.ext
  match a with
  | ⟨0, _⟩ => simp
  | ⟨1, _⟩ => simp

/-- A lane's slots 1 to 15, each half reading as what landed there, read as the band's rows. -/
theorem band_read (ℓ : Bool) (c : Dev nD) (g : (lane ℓ).buf.view.ty.Contents (Elt F))
    (h : ∀ j : Fin 30, (landM ℓ j.castSucc).view.read (Elt F) g = landed X ℓ c j.castSucc) :
    ((lane ℓ).buf.access bandRect).read (Elt F) g = bandIn X ℓ c := by
  funext y
  have ha : (y 0).val < 15 := (y 0).isLt
  have hr : (y 1).val < 64 := (y 1).isLt
  have hk : (y 2).val < 2048 := (y 2).isLt
  have hj := congrFun (h (bandCopy ⟨(y 0).val, ha⟩ ⟨(y 1).val, hr⟩)) (ix2 ⟨(y 1).val % 32, by omega⟩ ⟨(y 2).val, hk⟩)
  rw [slot_read, landed_at X ℓ c _ _ _ (by rw [ij_cast]; show 32 * _ + _ < 64; simp [bandCopy]; omega)] at hj
  have e1 : dj (bandCopy ⟨(y 0).val, ha⟩ ⟨(y 1).val, hr⟩).castSucc = (y 0).val := by rw [dj_cast]; simp only [bandCopy]; omega
  have e2 : ij ℓ (bandCopy ⟨(y 0).val, ha⟩ ⟨(y 1).val, hr⟩).castSucc = (y 1).val / 32 := by rw [ij_cast]; simp only [bandCopy]; omega
  show (lane ℓ).buf.view.read (Elt F) g (bandRect.emb y) = _
  unfold bandIn
  refine Eq.trans (congrArg _ ?_) (hj.trans ?_)
  · apply Shape.idx3_ext
    · simp [e1]; omega
    · simp [e2]; omega
    · simp
  · rw [e1]
    congr 1
    funext a
    apply Fin.ext
    match a with
    | ⟨0, _⟩ =>
      show 32 * ij ℓ _ + (y 1).val % 32 = (y 1).val
      rw [e2]; omega
    | ⟨1, _⟩ => rfl

/-- The last slot's half, reading as what landed there, reads as the far rows. -/
theorem far_read (ℓ : Bool) (c : Dev nD) (i : Fin 2) (hi : i.val = last ℓ) (g : (lane ℓ).buf.view.ty.Contents (Elt F))
    (h : (landM ℓ 30).view.read (Elt F) g = landed X ℓ c 30) :
    ((lane ℓ).buf.access (slotRect 16 i.val (by omega) i.isLt)).read (Elt F) g = farIn X c i := by
  funext y
  have hr : (y 1).val < 32 := (y 1).isLt
  have hk : (y 2).val < 2048 := (y 2).isLt
  have h0 : (y 0).val = 0 := by have : (y 0).val < 1 := (y 0).isLt; omega
  have e2 : ij ℓ 30 = i.val := hi.symm
  have e1 : dj 30 = 15 := rfl
  have hj := congrFun h (ix2 ⟨(y 1).val, hr⟩ ⟨(y 2).val, hk⟩)
  rw [slot_read, landed_at X ℓ c _ _ _ (by rw [e2]; show 32 * _ + (y 1).val < 64; omega)] at hj
  show (lane ℓ).buf.view.read (Elt F) g ((slotRect 16 i.val (by omega) i.isLt).emb y) = _
  unfold farIn
  have eo : org ℓ (dj 30 + 1) c = org true 16 c := by
    rw [e1]; cases ℓ
    · exact org_far c
    · rfl
  rw [eo] at hj
  refine Eq.trans (congrArg _ ?_) (hj.trans ?_)
  · apply Shape.idx3_ext
    · simp [e1, h0]
    · simp [e2]
    · simp
  · congr 1
    funext a
    apply Fin.ext
    match a with
    | ⟨0, _⟩ =>
      show 32 * ij ℓ _ + (y 1).val = 32 * i.val + (y 1).val
      rw [e2]
    | ⟨1, _⟩ => rfl

/-! ## The elements of the slots -/

theorem slotM_set (b : Memref sig .tc .vmem S17x64x2048 .f32) (d i : ℕ) (hd : d < 17) (hi : i < 2) :
    (slotM b d i hd hi).view.set = (b.access (slotRect d i hd hi)).set := by
  unfold slotM; exact View.set_reshape _ _

/-- The band's elements are those of the first thirty landings. -/
theorem band_subset (ℓ : Bool) :
    ((lane ℓ).buf.access bandRect).set ⊆ Finset.univ.biUnion fun j : Fin 30 => (landM ℓ j.castSucc).view.set := by
  intro e he
  obtain ⟨y, rfl⟩ := View.exists_of_mem_set_slice he
  have ha : (y 0).val < 15 := (y 0).isLt
  have hr : (y 1).val < 64 := (y 1).isLt
  have hk : (y 2).val < 2048 := (y 2).isLt
  refine Finset.mem_biUnion.mpr ⟨bandCopy ⟨(y 0).val, ha⟩ ⟨(y 1).val, hr⟩, Finset.mem_univ _, ?_⟩
  have e1 : dj (bandCopy ⟨(y 0).val, ha⟩ ⟨(y 1).val, hr⟩).castSucc = (y 0).val := by rw [dj_cast]; simp only [bandCopy]; omega
  have e2 : ij ℓ (bandCopy ⟨(y 0).val, ha⟩ ⟨(y 1).val, hr⟩).castSucc = (y 1).val / 32 := by rw [ij_cast]; simp only [bandCopy]; omega
  rw [slotM_set]
  have hz : bandRect.emb y = (slotRect (dj (bandCopy ⟨(y 0).val, ha⟩ ⟨(y 1).val, hr⟩).castSucc + 1)
      (ij ℓ (bandCopy ⟨(y 0).val, ha⟩ ⟨(y 1).val, hr⟩).castSucc) (by rw [e1]; omega) (ij_lt _ _)).emb
      (ix3 (n0 := 1) (n1 := 32) (n2 := 2048) ⟨0, by omega⟩ ⟨(y 1).val % 32, by omega⟩ ⟨(y 2).val, hk⟩) := by
    apply Shape.idx3_ext
    · simp [e1]; omega
    · simp [e2]; omega
    · simp
  rw [hz]
  exact View.emb_mem_set _ _

/-- Different landings take different elements. -/
theorem land_disjoint (ℓ : Bool) (j j' : Fin 31) (h : j ≠ j') : Disjoint (landM ℓ j).view.set (landM ℓ j').view.set := by
  rw [slotM_set, slotM_set]
  refine Finset.disjoint_left.mpr fun e he he' => h ?_
  obtain ⟨y, rfl⟩ := View.exists_of_mem_set_slice he
  obtain ⟨y', hy⟩ := View.exists_of_mem_set_slice he'
  have hy := (lane ℓ).buf.view.emb.injective hy
  have h0 := congrArg (fun z => (z 0).val) hy
  have h1 := congrArg (fun z => (z 1).val) hy
  have hr : (y 1).val < 32 := (y 1).isLt
  have hr' : (y' 1).val < 32 := (y' 1).isLt
  have z0 : (y 0).val < 1 := (y 0).isLt
  have z0' : (y' 0).val < 1 := (y' 0).isLt
  simp at h0 h1
  exact copy_inj ℓ j j' (by omega)

end Cert.KernelIdeal.Ring

end
-- ==== Proof.Blocks.lean ====
module

public import proofs.«01_k».proof.Proof.OutSpec

@[expose] public section

noncomputable section

/-! # The blocks of the result

What each step that computes a block does: it reads the rows and the weights, and stores the block where the
table says. A result that agrees with the specification on some rows agrees on those of the block too. -/

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

attribute [local irreducible] loop

/-- The staged words, table, weights and result. -/
abbrev aM : Memref sig .tc .smem S3 .i32 := Memref.whole cc0_stg0_0
abbrev tM : Memref sig .tc .smem S32 .i32 := Memref.whole cc0_stg1_0
abbrev wM : Memref sig .tc .vmem S2048x64 .f32 := Memref.whole cc0_stg3_0
abbrev oM : Memref sig .tc .vmem S2048x64 .f32 := Memref.whole cc0_stg4_0

variable (X : Dev nD → S64x2048.Idx → Elt F .f32) (W : Dev nD → S2048x64.Idx → Elt F .f32)

/-- The table's words. -/
def table : S32.Idx → Elt F .i32 := fun i => lit3 (S32.rowMajor i)

/-- The table is held. -/
def tblAt (c : Dev nD) : sProp 𝕄 := (tM.view.loc (c : Thread nD τ)) ↦[Finset.univ]{fullShare} (table (F := F))

/-- The weights are held. -/
def wtsAt (c : Dev nD) : sProp 𝕄 := (wM.view.loc (c : Thread nD τ)) ↦[Finset.univ]{fullShare} (W c)

/-- Share `q` of the operand is held. -/
def opAt (c : Dev nD) (q : PosShare TreeShare) : sProp 𝕄 := (xM.view.loc (c : Thread nD τ)) ↦[Finset.univ]{q} (X c)

/-- The result agrees with the specification on the rows `D`. -/
def Agree (c : Dev nD) (D : Set ℕ) (f : S2048x64.Idx → Elt F .f32) : Prop := ∀ i, (i 0).val ∈ D → f i = outSpec X W c i

/-- The result is held, and agrees with the specification on the rows `D`. -/
def outAt (c : Dev nD) (D : Set ℕ) : sProp 𝕄 :=
  iprop(∃ f, ⌜Agree X W c D f⌝ ∗ (oM.view.loc (c : Thread nD τ)) ↦[Finset.univ]{fullShare} f)

theorem outAt_mono (c : Dev nD) {D D' : Set ℕ} (h : D' ⊆ D) : outAt X W c D ⊢ outAt X W c D' := by
  unfold outAt
  iintro ⟨%f, %hf, H⟩
  iexists f
  isplitr [H]
  · ipureintro; exact fun i hi => hf i (h hi)
  · iexact H

/-- A result that agrees with the specification everywhere is the specification. -/
theorem outAt_all (c : Dev nD) (D : Set ℕ) (h : ∀ r < 2048, r ∈ D) :
    outAt X W c D ⊢ (oM.view.loc (c : Thread nD τ)) ↦[Finset.univ]{fullShare} (outSpec X W c) := by
  unfold outAt
  iintro ⟨%f, %hf, H⟩
  have e : f = outSpec X W c := funext fun i => hf i (h _ (i 0).isLt)
  subst e
  iexact H

/-- Storing the specification's values in a rectangle extends the rows of agreement by its rows. -/
theorem agree_write (c : Dev nD) (D R : Set ℕ) (r : Rect S2048x64) (v : r.shape.Idx → Elt F .f32) (f : S2048x64.Idx → Elt F .f32)
    (hv : ∀ y, v y = outSpec X W c (r.emb y)) (hR : ∀ i : S2048x64.Idx, (i 0).val ∈ R → ∃ y, r.emb y = i)
    (hf : Agree X W c D f) : Agree X W c (D ∪ R) ((oM.access r).write (Elt F) f v Finset.univ) := by
  intro i hi
  by_cases hy : ∃ y, r.emb y = i
  · obtain ⟨y, rfl⟩ := hy
    refine Eq.trans ?_ (hv y)
    show oM.view.read (Elt F) ((oM.view.slice r).write (Elt F) f v Finset.univ) (r.emb y) = v y
    exact View.read_slice_write_emb (v := oM.view) r f v (Finset.mem_univ y)
  · have hn : i ∉ Finset.univ.map r.emb := fun hm => hy (by obtain ⟨y, -, e⟩ := Finset.mem_map.mp hm; exact ⟨y, e⟩)
    refine Eq.trans ?_ (hf i ?_)
    · show oM.view.read (Elt F) ((oM.view.slice r).write (Elt F) f v Finset.univ) i = oM.view.read (Elt F) f i
      exact View.read_slice_write_of_not_mem (v := oM.view) r f v Finset.univ hn
    · exact hi.resolve_right fun h => hy (hR i h)

/-- The rows of device `b`'s block. -/
def rows (b : Dev nD) : Set ℕ := {r | r / 64 = b.val}

/-- Half `i` of them. -/
def halfRows (b : Dev nD) (i : Fin 2) : Set ℕ := {r | r / 32 = 2 * b.val + i.val}

/-- The rectangle of block `w` of the result. -/
abbrev blkRect (w : BitVec 32) (hw : k0_chk4 w) : Rect S2048x64 :=
  Rect.unit (s := S2048x64) (k0_off2 w) S64x64.size (k0_off2_inb w hw)

/-- The rectangle of a half block of the result. -/
abbrev halfRect (w : BitVec 32) (hw : k0_chk35 w) (i : Fin 2) : Rect S2048x64 :=
  Rect.unit (s := S2048x64) (k0_off64 w (BitVec.ofNat 32 (32 * i.val))) S32x64.size (k0_off64_inb w hw i)

/-- Storing device `b`'s block. -/
theorem agree_block (c b : Dev nD) (D : Set ℕ) (off : Fin 2 → ℕ) (inb : ∀ a, off a + S64x64.size a ≤ S2048x64.size a)
    (e : off = ![64 * b.val, 0]) (v : FVec F S64x64 .f32) (f : S2048x64.Idx → Elt F .f32)
    (hv : ∀ y, v y = blk X W c b y) (hf : Agree X W c D f) :
    Agree X W c (D ∪ rows b) ((oM.access (Rect.unit (s := S2048x64) off S64x64.size inb)).write (Elt F) f v Finset.univ) := by
  subst e
  refine agree_write X W c D (rows b) (Rect.unit (s := S2048x64) ![64 * b.val, 0] S64x64.size inb) v f (fun y => ?_) (fun i hi => ?_) hf
  · rw [outSpec_at X W c b (y 0) (y 1) _ (by rw [Rect.emb_apply]; show 64 * b.val + 1 * (y 0).val = _; omega)
      (by rw [Rect.emb_apply]; show 0 + 1 * (y 1).val = _; omega), hv]
    exact congrArg _ (eq_ix2 (n0 := 64) (n1 := 64) y)
  · have hi : (i 0).val / 64 = b.val := hi
    have h1 : (i 1).val < 64 := (i 1).isLt
    refine ⟨ix2 (n0 := 64) (n1 := 64) ⟨(i 0).val % 64, by omega⟩ ⟨(i 1).val, h1⟩, ?_⟩
    funext a
    apply Fin.ext
    match a with
    | ⟨0, _⟩ => rw [Rect.emb_apply]; show 64 * b.val + 1 * ((i 0).val % 64) = (i 0).val; omega
    | ⟨1, _⟩ => rw [Rect.emb_apply]; show 0 + 1 * (i 1).val = (i 1).val; omega

/-- Storing half of the block of the device half-way round. -/
theorem agree_half (c b : Dev nD) (D : Set ℕ) (hb : b = org true 16 c) (i : Fin 2) (off : Fin 2 → ℕ)
    (inb : ∀ a, off a + S32x64.size a ≤ S2048x64.size a) (e : off = ![64 * b.val + 32 * i.val, 0])
    (v : FVec F S32x64 .f32) (f : S2048x64.Idx → Elt F .f32) (hv : v = blkFar X W c i) (hf : Agree X W c D f) :
    Agree X W c (D ∪ halfRows b i) ((oM.access (Rect.unit (s := S2048x64) off S32x64.size inb)).write (Elt F) f v Finset.univ) := by
  subst e hv hb
  have hi2 := i.isLt
  refine agree_write X W c D (halfRows (org true 16 c) i) (Rect.unit (s := S2048x64) ![64 * (org true 16 c).val + 32 * i.val, 0] S32x64.size inb) _ f (fun y => ?_) (fun z hz => ?_) hf
  · have y0 : (y 0).val < 32 := (y 0).isLt
    have hlt : 32 * i.val + (y 0).val < 64 := by omega
    rw [outSpec_at X W c (org true 16 c) ⟨32 * i.val + (y 0).val, hlt⟩ (y 1) _
      (by rw [Rect.emb_apply]; show 64 * (org true 16 c).val + 32 * i.val + 1 * (y 0).val = 64 * (org true 16 c).val + (32 * i.val + (y 0).val); omega)
      (by rw [Rect.emb_apply]; show 0 + 1 * (y 1).val = _; omega)]
    refine Eq.trans ?_ (blk_far X W c i (y 0) (y 1) hlt).symm
    exact congrArg _ (eq_ix2 (n0 := 32) (n1 := 64) y)
  · have hz : (z 0).val / 32 = 2 * (org true 16 c).val + i.val := hz
    have h1 : (z 1).val < 64 := (z 1).isLt
    refine ⟨ix2 (n0 := 32) (n1 := 64) ⟨(z 0).val % 32, by omega⟩ ⟨(z 1).val, h1⟩, ?_⟩
    funext a
    apply Fin.ext
    match a with
    | ⟨0, _⟩ => rw [Rect.emb_apply]; show 64 * (org true 16 c).val + 32 * i.val + 1 * ((z 0).val % 32) = (z 0).val; omega
    | ⟨1, _⟩ => rw [Rect.emb_apply]; show 0 + 1 * (z 1).val = (z 1).val; omega

/-! ## The steps -/

/-- A load of part of a buffer some of which is held, and then the rest. -/
theorem load_then {α : Type} (c : Dev nD) {s : Shape} {e : EltTy} (m : Memref sig .tc .vmem s e) (r : Rect s) (hl : m.view.LoadsAt r.toLoadRect)
    (S : Finset (Idx ((m.access r).loc (c : Thread nD τ)))) (q : PosShare TreeShare) (f : Buf (Elt F) ((m.access r).loc (c : Thread nD τ)))
    (hS : (m.access r).set ⊆ S) (K : (r.shape.Idx → Elt F e) → BodyProg F α) (Q : α → sProp 𝕄) :
    ((m.access r).loc (c : Thread nD τ) ↦[S]{q} f)
      ⊢ iprop((((m.access r).loc (c : Thread nD τ) ↦[S]{q} f) -∗ WP c (K ((m.access r).read (Elt F) f)) Q)
        -∗ WP c (Prog.lift (.load m r.toLoadRect hl) >>= K) Q) :=
  wp_load_rect 𝒱₀ (c : Thread nD τ) none Set.univ hS

/-- A check that holds, and then the rest. -/
theorem assume_then {α : Type} (c : Dev nD) (P : Prop) (d : Decidable P) (h : P) (K : PLift P → BodyProg F α) (Q : α → sProp 𝕄) :
    WP c (K ⟨h⟩) Q ⊢ WP c (Prog.lift (TpuEff.assume P d) >>= K) Q := by
  show _ ⊢ wp frame _ _ (.op (.assume P d) K) Q
  rw [wp_assume_of 𝒱₀ (c : Thread nD τ) none Set.univ h]

/-- A look-up in the table, and then the rest. -/
theorem lookup_then {α : Type} (c : Dev nD) (p : Fin 32) (k : BitVec 32) (h : ∀ a, posOff k (lit2 c) a + S1.size a ≤ S32.size a)
    (hp : posOff k (lit2 c) = ![p.val]) (K : Elt F .i32 → BodyProg F α) (Q : α → sProp 𝕄) :
    tblAt (F := F) c ⊢ iprop((tblAt c -∗ WP c (K (lit3 p)) Q) -∗ WP c (lookup tM k (lit2 c) h >>= K) Q) := by
  have e : ∀ x, (tM.access (Rect.unit (s := S32) (posOff k (lit2 c)) S1.size h)).read (Elt F) (table (F := F)) x = lit3 p := by
    intro x
    show lit3 (S32.rowMajor ((Rect.unit (s := S32) (posOff k (lit2 c)) S1.size h).emb x)) = lit3 p
    congr 1
    apply Fin.ext
    have hx : (x 0).val < 1 := (x 0).isLt
    rw [Shape.rowMajor_val_one, Rect.emb_apply]
    show posOff k (lit2 c) 0 + 1 * (x 0).val = p.val
    have h0 : posOff k (lit2 c) 0 = p.val := by rw [hp]; rfl
    omega
  have key := wp_smemLoadElt (defs := defs₀ (F := F)) (Γ := .empty) 𝒱₀ (c : Thread nD τ) none Set.univ (m := tM)
    (r := Rect.unit (s := S32) (posOff k (lit2 c)) S1.size h) (hw := View.loads_smem_one rfl numel1_S1)
    (x := Shape.Idx.first (numel1_S1.symm ▸ Nat.one_pos)) (k := K) (Q := Q) (S := Finset.univ) (q := fullShare) (f := table) (Finset.subset_univ _)
  rw [e] at key
  exact key

/-- Store device `b`'s block. -/
theorem put_block (c : Dev nD) (D : Set ℕ) (p : Fin 32) (hw : k0_chk4 (lit3 p)) (v : FVec F S64x64 .f32)
    (hv : ∀ y, v y = blk X W c (there p) y) :
    outAt X W c D ⊢ WP c (putBlock oM (lit3 p) hw v) fun _ => outAt X W c (D ∪ rows (there p)) := by
  unfold putBlock
  iintro Ho
  unfold outAt
  icases Ho with ⟨%f, %hf, H⟩
  iapply (load_then c oM (blkRect (lit3 p) hw) _ Finset.univ fullShare f (Finset.subset_univ _)) $$ H
  iintro H
  unfold WP
  iapply (wp_store 𝒱₀ (c : Thread nD τ) none Set.univ (m := oM) (r := blkRect (lit3 p) hw) (S := Finset.univ) (f := f) (Finset.subset_univ _)) $$ H
  iintro H
  rw [wp_ret]
  imodintro
  iexists _
  isplitr [H]
  rotate_left
  · iexact H
  · ipureintro; exact agree_block X W c (there p) D _ _ (off2_eq p) v f hv hf

/-- Look up where device `b`'s block goes, and store it. -/
theorem lookup_put (c b : Dev nD) (D : Set ℕ) (k : BitVec 32) (h : ∀ a, posOff k (lit2 c) a + S1.size a ≤ S32.size a)
    (hp : posOff k (lit2 c) = ![(pos b).val]) (v : FVec F S64x64 .f32) (hv : ∀ y, v y = blk X W c b y) :
    iprop(tblAt c ∗ outAt X W c D) ⊢ WP c (lookupPut tM oM k (lit2 c) h v) fun _ => iprop(tblAt c ∗ outAt X W c (D ∪ rows b)) := by
  unfold lookupPut
  iintro ⟨Ht, Ho⟩
  iapply (lookup_then c (pos b) k h hp) $$ Ht
  iintro Ht
  iapply (assume_then c (k0_chk4 (lit3 (pos b))) _ (chk4_ok (pos b)))
  iapply (run_last (put_block X W c D (pos b) (chk4_ok (pos b)) v (by rw [there_pos]; exact hv))) $$ Ho
  iintro Ho
  rw [there_pos]
  iframe

end Cert.KernelIdeal.Ring

end
-- ==== Proof.Bands.lean ====
module

public import proofs.«01_k».proof.Proof.Blocks

@[expose] public section

noncomputable section

/-! # A device's own block, the two bands, and the far block

Each reads the rows it needs, multiplies them by the weights and stores the blocks. -/

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

attribute [local irreducible] loop

variable (X : Dev nD → S64x2048.Idx → Elt F .f32) (W : Dev nD → S2048x64.Idx → Elt F .f32)

/-- The whole of the weights, loaded. -/
theorem read_wts (v : S2048x64.Idx → Elt F .f32) :
    (wM.access (Rect.unit (s := S2048x64) ![0, 0] S2048x64.size inb_S2048x64_S2048x64_0_0)).read (Elt F) v = v := by
  funext y
  show v ((Rect.unit (s := S2048x64) ![0, 0] S2048x64.size inb_S2048x64_S2048x64_0_0).emb y) = v y
  congr 1
  funext a
  apply Fin.ext
  rw [Rect.emb_apply]
  match a with
  | ⟨0, _⟩ => show 0 + 1 * (y 0).val = (y 0).val; omega
  | ⟨1, _⟩ => show 0 + 1 * (y 1).val = (y 1).val; omega

/-- The whole of the operand, loaded. -/
theorem read_op (v : S64x2048.Idx → Elt F .f32) :
    (xM.access (Rect.unit (s := S64x2048) ![0, 0] S64x2048.size inb_S64x2048_S64x2048_0_0)).read (Elt F) v = v := by
  funext y
  show v ((Rect.unit (s := S64x2048) ![0, 0] S64x2048.size inb_S64x2048_S64x2048_0_0).emb y) = v y
  congr 1
  funext a
  apply Fin.ext
  rw [Rect.emb_apply]
  match a with
  | ⟨0, _⟩ => show 0 + 1 * (y 0).val = (y 0).val; omega
  | ⟨1, _⟩ => show 0 + 1 * (y 1).val = (y 1).val; omega

/-- Load the weights, and then the rest. -/
theorem weights_then {α : Type} (c : Dev nD) (hl) (K : (S2048x64.Idx → Elt F .f32) → BodyProg F α) (Q : α → sProp 𝕄) :
    wtsAt W c ⊢ iprop((wtsAt W c -∗ WP c (K (W c)) Q)
      -∗ WP c (Prog.lift (.load wM (Rect.unit (s := S2048x64) ![0, 0] S2048x64.size inb_S2048x64_S2048x64_0_0).toLoadRect hl) >>= K) Q) := by
  have key := load_then c wM (Rect.unit (s := S2048x64) ![0, 0] S2048x64.size inb_S2048x64_S2048x64_0_0) hl Finset.univ fullShare (W c)
    (Finset.subset_univ _) K Q
  rw [read_wts] at key
  exact key

/-- The device's own block. -/
theorem own_block (c : Dev nD) (q : PosShare TreeShare) (D : Set ℕ) (h : ∀ a, posOff 0#32 (lit2 c) a + S1.size a ≤ S32.size a) :
    iprop(tblAt c ∗ opAt X c q ∗ wtsAt W c ∗ outAt X W c D)
      ⊢ WP c (ownBlock tM xM wM oM (lit2 c) h) fun _ => iprop(tblAt c ∗ opAt X c q ∗ wtsAt W c ∗ outAt X W c (D ∪ rows c)) := by
  unfold ownBlock
  iintro ⟨Ht, Hx, Hw, Ho⟩
  unfold opAt
  iapply (load_then c xM (Rect.unit (s := S64x2048) ![0, 0] S64x2048.size inb_S64x2048_S64x2048_0_0) _ Finset.univ q (X c)
    (Finset.subset_univ _)) $$ Hx
  rw [read_op]
  iintro Hx
  iapply (lookup_then c (pos c) 0#32 h (posOff_own c)) $$ Ht
  iintro Ht
  iapply (assume_then c (k0_chk4 (lit3 (pos c))) _ (chk4_ok (pos c)))
  iapply (weights_then W c) $$ Hw
  iintro Hw
  iapply (run_last (put_block X W c D (pos c) (chk4_ok (pos c)) (blkOwn X W c) (by rw [there_pos]; exact fun y => (blk_own X W c y).symm))) $$ Ho
  iintro Ho
  rw [there_pos]
  iframe

/-! ## The slots of a band, as one piece -/

/-- What is kept of the first thirty landings of a lane. -/
abbrev bandKept (ℓ : Bool) (c : Dev nD) : sProp 𝕄 := bigSep Finset.univ fun j : Fin 30 => kept X c ℓ j.castSucc

/-- Pieces of one buffer that take different elements, each with a property of the contents there, are one piece with every property. -/
theorem join_pieces {J : Type} [DecidableEq J] {l : Loc nD τ sig} {q : PosShare TreeShare} (K : J → Finset (Idx l))
    (P : J → Buf (Elt F) l → Prop) (hP : ∀ j f g, (∀ i ∈ K j, f i = g i) → P j f → P j g)
    (hd : ∀ j j', j ≠ j' → Disjoint (K j) (K j')) (f₀ : Buf (Elt F) l) (S : Finset J) :
    (bigSep S fun j => (iprop(∃ f, ⌜P j f⌝ ∗ l ↦[K j]{q} f) : sProp 𝕄))
      ⊢ (iprop(∃ g, ⌜∀ j ∈ S, P j g⌝ ∗ l ↦[S.biUnion K]{q} g) : sProp 𝕄) := by
  induction S using Finset.induction_on with
  | empty =>
    iintro -
    iexists f₀
    isplitr
    · ipureintro; exact fun j hj => absurd hj (Finset.notMem_empty j)
    · rw [Finset.biUnion_empty, pointsTo_empty]; iempintro
  | insert j S hj ih =>
    rw [bigSep_insert hj, Finset.biUnion_insert]
    have hdis : Disjoint (K j) (S.biUnion K) :=
      (Finset.disjoint_biUnion_right _ _ _).mpr fun j' h' => hd j j' fun e => hj (e ▸ h')
    show iprop((∃ f, ⌜P j f⌝ ∗ l ↦[K j]{q} f) ∗ bigSep S fun j => iprop(∃ f, ⌜P j f⌝ ∗ l ↦[K j]{q} f)) ⊢ (_ : sProp 𝕄)
    iintro ⟨⟨%f, %hf, H⟩, HS⟩
    ihave ⟨%g, %hg, HS⟩ := ih $$ HS
    icombine H HS as H
    ihave H := (pointsTo_join hdis) $$ H
    iexists ((S.biUnion K).piecewise g f)
    isplitr
    · ipureintro
      intro j' h'
      rcases Finset.mem_insert.mp h' with rfl | h'
      · refine hP _ f _ (fun i hi => ?_) hf
        rw [Finset.piecewise_eq_of_notMem _ _ _ (Finset.disjoint_left.mp hdis hi)]
      · refine hP _ g _ (fun i hi => ?_) (hg j' h')
        rw [Finset.piecewise_eq_of_mem _ _ _ (Finset.mem_biUnion.mpr ⟨j', h', hi⟩)]
    · iexact H

/-- And one piece is the pieces. -/
theorem split_pieces {J : Type} [DecidableEq J] {l : Loc nD τ sig} {q : PosShare TreeShare} (K : J → Finset (Idx l))
    (P : J → Buf (Elt F) l → Prop) (hd : ∀ j j', j ≠ j' → Disjoint (K j) (K j')) (g : Buf (Elt F) l) (S : Finset J) (hg : ∀ j ∈ S, P j g) :
    (l ↦[S.biUnion K]{q} g : sProp 𝕄) ⊢ (bigSep S fun j => (iprop(∃ f, ⌜P j f⌝ ∗ l ↦[K j]{q} f) : sProp 𝕄)) := by
  rw [pointsTo_biUnion S K fun j _ j' _ h => hd j j' h]
  refine bigSep_mono fun j hj => ?_
  show (l ↦[K j]{q} g : sProp 𝕄) ⊢ iprop(∃ f, ⌜P j f⌝ ∗ l ↦[K j]{q} f)
  iintro H
  iexists g
  isplitr
  · ipureintro; exact hg j hj
  · iexact H

/-- What two landings of a lane take. -/
theorem band_disjoint (ℓ : Bool) (j j' : Fin 30) (h : j ≠ j') :
    Disjoint (landM ℓ j.castSucc).view.set (landM ℓ j'.castSucc).view.set :=
  land_disjoint ℓ _ _ fun e => h (Fin.castSucc_injective _ e)

/-- The elements of the first thirty landings. -/
abbrev bandSet (ℓ : Bool) (c : Dev nD) : Finset (Idx ((lane ℓ).buf.view.loc (c : Thread nD τ))) :=
  Finset.univ.biUnion fun j : Fin 30 => (landM ℓ j.castSucc).view.set

/-- Some contents of a lane's buffer. -/
def someBuf (ℓ : Bool) (c : Dev nD) : Buf (Elt F) ((lane ℓ).buf.view.loc (c : Thread nD τ)) :=
  match ℓ with
  | true => fun _ => X c (ix2 (n0 := 64) (n1 := 2048) 0 0)
  | false => fun _ => X c (ix2 (n0 := 64) (n1 := 2048) 0 0)

theorem band_join (ℓ : Bool) (c : Dev nD) :
    bandKept X ℓ c ⊢ (iprop(∃ g, ⌜∀ j : Fin 30, (landM ℓ j.castSucc).view.read (Elt F) g = landed X ℓ c j.castSucc⌝ ∗
      ((lane ℓ).buf.view.loc (c : Thread nD τ)) ↦[bandSet ℓ c]{fullShare.right} g) : sProp 𝕄) := by
  refine (join_pieces (l := (lane ℓ).buf.view.loc (c : Thread nD τ)) (q := fullShare.right) (fun j : Fin 30 => (landM ℓ j.castSucc).view.set)
    (fun j g => (landM ℓ j.castSucc).view.read (Elt F) g = landed X ℓ c j.castSucc)
    (fun j f g h e => (View.read_congr (v := (landM ℓ j.castSucc).view) h).symm.trans e) (band_disjoint ℓ)
    (someBuf X ℓ c) Finset.univ).trans ?_
  iintro ⟨%g, %hg, H⟩
  iexists g
  isplitr
  · ipureintro; exact fun j => hg j (Finset.mem_univ j)
  · iexact H

theorem band_split (ℓ : Bool) (c : Dev nD) (g : Buf (Elt F) ((lane ℓ).buf.view.loc (c : Thread nD τ)))
    (hg : ∀ j : Fin 30, (landM ℓ j.castSucc).view.read (Elt F) g = landed X ℓ c j.castSucc) :
    (((lane ℓ).buf.view.loc (c : Thread nD τ)) ↦[bandSet ℓ c]{fullShare.right} g : sProp 𝕄) ⊢ bandKept X ℓ c :=
  split_pieces (l := (lane ℓ).buf.view.loc (c : Thread nD τ)) (q := fullShare.right) (fun j : Fin 30 => (landM ℓ j.castSucc).view.set)
    (fun j g => (landM ℓ j.castSucc).view.read (Elt F) g = landed X ℓ c j.castSucc) (band_disjoint ℓ) g Finset.univ fun j _ => hg j

/-! ## The bands -/

/-- The rows of the first `n` blocks of a band. -/
def bandRows (ℓ : Bool) (c : Dev nD) (n : ℕ) : Set ℕ := {r | ∃ m < n, r / 64 = (org ℓ (m + 1) c).val}

theorem bandRows_succ (ℓ : Bool) (c : Dev nD) (n : ℕ) : bandRows ℓ c (n + 1) ⊆ bandRows ℓ c n ∪ rows (org ℓ (n + 1) c) := by
  rintro r ⟨m, hm, e⟩
  rcases Nat.lt_succ_iff_lt_or_eq.mp hm with h | rfl
  · exact .inl ⟨m, h, e⟩
  · exact .inr e

/-- The fifteen blocks of a lane's band. -/
theorem band_run (ℓ : Bool) (c : Dev nD) (D : Set ℕ) (k : Fin 15 → BitVec 32)
    (h : ∀ n a, posOff (k n) (lit2 c) a + S1.size a ≤ S32.size a)
    (hk : ∀ n : Fin 15, posOff (k n) (lit2 c) = ![(pos (org ℓ (n.val + 1) c)).val]) :
    iprop(tblAt c ∗ wtsAt W c ∗ bandKept X ℓ c ∗ outAt X W c D)
      ⊢ WP c (band tM wM oM (lane ℓ) (lit2 c) k h) fun _ =>
        iprop(tblAt c ∗ wtsAt W c ∗ bandKept X ℓ c ∗ outAt X W c (D ∪ bandRows ℓ c 15)) := by
  unfold band
  iintro ⟨Ht, Hw, Hb, Ho⟩
  ihave ⟨%g, %hg, Hb⟩ := (band_join X ℓ c) $$ Hb
  iapply (load_then c (lane ℓ).buf bandRect _ (bandSet ℓ c) fullShare.right g (band_subset ℓ)) $$ Hb
  rw [band_read X ℓ c g hg]
  iintro Hb
  ihave Hb := (band_split X ℓ c g hg) $$ Hb
  iapply (weights_then W c) $$ Hw
  iintro Hw
  have hl := run_loop (c := c) (F := F) iprop(emp) 15
    (fun n => lookupPut tM oM (k n) (lit2 c) (h n) (extractStridedSlice S64x64 ![64 * n.val, 0] (k0_pay3 (bandIn X ℓ c) (W c)) (band_slices n.isLt)))
    (fun _ => iprop(emp)) (fun _ => iprop(emp)) (fun n => iprop(tblAt c ∗ outAt X W c (D ∪ bandRows ℓ c n))) (fun n => by
      iintro ⟨-, ⟨Ht, Ho⟩, -⟩
      icombine Ht Ho as H
      iapply (run_last (lookup_put X W c (org ℓ (n.val + 1) c) (D ∪ bandRows ℓ c n.val) (k n) (h n) (hk n) (blkBand X W ℓ c n)
        (fun y => (blk_band X W ℓ c n y).symm))) $$ H
      iintro ⟨Ht, Ho⟩
      isplitl
      · isplitl [Ht]; · iexact Ht
        iapply (outAt_mono X W c ?_) $$ Ho
        rw [Set.union_assoc]
        exact Set.union_subset_union_right D (bandRows_succ ℓ c n.val)
      · iempintro)
  iapply (run_last hl) $$ [Ht Ho]
  · isplitr; · iempintro
    isplitl
    · isplitl [Ht]; · iexact Ht
      iapply (outAt_mono X W c ?_) $$ Ho
      rintro r (hr | ⟨m, hm, -⟩)
      · exact hr
      · exact absurd hm (Nat.not_lt_zero m)
    · rw [show (bigSep Finset.univ fun _ : Fin 15 => (iprop(emp) : sProp 𝕄)) = iprop(emp) from bigSep_emp_const _]; iempintro
  iintro ⟨⟨Ht, Ho⟩, -⟩
  iframe

/-! ## The far block -/

theorem slot_set_congr (b : Memref sig .tc .vmem S17x64x2048 .f32) (d i d' i' : ℕ) (hd : d < 17) (hi : i < 2) (hd' : d' < 17) (hi' : i' < 2)
    (ed : d = d') (ei : i = i') : (slotM b d i hd hi).view.set = (b.access (slotRect d' i' hd' hi')).set := by
  subst ed ei; exact slotM_set b d i hd hi

/-- A half of the block of the device half-way round. -/
theorem far_half (ℓ : Bool) (c b : Dev nD) (hb : b = org true 16 c) (D : Set ℕ) (i : Fin 2) (hi : i.val = last ℓ) (hv : k0_chk35 (lit3 (pos b))) :
    iprop(wtsAt W c ∗ kept X c ℓ 30 ∗ outAt X W c D)
      ⊢ WP c (farHalf wM oM (lane ℓ) i (lit3 (pos b)) hv) fun _ =>
        iprop(wtsAt W c ∗ kept X c ℓ 30 ∗ outAt X W c (D ∪ halfRows b i)) := by
  unfold farHalf
  iintro ⟨Hw, Hk, Ho⟩
  unfold kept heldAt outAt
  icases Hk with ⟨%g, %hg, Hk⟩
  icases Ho with ⟨%f, %hf, Ho⟩
  have hset : ((lane ℓ).buf.access (slotRect 16 i.val (Nat.lt_succ_self 16) i.isLt)).set
      ⊆ ((landM ℓ 30).view.set : Finset (Idx ((lane ℓ).buf.view.loc (c : Thread nD τ)))) :=
    (slot_set_congr (lane ℓ).buf _ _ _ _ _ _ _ _ rfl hi.symm).symm.subset
  have hin : (pts (landM ℓ 30) c fullShare.right g : sProp 𝕄)
      ⊢ ((lane ℓ).buf.view.loc (c : Thread nD τ)) ↦[(landM ℓ 30).view.set]{fullShare.right} g := .rfl
  have hout : ((((lane ℓ).buf.view.loc (c : Thread nD τ)) ↦[(landM ℓ 30).view.set]{fullShare.right} g) : sProp 𝕄)
      ⊢ pts (landM ℓ 30) c fullShare.right g := .rfl
  ihave Hk := hin $$ Hk
  iapply (load_then c (lane ℓ).buf (slotRect 16 i.val (Nat.lt_succ_self 16) i.isLt) _ (landM ℓ 30).view.set fullShare.right g hset) $$ Hk
  rw [far_read X ℓ c i hi g hg]
  iintro Hk
  iapply (weights_then W c) $$ Hw
  iintro Hw
  iapply (load_then c oM (Rect.unit (s := S2048x64) (k0_off64 (lit3 (pos b)) (BitVec.ofNat 32 (32 * i.val))) S32x64.size (k0_off64_inb _ hv i)) _
    Finset.univ fullShare f (Finset.subset_univ _)) $$ Ho
  iintro Ho
  unfold WP
  iapply (wp_store 𝒱₀ (c : Thread nD τ) none Set.univ (m := oM)
    (r := Rect.unit (s := S2048x64) (k0_off64 (lit3 (pos b)) (BitVec.ofNat 32 (32 * i.val))) S32x64.size (k0_off64_inb _ hv i))
    (S := Finset.univ) (f := f) (Finset.subset_univ _)) $$ Ho
  iintro Ho
  rw [wp_ret]
  imodintro
  isplitl [Hw]; · iexact Hw
  isplitl [Hk]
  · iexists g
    isplitr; · ipureintro; exact hg
    iapply hout $$ Hk
  iexists _
  isplitr [Ho]
  rotate_left
  · iexact Ho
  · ipureintro
    exact agree_half X W c b D hb i _ _ (by rw [off64_eq, there_pos]) _ f rfl hf

end Cert.KernelIdeal.Ring

end
-- ==== Proof.Buffers.lean ====
module

public import proofs.«01_k».proof.Proof.Bands

@[expose] public section

noncomputable section

/-! # The operand and the lanes' buffers, in parts and whole

Each lane sends the operand's two halves at a share of its own, and the device reads it at a third; the
shares come back and make the operand again. A lane's buffer is thirty-one half slots and the rest of it. -/

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → S64x2048.Idx → Elt F .f32)

/-! ## The operand -/

theorem src_cover : (Finset.univ : Finset S64x2048.Idx) = Finset.univ.biUnion fun i : Fin 2 => (srcM xM i.val i.isLt).view.set := by
  refine (Finset.eq_univ_iff_forall.mpr fun e => ?_).symm
  have h0 : (e 0).val < 64 := (e 0).isLt
  have h1 : (e 1).val < 2048 := (e 1).isLt
  refine Finset.mem_biUnion.mpr ⟨⟨(e 0).val / 32, by omega⟩, Finset.mem_univ _, ?_⟩
  have he : (srcRect ((e 0).val / 32) (by omega)).emb (ix2 (n0 := 32) (n1 := 2048) ⟨(e 0).val % 32, by omega⟩ ⟨(e 1).val, h1⟩) = e := by
    funext a
    apply Fin.ext
    rw [Rect.emb_apply]
    match a with
    | ⟨0, _⟩ => show 32 * ((e 0).val / 32) + 1 * ((e 0).val % 32) = (e 0).val; omega
    | ⟨1, _⟩ => show 0 + 1 * (e 1).val = (e 1).val; omega
  exact Finset.mem_map.mpr ⟨_, Finset.mem_univ _, he⟩

theorem src_disjoint (i i' : Fin 2) (h : i ≠ i') : Disjoint (srcM xM i.val i.isLt).view.set (srcM xM i'.val i'.isLt).view.set := by
  refine Finset.disjoint_left.mpr fun e he he' => h (Fin.ext ?_)
  obtain ⟨y, -, hy⟩ := Finset.mem_map.mp he
  obtain ⟨y', -, hy'⟩ := Finset.mem_map.mp he'
  have e0 : ((srcRect i.val i.isLt).emb y 0).val = ((srcRect i'.val i'.isLt).emb y' 0).val :=
    congrArg (fun z : S64x2048.Idx => (z 0).val) (hy.trans hy'.symm)
  rw [Rect.emb_apply, Rect.emb_apply] at e0
  have hr : (y 0).val < 32 := (y 0).isLt
  have hr' : (y' 0).val < 32 := (y' 0).isLt
  have e0 : 32 * i.val + 1 * (y 0).val = 32 * i'.val + 1 * (y' 0).val := e0
  omega

/-- The operand at a share is its two halves at the share. -/
theorem op_halves (c : Dev nD) (q : PosShare TreeShare) :
    opAt X c q ⊢ iprop(heldAt (srcM xM 0 (by omega)) c q (halfOf 0 (by omega) (X c)) ∗ heldAt (srcM xM 1 (by omega)) c q (halfOf 1 (by omega) (X c))) := by
  unfold opAt
  have h := split_pieces (F := F) (l := xM.view.loc (c : Thread nD τ)) (q := q) (fun i : Fin 2 => (srcM xM i.val i.isLt).view.set)
    (fun i f => (srcM xM i.val i.isLt).view.read (Elt F) f = halfOf i.val i.isLt (X c)) src_disjoint (X c) Finset.univ (fun i _ => rfl)
  rw [bigSep_fin_two] at h
  refine Entails.trans (Entails.of_eq ?_) h
  exact congrArg (fun S => (xM.view.loc (c : Thread nD τ) ↦[S]{q} (X c) : sProp 𝕄)) src_cover

/-- Two pieces that take different elements are one. -/
theorem join_two {l : Loc nD τ sig} {q : PosShare TreeShare} {I J : Finset (Idx l)} (h : Disjoint I J) :
    iprop((∃ f, l ↦[I]{q} f) ∗ ∃ f, l ↦[J]{q} f) ⊢ (iprop(∃ g, l ↦[I ∪ J]{q} g) : sProp 𝕄) := by
  iintro ⟨⟨%f, H0⟩, %f', H1⟩
  icombine H0 H1 as H
  ihave H := (pointsTo_join h) $$ H
  iexists _; iexact H

theorem src_union : (srcM xM 0 (Nat.succ_pos 1)).view.set ∪ (srcM xM 1 (Nat.lt_succ_self 1)).view.set = (Finset.univ : Finset S64x2048.Idx) := by
  have gen : ∀ K : Fin 2 → Finset S64x2048.Idx, K 0 ∪ K 1 = Finset.univ.biUnion K := fun K => by
    ext e; simp [Fin.exists_fin_two]
  exact (gen fun i => (srcM xM i.val i.isLt).view.set).trans src_cover.symm

/-- Its two halves at a share, whatever they hold, are a whole at the share. -/
theorem op_join (c : Dev nD) (q : PosShare TreeShare) :
    iprop(anyAt (srcM xM 0 (Nat.succ_pos 1)) c q ∗ anyAt (srcM xM 1 (Nat.lt_succ_self 1)) c q)
      ⊢ (iprop(∃ g, (xM.view.loc (c : Thread nD τ)) ↦[Finset.univ]{q} g) : sProp 𝕄) := by
  have h := join_two (F := F) (l := xM.view.loc (c : Thread nD τ)) (q := q) (src_disjoint 0 1 (by decide))
  exact h.trans (Entails.of_eq (congrArg (fun S => (iprop(∃ g, (xM.view.loc (c : Thread nD τ)) ↦[S]{q} g) : sProp 𝕄)) src_union))

/-- A share of the operand, and the other half of the share whatever it holds, are the whole share. -/
theorem op_merge (c : Dev nD) (q : PosShare TreeShare) :
    iprop((∃ g, (xM.view.loc (c : Thread nD τ)) ↦[Finset.univ]{q.left} g) ∗ opAt X c q.right) ⊢ (opAt X c q : sProp 𝕄) := by
  unfold opAt
  iintro ⟨⟨%g, H1⟩, H2⟩
  icombine H1 H2 as H
  ihave %hag := pointsTo_agree $$ H
  icases H with ⟨H1, H2⟩
  iapply (pointsTo_share (PosShare.mem_left_op_right q)).2
  isplitr [H2]
  rotate_left; · iexact H2
  rw [pointsTo_congr (f := X c) (g := g) fun i hi => (hag i (Finset.mem_inter.mpr ⟨hi, hi⟩)).1.symm]
  iexact H1

theorem op_share (c : Dev nD) (q : PosShare TreeShare) : opAt X c q ⊢ iprop(opAt X c q.left ∗ opAt X c q.right) :=
  (pointsTo_share (PosShare.mem_left_op_right q)).1

/-! ## A lane's buffer -/

/-- The elements of a lane's landings. -/
abbrev landSet (ℓ : Bool) (c : Dev nD) : Finset (Idx ((lane ℓ).buf.view.loc (c : Thread nD τ))) :=
  Finset.univ.biUnion fun j : Fin 31 => (landM ℓ j).view.set

/-- A lane's buffer, whatever it holds. -/
def bufAt (ℓ : Bool) (c : Dev nD) : sProp 𝕄 := iprop(∃ f, ((lane ℓ).buf.view.loc (c : Thread nD τ)) ↦[Finset.univ]{fullShare} f)

/-- The rest of a lane's buffer. -/
def restAt (ℓ : Bool) (c : Dev nD) : sProp 𝕄 :=
  iprop(∃ f, ((lane ℓ).buf.view.loc (c : Thread nD τ)) ↦[Finset.univ \ landSet ℓ c]{fullShare} f)

/-- All landings of a lane at a share. -/
abbrev landsAt (ℓ : Bool) (c : Dev nD) (q : PosShare TreeShare) : sProp 𝕄 := bigSep Finset.univ fun j : Fin 31 => anyAt (landM ℓ j) c q

theorem buf_open (ℓ : Bool) (c : Dev nD) : bufAt ℓ c ⊢ (iprop(landsAt ℓ c fullShare ∗ restAt ℓ c) : sProp 𝕄) := by
  unfold bufAt restAt
  iintro ⟨%f, H⟩
  ihave H := (pointsTo_split_subset (Finset.subset_univ (landSet ℓ c))).1 $$ H
  icases H with ⟨H1, H2⟩
  isplitl [H1]
  · have h := split_pieces (F := F) (l := (lane ℓ).buf.view.loc (c : Thread nD τ)) (q := fullShare) (fun j : Fin 31 => (landM ℓ j).view.set)
      (fun _ _ => True) (land_disjoint ℓ) f Finset.univ (fun _ _ => trivial)
    ihave H1 := h $$ H1
    iapply (show (bigSep Finset.univ fun j : Fin 31 => (iprop(∃ f, ⌜True⌝ ∗ ((lane ℓ).buf.view.loc (c : Thread nD τ)) ↦[(landM ℓ j).view.set]{fullShare} f) : sProp 𝕄))
      ⊢ landsAt ℓ c fullShare from bigSep_mono fun j _ => (show iprop(∃ f, ⌜True⌝ ∗ ((lane ℓ).buf.view.loc (c : Thread nD τ)) ↦[(landM ℓ j).view.set]{fullShare} f) ⊢ (anyAt (landM ℓ j) c fullShare : sProp 𝕄) by
        iintro ⟨%f, -, H⟩; unfold anyAt; iexists f; iexact H)) $$ H1
  · iexists f; iexact H2

theorem buf_close (ℓ : Bool) (c : Dev nD) : iprop(landsAt ℓ c fullShare ∗ restAt ℓ c) ⊢ (bufAt ℓ c : sProp 𝕄) := by
  unfold bufAt restAt
  iintro ⟨H1, %f, H2⟩
  have h := join_pieces (F := F) (l := (lane ℓ).buf.view.loc (c : Thread nD τ)) (q := fullShare) (fun j : Fin 31 => (landM ℓ j).view.set)
    (fun _ _ => True) (fun _ _ _ _ _ => trivial) (land_disjoint ℓ) f Finset.univ
  ihave ⟨%g, -, H1⟩ := h $$ [H1]
  · iapply (show landsAt ℓ c fullShare ⊢ (bigSep Finset.univ fun j : Fin 31 => (iprop(∃ f, ⌜True⌝ ∗ ((lane ℓ).buf.view.loc (c : Thread nD τ)) ↦[(landM ℓ j).view.set]{fullShare} f) : sProp 𝕄))
      from bigSep_mono fun j _ => (show (anyAt (landM ℓ j) c fullShare : sProp 𝕄) ⊢ iprop(∃ f, ⌜True⌝ ∗ ((lane ℓ).buf.view.loc (c : Thread nD τ)) ↦[(landM ℓ j).view.set]{fullShare} f) by
        unfold anyAt; iintro ⟨%f, H⟩; iexists f; isplitr; · ipureintro; trivial
        iexact H)) $$ H1
  icombine H1 H2 as H
  ihave H := (pointsTo_join (Finset.disjoint_sdiff)) $$ H
  rw [Finset.union_sdiff_of_subset (Finset.subset_univ _)]
  iexists _; iexact H

/-! ## What comes back of a lane -/

theorem sendPay_js (ℓ : Bool) (c : Dev nD) (n : Fin 14) (i : Fin 2) :
    (sendPay ℓ c (js n i) : sProp 𝕄) = anyAt (landM ℓ (jr n i)) c fullShare.left := by
  have h0 : dj (js n i) ≠ 0 := by rw [dj_js]; omega
  unfold sendPay originM qOf
  rw [if_neg h0, if_neg h0]
  congr 1
  exact slotM_congr _ (by rw [dj_js, dj_jr]) (by rw [ij_js, ij_jr]) _ _ _ _

theorem sendPay_cw (c : Dev nD) : (sendPay true c 30 : sProp 𝕄) = anyAt (landM true 28) c fullShare.left := rfl
theorem sendPay_ccw (c : Dev nD) : (sendPay false c 30 : sProp 𝕄) = anyAt (landM false 29) c fullShare.left := rfl

theorem onward_any (ℓ : Bool) (c : Dev nD) (j : Fin 31) : onward X c ℓ j ⊢ (anyAt (landM ℓ j) c fullShare.left : sProp 𝕄) :=
  heldAt_any (landM ℓ j) c fullShare.left (landed X ℓ c j)
theorem kept_any (ℓ : Bool) (c : Dev nD) (j : Fin 31) : kept X c ℓ j ⊢ (anyAt (landM ℓ j) c fullShare.right : sProp 𝕄) :=
  heldAt_any (landM ℓ j) c fullShare.right (landed X ℓ c j)

/-- The sources of the turns. -/
theorem turns_back (ℓ : Bool) (c : Dev nD) :
    (bigSep Finset.univ fun n : Fin 14 => (iprop(sendPay ℓ c (js n 0) ∗ sendPay ℓ c (js n 1)) : sProp 𝕄))
      ⊢ bigSep Finset.univ fun n : Fin 14 => (iprop(anyAt (landM ℓ (jr n 0)) c fullShare.left ∗ anyAt (landM ℓ (jr n 1)) c fullShare.left) : sProp 𝕄) := by
  refine bigSep_mono fun n _ => ?_
  show (iprop(sendPay ℓ c (js n 0) ∗ sendPay ℓ c (js n 1)) : sProp 𝕄) ⊢ iprop(anyAt (landM ℓ (jr n 0)) c fullShare.left ∗ anyAt (landM ℓ (jr n 1)) c fullShare.left)
  rw [sendPay_js, sendPay_js]

/-- Every landing, at what is kept of it and what came back of it. -/
theorem lands_join (ℓ : Bool) (c : Dev nD) :
    iprop(landsAt ℓ c fullShare.left ∗ bigSep Finset.univ fun j : Fin 31 => kept X c ℓ j) ⊢ (landsAt ℓ c fullShare : sProp 𝕄) := by
  rw [← bigSep_sep']
  refine bigSep_mono fun j _ => ?_
  show iprop(anyAt (landM ℓ j) c fullShare.left ∗ kept X c ℓ j) ⊢ (anyAt (landM ℓ j) c fullShare : sProp 𝕄)
  iintro ⟨H1, H2⟩
  iapply (anyAt_join (landM ℓ j) c fullShare)
  isplitl [H1]; · iexact H1
  iapply (kept_any X ℓ c j) $$ H2

/-- The sources that came back, and the landings not sent on: the clockwise lane. -/
theorem lands_cw (c : Dev nD) :
    iprop((bigSep Finset.univ fun n : Fin 14 => iprop(sendPay true c (js n 0) ∗ sendPay true c (js n 1))) ∗ sendPay true c 30
      ∗ onward X c true 29 ∗ onward X c true 30) ⊢ (landsAt true c fullShare.left : sProp 𝕄) := by
  unfold landsAt
  rw [bigSep_landings]
  iintro ⟨H1, H2, H3, H4⟩
  isplitl [H1]
  · iapply (turns_back true c) $$ H1
  isplitl [H2]; · iapply (Entails.of_eq (sendPay_cw c)) $$ H2
  isplitl [H3]; · iapply (onward_any X true c 29) $$ H3
  iapply (onward_any X true c 30) $$ H4

/-- The same of the counter-clockwise lane. -/
theorem lands_ccw (c : Dev nD) :
    iprop((bigSep Finset.univ fun n : Fin 14 => iprop(sendPay false c (js n 0) ∗ sendPay false c (js n 1))) ∗ sendPay false c 30
      ∗ onward X c false 28 ∗ onward X c false 30) ⊢ (landsAt false c fullShare.left : sProp 𝕄) := by
  unfold landsAt
  rw [bigSep_landings]
  iintro ⟨H1, H2, H3, H4⟩
  isplitl [H1]
  · iapply (turns_back false c) $$ H1
  isplitl [H3]; · iapply (onward_any X false c 28) $$ H3
  isplitl [H2]; · iapply (Entails.of_eq (sendPay_ccw c)) $$ H2
  iapply (onward_any X false c 30) $$ H4

end Cert.KernelIdeal.Ring

end
-- ==== Proof.Rounds.lean ====
module

public import proofs.«01_k».proof.Proof.Buffers

@[expose] public section

noncomputable section

/-! # What follows the meeting

The sends, the hops, the blocks and the waits for the sends, run in the program's order from what a device
holds after the meeting. At the end the result holds the specification, and the operand, the weights, the
table and both lanes' landings are back. -/

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

attribute [local irreducible] loop

variable (X : Dev nD → S64x2048.Idx → Elt F .f32) (W : Dev nD → S2048x64.Idx → Elt F .f32) (κ : GSem nD τ sig → ℕ) (c : Dev nD)

/-! ## The turns of both lanes -/

/-- A family over the turns' landings, and over the copies made in the turns. -/
abbrev overR (Φ : Fin 31 → sProp 𝕄) : sProp 𝕄 := bigSep Finset.univ fun n : Fin 14 => iprop(Φ (jr n 0) ∗ Φ (jr n 1))
abbrev overS (Φ : Fin 31 → sProp 𝕄) : sProp 𝕄 := bigSep Finset.univ fun n : Fin 14 => iprop(Φ (js n 0) ∗ Φ (js n 1))

theorem hops_pre :
    iprop(overR (toRecv (F := F) true c) ∗ overS (toSend true c) ∗ overR (toRecv false c) ∗ overS (toSend false c))
      ⊢ bigSep Finset.univ fun n : Fin 14 => (iprop(hopPre c true n ∗ hopPre c false n) : sProp 𝕄) := by
  rw [← bigSep_sep', ← bigSep_sep', ← bigSep_sep']
  refine bigSep_mono fun n _ => ?_
  show (iprop((toRecv true c (jr n 0) ∗ toRecv true c (jr n 1)) ∗ (toSend true c (js n 0) ∗ toSend true c (js n 1))
    ∗ (toRecv false c (jr n 0) ∗ toRecv false c (jr n 1)) ∗ toSend false c (js n 0) ∗ toSend false c (js n 1)) : sProp 𝕄)
    ⊢ iprop(hopPre c true n ∗ hopPre c false n)
  unfold hopPre
  iintro ⟨H1, H2, H3, H4⟩
  iframe

theorem hops_post :
    (bigSep Finset.univ fun n : Fin 14 => (iprop(hopPost X c true n ∗ hopPost X c false n) : sProp 𝕄))
      ⊢ iprop((overR (recvDone true c) ∗ overR (kept X c true) ∗ overS (sent true c))
        ∗ overR (recvDone false c) ∗ overR (kept X c false) ∗ overS (sent false c)) := by
  rw [← bigSep_sep', ← bigSep_sep', ← bigSep_sep', ← bigSep_sep', ← bigSep_sep']
  refine bigSep_mono fun n _ => ?_
  show (iprop(hopPost X c true n ∗ hopPost X c false n) : sProp 𝕄)
    ⊢ iprop(((recvDone true c (jr n 0) ∗ recvDone true c (jr n 1)) ∗ (kept X c true (jr n 0) ∗ kept X c true (jr n 1))
      ∗ sent true c (js n 0) ∗ sent true c (js n 1))
      ∗ (recvDone false c (jr n 0) ∗ recvDone false c (jr n 1)) ∗ (kept X c false (jr n 0) ∗ kept X c false (jr n 1))
      ∗ sent false c (js n 0) ∗ sent false c (js n 1))
  unfold hopPost
  iintro ⟨⟨⟨⟨A1, A2⟩, A3, A4⟩, A5, A6⟩, ⟨⟨B1, B2⟩, B3, B4⟩, B5, B6⟩
  iframe

theorem dones_pre :
    iprop((overS (sent (F := F) true c) ∗ overS (toDone true c)) ∗ overS (sent false c) ∗ overS (toDone false c))
      ⊢ bigSep Finset.univ fun n : Fin 14 =>
        (iprop((leaving c true (js n 0) ∗ leaving c true (js n 1)) ∗ leaving c false (js n 0) ∗ leaving c false (js n 1)) : sProp 𝕄) := by
  rw [← bigSep_sep', ← bigSep_sep', ← bigSep_sep']
  refine bigSep_mono fun n _ => ?_
  show (iprop(((sent true c (js n 0) ∗ sent true c (js n 1)) ∗ toDone true c (js n 0) ∗ toDone true c (js n 1))
    ∗ (sent false c (js n 0) ∗ sent false c (js n 1)) ∗ toDone false c (js n 0) ∗ toDone false c (js n 1)) : sProp 𝕄)
    ⊢ iprop((leaving c true (js n 0) ∗ leaving c true (js n 1)) ∗ leaving c false (js n 0) ∗ leaving c false (js n 1))
  unfold leaving
  iintro ⟨⟨⟨A1, A2⟩, A3, A4⟩, ⟨B1, B2⟩, B3, B4⟩
  iframe

/-- A copy has left, and its cell is done with. -/
def sendEnd (ℓ : Bool) (c : Dev nD) (j : Fin 31) : sProp 𝕄 := iprop(atPos ER (sendCell ℓ c j) 1 ∅ 0)

theorem dones_post :
    (bigSep Finset.univ fun n : Fin 14 =>
      (iprop((sendDone true c (js n 0) ∗ sendDone true c (js n 1)) ∗ sendDone false c (js n 0) ∗ sendDone false c (js n 1)) : sProp 𝕄))
      ⊢ iprop((overS (sendEnd true c) ∗ overS (sendPay true c)) ∗ overS (sendEnd false c) ∗ overS (sendPay false c)) := by
  rw [← bigSep_sep', ← bigSep_sep', ← bigSep_sep']
  refine bigSep_mono fun n _ => ?_
  show (iprop((sendDone true c (js n 0) ∗ sendDone true c (js n 1)) ∗ sendDone false c (js n 0) ∗ sendDone false c (js n 1)) : sProp 𝕄)
    ⊢ iprop(((sendEnd true c (js n 0) ∗ sendEnd true c (js n 1)) ∗ sendPay true c (js n 0) ∗ sendPay true c (js n 1))
      ∗ (sendEnd false c (js n 0) ∗ sendEnd false c (js n 1)) ∗ sendPay false c (js n 0) ∗ sendPay false c (js n 1))
  unfold sendDone sendEnd
  iintro ⟨⟨⟨A1, A2⟩, A3, A4⟩, ⟨B1, B2⟩, B3, B4⟩
  iframe

/-- The first thirty landings: those of the turns, then the last two. -/
theorem bigSep_band (Φ : Fin 31 → sProp 𝕄) :
    (bigSep Finset.univ fun j : Fin 30 => Φ j.castSucc) = iprop(overR Φ ∗ Φ 28 ∗ Φ 29) := by
  refine (bigSep_map (s := Finset.univ) (Φ := Φ) Fin.castSuccEmb).symm.trans ?_
  rw [show (Finset.univ.map Fin.castSuccEmb : Finset (Fin 31)) = Finset.univ.map (turns 0 (by omega)) ∪ {28, 29} from by decide,
    bigSep_union (by decide), bigSep_turns, bigSep_insert (by decide), bigSep_singleton]; rfl

/-- All landings: those of the band, then the last. -/
theorem bigSep_last (Φ : Fin 31 → sProp 𝕄) :
    iprop((bigSep Finset.univ fun j : Fin 30 => Φ j.castSucc) ∗ Φ 30) ⊢ (bigSep Finset.univ Φ : sProp 𝕄) := by
  rw [bigSep_band, bigSep_landings]
  iintro ⟨⟨H1, H2, H3⟩, H4⟩
  iframe

/-! ## The rows stored -/

/-- The rows of the result that have been stored at the end. -/
abbrev allRows : Set ℕ :=
  ((((∅ ∪ rows c) ∪ bandRows true c 15) ∪ bandRows false c 15) ∪ halfRows (org true 16 c) 0) ∪ halfRows (org true 16 c) 1

theorem allRows_all : ∀ r < 2048, r ∈ allRows c := by
  intro r hr
  have hb : r / 64 < 32 := by omega
  rcases reach c ⟨r / 64, hb⟩ with e | ⟨n, e⟩ | ⟨n, e⟩ | e
  · exact .inl (.inl (.inl (.inl (.inr (congrArg Fin.val e)))))
  · exact .inl (.inl (.inl (.inr ⟨n.val, n.isLt, congrArg Fin.val e⟩)))
  · exact .inl (.inl (.inr ⟨n.val, n.isLt, congrArg Fin.val e⟩))
  · have e : r / 64 = (org true 16 c).val := congrArg Fin.val e
    by_cases h : r / 32 = 2 * (org true 16 c).val
    · exact .inl (.inr (by show r / 32 = 2 * (org true 16 c).val + 0; omega))
    · exact .inr (by show r / 32 = 2 * (org true 16 c).val + 1; omega)

/-! ## The last slot -/

/-- The blocks of the device half-way round, each half as it lands. -/
theorem far_run (D : Set ℕ) (h : ∀ a, posOff 16#32 (lit2 c) a + S1.size a ≤ S32.size a) :
    iprop(ctx X κ ∗ acct c 64 ∗ toRecv true c 30 ∗ toRecv false c 30 ∗ tblAt c ∗ wtsAt W c ∗ outAt X W c D)
      ⊢ WP c (farBlock tM wM oM (lane true) (lane false) (lit2 c) h) fun _ =>
        iprop(acct c 64 ∗ (recvDone true c 30 ∗ onward X c true 30 ∗ kept X c true 30) ∗ (recvDone false c 30 ∗ onward X c false 30 ∗ kept X c false 30)
          ∗ tblAt c ∗ wtsAt W c ∗ outAt X W c ((D ∪ halfRows (org true 16 c) 0) ∪ halfRows (org true 16 c) 1)) := by
  unfold farBlock
  iintro ⟨#Hctx, HA, H1, H0, Ht, Hw, Ho⟩
  iapply (lookup_then c (pos (org true 16 c)) 16#32 h (posOff_far c)) $$ Ht
  iintro Ht
  iapply (assume_then c (k0_chk35 (lit3 (pos (org true 16 c)))) _ (chk35_ok _))
  iapply (run_then (wait_slot X κ c true 30 _ _ rfl rfl 64 (show 4 * (dj 30 + 1) ≤ 64 by decide))) $$ [HA H1]
  · iframe; iexact Hctx
  iintro ⟨HA, H1d, H1o, H1k⟩
  iapply (run_then (wait_slot X κ c false 30 _ _ rfl rfl 64 (show 4 * (dj 30 + 1) ≤ 64 by decide))) $$ [HA H0]
  · iframe; iexact Hctx
  iintro ⟨HA, H0d, H0o, H0k⟩
  iapply (run_then (far_half X W true c _ rfl D 0 rfl (chk35_ok _))) $$ [Hw H1k Ho]
  · iframe
  iintro ⟨Hw, H1k, Ho⟩
  iapply (run_last (far_half X W false c _ rfl _ 1 rfl (chk35_ok _))) $$ [Hw H0k Ho]
  · iframe
  iintro ⟨Hw, H0k, Ho⟩
  iframe

/-! ## The whole -/

/-- What a device holds of one lane after the meeting: to make each copy, to wait for each to land and to leave. -/
def laneStart (ℓ : Bool) : sProp 𝕄 :=
  iprop(bigSep Finset.univ (toSend (F := F) ℓ c) ∗ bigSep Finset.univ (toRecv (F := F) ℓ c) ∗ bigSep Finset.univ (toDone (F := F) ℓ c))

/-- What it holds of one lane at the end: every cell done with, and the landings. -/
def laneEnd (ℓ : Bool) : sProp 𝕄 :=
  iprop(bigSep Finset.univ (recvDone (F := F) ℓ c) ∗ bigSep Finset.univ (sendEnd (F := F) ℓ c) ∗ landsAt ℓ c fullShare)

theorem acct_skip : acct (F := F) c 61 ⊢ (acct c 63 : sProp 𝕄) := by
  unfold acct; rw [owing_skip]

theorem src_back_cw : iprop(sendPay (F := F) true c 0 ∗ sendPay true c 1)
    ⊢ iprop(anyAt (srcM xM 0 (Nat.succ_pos 1)) c fullShare.left ∗ anyAt (srcM xM 1 (Nat.lt_succ_self 1)) c fullShare.left) := .rfl
theorem src_back_ccw : iprop(sendPay (F := F) false c 0 ∗ sendPay false c 1)
    ⊢ iprop(anyAt (srcM xM 0 (Nat.succ_pos 1)) c fullShare.right.left ∗ anyAt (srcM xM 1 (Nat.lt_succ_self 1)) c fullShare.right.left) := .rfl

/-- A wait for a copy to have left, what comes of it apart. -/
theorem done_parts {p : BodyProg F PUnit} (ℓ : Bool) (j : Fin 31)
    (h : iprop(ctx X κ ∗ acct c 64 ∗ leaving c ℓ j) ⊢ WP c p fun _ => iprop(acct c 64 ∗ sendDone ℓ c j)) :
    iprop(ctx X κ ∗ acct c 64 ∗ sent ℓ c j ∗ toDone ℓ c j) ⊢ WP c p fun _ => iprop(acct c 64 ∗ sendEnd ℓ c j ∗ sendPay ℓ c j) := h

theorem rounds_run (h : PosOk (lit2 c)) :
    iprop(ctx X κ ∗ acct c 0 ∗ laneStart c true ∗ laneStart c false ∗ tblAt c ∗ opAt X c fullShare ∗ wtsAt W c ∗ outAt X W c ∅)
      ⊢ WP c (rounds tM xM wM oM (lane true) (lane false) (fwd true c) (fwd false c) (lit2 c) h) fun _ =>
        iprop(acct c 64 ∗ laneEnd c true ∗ laneEnd c false ∗ tblAt c ∗ opAt X c fullShare ∗ wtsAt W c ∗ outAt X W c (allRows c)) := by
  unfold rounds laneStart
  rw [bigSep_sends (toSend true c), bigSep_landings (toRecv true c), bigSep_sends (toDone true c),
    bigSep_sends (toSend false c), bigSep_landings (toRecv false c), bigSep_sends (toDone false c)]
  iintro ⟨#Hctx, HA, ⟨⟨S1t, S1a, S1b, S1z⟩, ⟨R1t, R1x, R1y, R1z⟩, ⟨D1t, D1a, D1b, D1z⟩⟩,
    ⟨⟨S0t, S0a, S0b, S0z⟩, ⟨R0t, R0x, R0y, R0z⟩, ⟨D0t, D0a, D0b, D0z⟩⟩, Ht, Hx, Hw, Ho⟩
  ihave ⟨Hx1, Hx⟩ := (op_share X c fullShare) $$ Hx
  ihave ⟨Hx0, Hx⟩ := (op_share X c fullShare.right) $$ Hx
  ihave ⟨Hx1a, Hx1b⟩ := (op_halves X c fullShare.left) $$ Hx1
  ihave ⟨Hx0a, Hx0b⟩ := (op_halves X c fullShare.right.left) $$ Hx0
  iapply (run_then (send_src X κ c true 0 _ rfl rfl 0 rfl)) $$ [HA S1a Hx1a]
  · iframe; isplitr; · iexact Hctx
    iexact Hx1a
  iintro ⟨HA, T1a⟩
  iapply (run_then (send_src X κ c true 1 _ rfl rfl 1 rfl)) $$ [HA S1b Hx1b]
  · iframe; isplitr; · iexact Hctx
    iexact Hx1b
  iintro ⟨HA, T1b⟩
  iapply (run_then (send_src X κ c false 0 _ rfl rfl 2 rfl)) $$ [HA S0a Hx0a]
  · iframe; isplitr; · iexact Hctx
    iexact Hx0a
  iintro ⟨HA, T0a⟩
  iapply (run_then (send_src X κ c false 1 _ rfl rfl 3 rfl)) $$ [HA S0b Hx0b]
  · iframe; isplitr; · iexact Hctx
    iexact Hx0b
  iintro ⟨HA, T0b⟩
  iapply (run_then (own_block X W c fullShare.right.right ∅ h.own)) $$ [Ht Hx Hw Ho]
  · iframe
  iintro ⟨Ht, Hx, Hw, Ho⟩
  ihave Hpre := (hops_pre c) $$ [S1t R1t S0t R0t]
  · iframe
  iapply (run_then (hops_run X κ c)) $$ [HA Hpre]
  · iframe; iexact Hctx
  iintro ⟨HA, Hpost⟩
  ihave ⟨⟨R1d, K1, T1t⟩, R0d, K0, T0t⟩ := (hops_post X c) $$ Hpost
  iapply (run_then (wait_slot X κ c true 28 _ _ rfl rfl 60 (show 4 * 15 ≤ 60 by decide))) $$ [HA R1x]
  · iframe; iexact Hctx
  iintro ⟨HA, R1x, O1x, K1x⟩
  iapply (run_then (send_slot X κ c true 28 30 _ _ rfl rfl rfl rfl 60 rfl)) $$ [HA S1z O1x]
  · iframe; iexact Hctx
  iintro ⟨HA, T1z⟩
  iapply (run_then (wait_slot X κ c true 29 _ _ rfl rfl 61 (show 4 * 15 ≤ 61 by decide))) $$ [HA R1y]
  · iframe; iexact Hctx
  iintro ⟨HA, R1y, O1y, K1y⟩
  iapply (run_then (wait_slot X κ c false 28 _ _ rfl rfl 61 (show 4 * 15 ≤ 61 by decide))) $$ [HA R0x]
  · iframe; iexact Hctx
  iintro ⟨HA, R0x, O0x, K0x⟩
  iapply (run_then (wait_slot X κ c false 29 _ _ rfl rfl 61 (show 4 * 15 ≤ 61 by decide))) $$ [HA R0y]
  · iframe; iexact Hctx
  iintro ⟨HA, R0y, O0y, K0y⟩
  ihave HA := (acct_skip c) $$ HA
  iapply (run_then (send_slot X κ c false 29 30 _ _ rfl rfl rfl rfl 63 rfl)) $$ [HA S0z O0y]
  · iframe; iexact Hctx
  iintro ⟨HA, T0z⟩
  icombine K1 K1x K1y as K1
  ihave K1 := (Entails.of_eq (bigSep_band (kept X c true)).symm) $$ K1
  icombine K0 K0x K0y as K0
  ihave K0 := (Entails.of_eq (bigSep_band (kept X c false)).symm) $$ K0
  iapply (run_then (band_run X W true c _ kCw h.cw (posOff_cw c))) $$ [Ht Hw K1 Ho]
  · iframe
  iintro ⟨Ht, Hw, K1, Ho⟩
  iapply (run_then (band_run X W false c _ kCcw h.ccw (posOff_ccw c))) $$ [Ht Hw K0 Ho]
  · iframe
  iintro ⟨Ht, Hw, K0, Ho⟩
  iapply (run_then (far_run X W κ c _ h.far)) $$ [HA R1z R0z Ht Hw Ho]
  · iframe; iexact Hctx
  iintro ⟨HA, ⟨R1z, O1z, K1z⟩, ⟨R0z, O0z, K0z⟩, Ht, Hw, Ho⟩
  iapply (run_then (done_parts X κ c true 0 (done_src X κ c true 0 _ rfl rfl))) $$ [HA T1a D1a]
  · iframe; iexact Hctx
  iintro ⟨HA, E1a, P1a⟩
  iapply (run_then (done_parts X κ c true 1 (done_src X κ c true 1 _ rfl rfl))) $$ [HA T1b D1b]
  · iframe; iexact Hctx
  iintro ⟨HA, E1b, P1b⟩
  iapply (run_then (done_parts X κ c false 0 (done_src X κ c false 0 _ rfl rfl))) $$ [HA T0a D0a]
  · iframe; iexact Hctx
  iintro ⟨HA, E0a, P0a⟩
  iapply (run_then (done_parts X κ c false 1 (done_src X κ c false 1 _ rfl rfl))) $$ [HA T0b D0b]
  · iframe; iexact Hctx
  iintro ⟨HA, E0b, P0b⟩
  ihave Hpre := (dones_pre c) $$ [T1t D1t T0t D0t]
  · iframe
  iapply (run_then (dones_run X κ c)) $$ [HA Hpre]
  · iframe; iexact Hctx
  iintro ⟨HA, Hpost⟩
  ihave ⟨⟨E1t, P1t⟩, E0t, P0t⟩ := (dones_post c) $$ Hpost
  iapply (run_then (done_parts X κ c true 30 (done_slot X κ c true 30 _ _ rfl rfl))) $$ [HA T1z D1z]
  · iframe; iexact Hctx
  iintro ⟨HA, E1z, P1z⟩
  iapply (run_last (done_parts X κ c false 30 (done_slot X κ c false 30 _ _ rfl rfl))) $$ [HA T0z D0z]
  · iframe; iexact Hctx
  iintro ⟨HA, E0z, P0z⟩
  isplitl [HA]; · iexact HA
  unfold laneEnd
  rw [bigSep_landings (recvDone true c), bigSep_sends (sendEnd true c), bigSep_landings (recvDone false c), bigSep_sends (sendEnd false c)]
  isplitl [R1d R1x R1y R1z E1t E1a E1b E1z P1t P1z O1y O1z K1 K1z]
  · isplitl [R1d R1x R1y R1z]; · iframe
    isplitl [E1t E1a E1b E1z]; · iframe
    icombine K1 K1z as K1
    ihave K1 := (bigSep_last (kept X c true)) $$ K1
    ihave Hl := (lands_cw X c) $$ [P1t P1z O1y O1z]
    · iframe
    iapply (lands_join X true c) $$ [Hl K1]
    iframe
  isplitl [R0d R0x R0y R0z E0t E0a E0b E0z P0t P0z O0x O0z K0 K0z]
  · isplitl [R0d R0x R0y R0z]; · iframe
    isplitl [E0t E0a E0b E0z]; · iframe
    icombine K0 K0z as K0
    ihave K0 := (bigSep_last (kept X c false)) $$ K0
    ihave Hl := (lands_ccw X c) $$ [P0t P0z O0x O0z]
    · iframe
    iapply (lands_join X false c) $$ [Hl K0]
    iframe
  isplitl [Ht]; · iexact Ht
  isplitr [Hw Ho]
  · icombine P0a P0b as Hx0
    ihave Hx0 := (src_back_ccw c) $$ Hx0
    ihave Hx0 := (op_join c fullShare.right.left) $$ Hx0
    icombine P1a P1b as Hx1
    ihave Hx1 := (src_back_cw c) $$ Hx1
    ihave Hx1 := (op_join c fullShare.left) $$ Hx1
    ihave Hx := (op_merge X c fullShare.right) $$ [Hx0 Hx]
    · isplitl [Hx0]; · iexact Hx0
      iexact Hx
    iapply (op_merge X c fullShare)
    isplitl [Hx1]; · iexact Hx1
    iexact Hx
  isplitl [Hw]; · iexact Hw
  iexact Ho

end Cert.KernelIdeal.Ring

end
-- ==== Proof.Cells.lean ====
module

public import proofs.«01_k».proof.Proof.Rounds

@[expose] public section

noncomputable section

/-! # The copies' cells

A device's copy cells are opened before the body and closed after it; in between each is waited for once. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → S64x2048.Idx → Elt F .f32) (κ : GSem nD τ sig → ℕ)

/-- A copy cell of device `c`. -/
abbrev copyCell (c : Dev nD) (p : Bool × Bool × Fin 31) : GSem nD τ sig := ((c : Thread nD τ), cellSem (some p))

theorem ctx_copy (c : Dev nD) (p : Bool × Bool × Fin 31) :
    ctx X κ ⊢ cellInv ER (ringRd X) (κ (copyCell c p)) (copyCell c p) :=
  ctx_inv X κ (Finset.mem_union_right _ (Finset.mem_map.mpr ⟨(c, p), Finset.mem_univ _, rfl⟩))

/-- Everything of a device's copy cells, cell by cell: the senders' and the receivers' of each lane. -/
theorem bigSep_copies (Φ : Bool × Bool × Fin 31 → sProp 𝕄) :
    bigSep Finset.univ Φ = iprop(((bigSep Finset.univ fun j : Fin 31 => Φ (true, true, j)) ∗ bigSep Finset.univ fun j : Fin 31 => Φ (true, false, j))
      ∗ (bigSep Finset.univ fun j : Fin 31 => Φ (false, true, j)) ∗ bigSep Finset.univ fun j : Fin 31 => Φ (false, false, j)) := by
  rw [bigSep_univ_prod, bigSep_lanes]
  congr 1 <;> rw [bigSep_univ_prod, bigSep_lanes]

/-- Opening them: each stands at its first round. -/
theorem copies_open (c : Dev nD) :
    iprop(ctx X κ ∗ (bigSep Finset.univ fun p => openTok ER (copyCell c p)) ∗ bigSep Finset.univ fun p => semVal (copyCell c p) 0)
      ⊢ (|={Set.univ}=> bigSep Finset.univ fun p => iprop(atPos ER (copyCell c p) 0 ∅ 0 ∗ reached ER (copyCell c p) 0) : sProp 𝕄) := by
  rw [← bigSep_sep']
  refine (bigSep_with_persistent (R := ctx X κ) (Φ := fun p => iprop(openTok ER (copyCell c p) ∗ semVal (copyCell c p) 0))
    (Ψ := fun p => iprop(|={Set.univ}=> (atPos ER (copyCell c p) 0 ∅ 0 ∗ reached ER (copyCell c p) 0))) fun p _ => ?_).trans (bigSep_fupd (Fr := frame) (E := Set.univ) Finset.univ fun p => iprop(atPos ER (copyCell c p) 0 ∅ 0 ∗ reached ER (copyCell c p) 0))
  show (iprop(ctx X κ ∗ openTok ER (copyCell c p) ∗ semVal (copyCell c p) 0) : sProp 𝕄)
    ⊢ iprop(|={Set.univ}=> (atPos ER (copyCell c p) 0 ∅ 0 ∗ reached ER (copyCell c p) 0))
  iintro ⟨#Hctx, Ho, Hv⟩
  iapply (Rounds.cell_open ER (ringRd X) (g := copyCell c p) (Set.mem_univ (κ (copyCell c p))))
  isplitr; · iapply (ctx_copy X κ c p); iexact Hctx
  isplitl [Ho] <;> iassumption

/-- Closing them: each counts nothing. -/
theorem copies_close (c : Dev nD) :
    iprop(ctx X κ ∗ bigSep Finset.univ fun p => atPos ER (copyCell c p) 1 ∅ 0)
      ⊢ (|={Set.univ}=> bigSep Finset.univ fun p => semVal (copyCell c p) 0 : sProp 𝕄) := by
  refine (bigSep_with_persistent (R := ctx X κ) (Φ := fun p => atPos ER (copyCell c p) 1 ∅ 0)
    (Ψ := fun p => iprop(|={Set.univ}=> semVal (copyCell c p) 0)) fun p _ => ?_).trans (bigSep_fupd _ _)
  show (iprop(ctx X κ ∗ atPos ER (copyCell c p) 1 ∅ 0) : sProp 𝕄) ⊢ iprop(|={Set.univ}=> semVal (copyCell c p) 0)
  iintro ⟨#Hctx, Ha⟩
  iapply (Rounds.cell_close ER (ringRd X) (g := copyCell c p) (Set.mem_univ (κ (copyCell c p))) id (duties_later X _))
  isplitr; · iapply (ctx_copy X κ c p); iexact Hctx
  iexact Ha

/-- Closing the barrier's. -/
theorem bar_close (c : Dev nD) :
    iprop(ctx X κ ∗ atPos ER (barCell c) 1 ∅ 0) ⊢ (|={Set.univ}=> semVal (barCell c) 0 : sProp 𝕄) := by
  iintro ⟨#Hctx, Ha⟩
  iapply (Rounds.cell_close ER (ringRd X) (g := barCell c) (Set.mem_univ (κ (barCell c))) id (duties_later X _))
  isplitr; · iapply (ctx_bar X κ c); iexact Hctx
  iexact Ha

/-- What a device holds of its copies, before it knows its neighbours' slots: its cells at their first round,
the duties it pays, the landings it is owed. -/
def ready (c : Dev nD) (ℓ : Bool) : sProp 𝕄 :=
  iprop((bigSep Finset.univ fun j : Fin 31 => iprop(atPos ER (sendCell ℓ c j) 0 ∅ 0 ∗ reached ER (sendCell ℓ c j) 0))
    ∗ (bigSep Finset.univ fun j : Fin 31 => iprop(atPos ER (recvCell ℓ c j) 0 ∅ 0 ∗ reached ER (recvCell ℓ c j) 0))
    ∗ (bigSep Finset.univ fun j : Fin 31 => dutyTok ER (sendCell ℓ c j) 0 true)
    ∗ (bigSep Finset.univ fun j : Fin 31 => dutyTok ER (recvCell ℓ (fwd ℓ c) j) 0 true)
    ∗ bigSep Finset.univ fun j : Fin 31 => cred (tallyAt (recvCell ℓ c j) () N))

/-- What is left of it once the neighbour has been told. -/
def waiting (c : Dev nD) (ℓ : Bool) : sProp 𝕄 :=
  bigSep Finset.univ fun j : Fin 31 =>
    iprop((dutyTok ER (sendCell ℓ c j) 0 true ∗ reached ER (sendCell ℓ c j) 0 ∗ dutyTok ER (recvCell ℓ (fwd ℓ c) j) 0 true)
      ∗ toRecv ℓ c j ∗ toDone ℓ c j)

/-- The device a lane's slots are announced to is the one that sends to them. -/
theorem fwd_back (ℓ : Bool) (c : Dev nD) : fwd ℓ (fwd (!ℓ) c) = c := by
  simpa using fwd_fwd (!ℓ) c

/-- Announcing a lane's slots. -/
theorem announce (c : Dev nD) (ℓ : Bool) :
    iprop(ready c ℓ ∗ landsAt ℓ c fullShare) ⊢ (iprop(waiting c ℓ ∗ barPay (fwd (!ℓ) c) ℓ) : sProp 𝕄) := by
  unfold ready waiting barPay
  rw [fwd_back, ← bigSep_sep', ← bigSep_sep', ← bigSep_sep', ← bigSep_sep', ← bigSep_sep', ← bigSep_sep']
  refine bigSep_mono fun j _ => ?_
  show (iprop(((atPos ER (sendCell ℓ c j) 0 ∅ 0 ∗ reached ER (sendCell ℓ c j) 0) ∗ (atPos ER (recvCell ℓ c j) 0 ∅ 0 ∗ reached ER (recvCell ℓ c j) 0)
      ∗ dutyTok ER (sendCell ℓ c j) 0 true ∗ dutyTok ER (recvCell ℓ (fwd ℓ c) j) 0 true ∗ cred (tallyAt (recvCell ℓ c j) () N))
      ∗ anyAt (landM ℓ j) c fullShare) : sProp 𝕄)
    ⊢ iprop(((dutyTok ER (sendCell ℓ c j) 0 true ∗ reached ER (sendCell ℓ c j) 0 ∗ dutyTok ER (recvCell ℓ (fwd ℓ c) j) 0 true)
      ∗ toRecv ℓ c j ∗ toDone ℓ c j) ∗ anyAt (landM ℓ j) c fullShare ∗ reached ER (recvCell ℓ c j) 0)
  unfold toRecv toDone
  iintro ⟨⟨⟨A1, A2⟩, ⟨B1, B2⟩, T1, T2, C⟩, Hl⟩
  iframe

/-- Hearing of the neighbour's. -/
theorem heard (c : Dev nD) (ℓ : Bool) : iprop(waiting c ℓ ∗ barPay c ℓ) ⊢ (laneStart c ℓ : sProp 𝕄) := by
  unfold waiting barPay laneStart
  rw [← bigSep_sep', ← bigSep_sep', ← bigSep_sep']
  refine bigSep_mono fun j _ => ?_
  show (iprop(((dutyTok ER (sendCell ℓ c j) 0 true ∗ reached ER (sendCell ℓ c j) 0 ∗ dutyTok ER (recvCell ℓ (fwd ℓ c) j) 0 true)
      ∗ toRecv ℓ c j ∗ toDone ℓ c j) ∗ anyAt (landM ℓ j) (fwd ℓ c) fullShare ∗ reached ER (recvCell ℓ (fwd ℓ c) j) 0) : sProp 𝕄)
    ⊢ iprop(toSend ℓ c j ∗ toRecv ℓ c j ∗ toDone ℓ c j)
  unfold toSend
  iintro ⟨⟨⟨T1, T2, T3⟩, R, D⟩, A, B⟩
  iframe

/-- At the end of both lanes every copy cell is done with. -/
theorem ends_copies (c : Dev nD) :
    iprop(((bigSep Finset.univ (sendEnd (F := F) true c)) ∗ bigSep Finset.univ (sendEnd (F := F) false c))
      ∗ (bigSep Finset.univ (recvDone (F := F) true c)) ∗ bigSep Finset.univ (recvDone (F := F) false c))
      ⊢ (bigSep Finset.univ fun p => atPos ER (copyCell c p) 1 ∅ 0 : sProp 𝕄) := by
  rw [bigSep_copies fun p => (atPos ER (copyCell c p) 1 ∅ 0 : sProp 𝕄)]
  exact .rfl

end Cert.KernelIdeal.Ring

end
-- ==== Proof.Body.lean ====
module

public import proofs.«01_k».proof.Proof.Cells

@[expose] public section

noncomputable section

/-! # The body

Read three words, meet both neighbours, go round. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

attribute [local irreducible] loop

/-- The three words device `c` starts from. -/
def threeWords (c : Dev nD) : S3.Idx → Elt F .i32 := fun i => (![lit0 c, lit1 c, lit2 c] : Fin 3 → BitVec 32) (i 0)

/-- They are held. -/
def wordsAt (c : Dev nD) : sProp 𝕄 := (aM.view.loc (c : Thread nD τ)) ↦[Finset.univ]{fullShare} (threeWords (F := F) c)

/-- Reading one of them, and then the rest. -/
theorem word_then {α : Type} (c : Dev nD) (k : Fin 3) (off : Fin 1 → ℕ) (inb : ∀ a, off a + S1.size a ≤ S3.size a) (e : off = ![k.val])
    (K : Elt F .i32 → BodyProg F α) (Q : α → sProp 𝕄) :
    wordsAt (F := F) c ⊢ iprop((wordsAt c -∗ WP c (K ((![lit0 c, lit1 c, lit2 c] : Fin 3 → BitVec 32) k)) Q)
      -∗ WP c (smemLoad aM (Rect.unit (s := S3) off S1.size inb) numel1_S1 rfl >>= K) Q) := by
  have e : ∀ x, (aM.access (Rect.unit (s := S3) off S1.size inb)).read (Elt F) (threeWords (F := F) c) x
      = (![lit0 c, lit1 c, lit2 c] : Fin 3 → BitVec 32) k := by
    intro x
    show (![lit0 c, lit1 c, lit2 c] : Fin 3 → BitVec 32) (((Rect.unit (s := S3) off S1.size inb).emb x) 0) = _
    congr 1
    apply Fin.ext
    have hx : (x 0).val < 1 := (x 0).isLt
    rw [Rect.emb_apply]
    show off 0 + 1 * (x 0).val = k.val
    have h0 : off 0 = k.val := by rw [e]; rfl
    omega
  have key := wp_smemLoadElt (defs := defs₀ (F := F)) (Γ := .empty) 𝒱₀ (c : Thread nD τ) none Set.univ (m := aM)
    (r := Rect.unit (s := S3) off S1.size inb) (hw := View.loads_smem_one rfl numel1_S1)
    (x := Shape.Idx.first (numel1_S1.symm ▸ Nat.one_pos)) (k := K) (Q := Q) (S := Finset.univ) (q := fullShare) (f := threeWords c) (Finset.subset_univ _)
  rw [e] at key
  exact key

/-- Reading and checking all three, and then the rest. -/
theorem words_then {α : Type} (c : Dev nD)
    (K : (Σ' (v0 : Elt F .i32) (_ : k0_chk2 v0) (v1 : Elt F .i32) (_ : k0_chk1 v1) (v2 : Elt F .i32), k0_chk3 v2) → BodyProg F α) (Q : α → sProp 𝕄) :
    wordsAt (F := F) c ⊢ iprop((wordsAt c -∗ WP c (K ⟨lit0 c, chk2_ok c, lit1 c, chk1_ok c, lit2 c, chk3_ok c⟩) Q)
      -∗ WP c (words aM >>= K) Q) := by
  unfold words
  simp only [bind_assoc, pure_bind]
  iintro Ha Hk
  iapply (word_then c 0 ![0] inb_S3_S1_0 rfl) $$ Ha
  iintro Ha
  iapply (assume_then c (k0_chk2 (lit0 c)) _ (chk2_ok c))
  iapply (word_then c 1 ![1] inb_S3_S1_1 rfl) $$ Ha
  iintro Ha
  iapply (assume_then c (k0_chk1 (lit1 c)) _ (chk1_ok c))
  iapply (word_then c 2 ![2] inb_S3_S1_2 rfl) $$ Ha
  iintro Ha
  iapply (assume_then c (k0_chk3 (lit2 c)) _ (chk3_ok c))
  iapply Hk; iexact Ha

variable (X : Dev nD → S64x2048.Idx → Elt F .f32) (W : Dev nD → S2048x64.Idx → Elt F .f32) (κ : GSem nD τ sig → ℕ)

/-- The protocol's part of what a device starts the body with. -/
def ringStart (c : Dev nD) : sProp 𝕄 :=
  iprop(ready c true ∗ ready c false
    ∗ (dutyTok ER (barCell (fwd false c)) 0 true ∗ dutyTok ER (barCell (fwd true c)) 0 false)
    ∗ atPos ER (barCell c) 0 ∅ 0 ∗ cred (tallyAt (barCell c) () 2))

/-- The windows the body leaves as they were. -/
def inputsAt (c : Dev nD) : sProp 𝕄 := iprop(wordsAt (F := F) c ∗ tblAt c ∗ opAt X c fullShare ∗ wtsAt W c)

/-- The whole body at device `c`: it leaves its result equal to the specification, owes nothing, and every
semaphore of the protocol counts nothing. -/
theorem ring_run (c : Dev nD) :
    iprop(ctx X κ ∗ (∃ Wd, owes (c : Thread nD τ) (O₀ c) Wd) ∗ ringStart c ∗ (bufAt true c ∗ bufAt false c) ∗ inputsAt X W c
        ∗ ∃ f, (oM.view.loc (c : Thread nD τ)) ↦[Finset.univ]{fullShare} f)
      ⊢ WP c (ringBody aM tM xM wM oM (lane true) (lane false)) fun _ =>
        iprop((∃ Wd, owes (c : Thread nD τ) (0 : CellTallies nD τ sig Unit) Wd)
          ∗ ((bigSep Finset.univ fun p => semVal (copyCell c p) 0) ∗ semVal (barCell c) 0)
          ∗ (bufAt true c ∗ bufAt false c) ∗ inputsAt X W c
          ∗ (oM.view.loc (c : Thread nD τ)) ↦[Finset.univ]{fullShare} (outSpec X W c)) := by
  unfold ringBody ringStart inputsAt
  iintro ⟨#Hctx, HO, ⟨Hr1, Hr0, ⟨Ht1, Ht0⟩, Hat, Hcr⟩, ⟨Hb1, Hb0⟩, ⟨Ha, Ht, Hx, Hw⟩, ⟨%f, Ho⟩⟩
  iapply (words_then c) $$ Ha
  iintro Ha
  ihave ⟨Hl1, He1⟩ := (buf_open true c) $$ Hb1
  ihave ⟨Hl0, He0⟩ := (buf_open false c) $$ Hb0
  ihave ⟨Hw1, Hp1⟩ := (announce c true) $$ [Hr1 Hl1]
  · iframe
  ihave ⟨Hw0, Hp0⟩ := (announce c false) $$ [Hr0 Hl0]
  · iframe
  iapply (run_then (meet_step X κ c)) $$ [HO Ht1 Ht0 Hp1 Hp0 Hat Hcr]
  · isplitr; · iexact Hctx
    iframe
    isplitl [Hp1]; · iexact Hp1
    iexact Hp0
  iintro ⟨HA, Hat, Hp1, Hp0⟩
  ihave Hs1 := (heard c true) $$ [Hw1 Hp1]
  · iframe
  ihave Hs0 := (heard c false) $$ [Hw0 Hp0]
  · iframe
  iapply (wp_fupd (Fr := frame))
  iapply (run_last (rounds_run X W κ c (posOk (chk3_ok c)))) $$ [HA Hs1 Hs0 Ht Hx Hw Ho]
  · isplitr; · iexact Hctx
    isplitl [HA]; · iexact HA
    isplitl [Hs1]; · iexact Hs1
    isplitl [Hs0]; · iexact Hs0
    isplitl [Ht]; · iexact Ht
    isplitl [Hx]; · iexact Hx
    isplitl [Hw]; · iexact Hw
    unfold outAt; iexists f
    isplitr; · ipureintro; exact fun i hi => hi.elim
    iexact Ho
  unfold laneEnd
  iintro ⟨HA, ⟨R1, E1, L1⟩, ⟨R0, E0, L0⟩, Ht, Hx, Hw, Ho⟩
  ihave Hall := (ends_copies c) $$ [R1 E1 R0 E0]
  · iframe
  imod (copies_close X κ c) $$ [Hall] with Hall
  · isplitr; · iexact Hctx
    iexact Hall
  imod (bar_close X κ c) $$ [Hat] with Hbar
  · isplitr; · iexact Hctx
    iexact Hat
  imodintro
  unfold acct; rw [owing_end]
  isplitl [HA]; · iexact HA
  isplitl [Hall Hbar]; · iframe
  isplitl [L1 He1 L0 He0]
  · isplitl [L1 He1]
    · iapply (buf_close true c); iframe
    · iapply (buf_close false c); iframe
  isplitl [Ha Ht Hx Hw]; · iframe
  iapply (outAt_all X W c (allRows c) (allRows_all c)); iexact Ho

end Cert.KernelIdeal.Ring

end
-- ==== Proof.BodyEq.lean ====
module

public import proofs.«01_k».proof.Proof.Shape

@[expose] public section

noncomputable section

namespace Cert.KernelIdeal.Ring

open Idealize.ShloMosaic Idealize.SL.Sem Cert.KernelIdeal.Gen

variable {F : FTy → Type} [FloatOps F]

set_option maxRecDepth 100000 in
set_option maxHeartbeats 40000000 in
/-- The printed body is the ring program. -/
theorem body_eq (a0 : Memref sig .tc .smem S3 .i32) (h0 : a0.IsWhole) (t : Memref sig .tc .smem S32 .i32) (ht : t.IsWhole)
    (x : Memref sig .tc .vmem S64x2048 .f32) (hx : x.IsWhole) (w : Memref sig .tc .vmem S2048x64 .f32) (hw : w.IsWhole)
    (o : Memref sig .tc .vmem S2048x64 .f32) (ho : o.IsWhole)
    (b5 : Memref sig .tc .vmem S17x64x2048 .f32) (h5 : b5.IsWhole) (b6 : Memref sig .tc .vmem S17x64x2048 .f32) (h6 : b6.IsWhole)
    (s7 : DmaSems sig S32) (s8 : DmaSems sig S34) (s9 : DmaSems sig S32) (s10 : DmaSems sig S34) (s11 : DmaSems sig S1) :
    cc0_body_skel (F := F) a0 h0 t ht x hx w hw o ho b5 h5 b6 h6 s7 s8 s9 s10 s11
      = ringBody a0 t x w o ⟨b5, s7, s8⟩ ⟨b6, s9, s10⟩ := by
  simp only [cc0_body_skel, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, ringBody, words, meet, rounds, ownBlock, band, farBlock, farHalf, lookup, lookupPut, putBlock,
    doneHop, hopLane, loop, bind_assoc, pure_bind]
  rfl

end Cert.KernelIdeal.Ring

end
-- ==== Proof.HostTables.lean ====
module

public import proofs.«01_k».proof.Proof.Gen.KernelIdeal.Regions
public import Idealize.ShloMosaic.Lib.StableHlo.Run
public import Idealize.ShloMosaic.Lib.StableHlo.RunRead

@[expose] public section

noncomputable section

/-! # What the host leaves in the two tables the kernel reads

Each device looks its two neighbours and its own position up in three tables; the region is handed those
three words, and the table that says which device sits at each position. -/

namespace Cert.KernelIdeal.Ring

open Idealize.ShloMosaic Idealize.ShloMosaic.TcCoe Idealize.SL.Sem Cert.KernelIdeal.Gen

variable {F : FTy → Type} [FloatOps F]

/-- Entry `i` of the table `t`, as the host looks it up: a negative index counted from the end, one
outside the table giving a filler. -/
def take (t : (⟨S32, .i32⟩ : BufTy).Contents (Elt F)) (i : (⟨S_, .i32⟩ : BufTy).Contents (Elt F)) :
    (⟨S_, .i32⟩ : BufTy).Contents (Elt F) :=
  let j : (⟨S1, .i32⟩ : BufTy).Contents (Elt F) := broadcastInDim S1 ![] bcast_S_S1
    (select (cmpi .slt i (constantI S_ 32 0#32)) (addi i (constantI S_ 32 32#32)) i)
  select (Host.reduce IntOp.andi
      (andi (cmpi .sge j (broadcastInDim S1 ![] bcast_S_S1 (constantI S_ 32 0#32))) (cmpi .sle j (constantI S1 32 31#32)))
      (constantI S_ 1 1#1) reducesTo_S1_S_d0 h_S_)
    (Host.gather gather_S32_S1_S__n_0_n_n_0_0_1 t j) (constantI S_ 32 2147483648#32)

/-- A device's own number, as the host computes it. -/
def rank (c : Dev nD) : (⟨S_, .i32⟩ : BufTy).Contents (Elt F) :=
  id (Host.remui (Host.divui (constantI S_ 32 (Dev.word c)) (constantI S_ 32 1#32)) (constantI S_ 32 32#32))

/-- It is the device's number. -/
theorem rank_eq (c : Dev nD) : rank (F := F) c = constantI S_ 32 (BitVec.ofNat 32 c.val) := by
  funext i
  revert c
  show ∀ c : Dev nD, Scalar.remui (Scalar.divui (Dev.word c) 1#32) 32#32 = BitVec.ofNat 32 c.val
  decide

/-- The index the look-up reads at. -/
theorem gather_at (c : Dev nD) (i : S_.Idx) :
    S32.rowMajor (gather_S32_S1_S__n_0_n_n_0_0_1.operandIdx i (fun _ => BitVec.ofNat 32 c.val)) = c := by
  refine Fin.ext ?_
  revert c i
  decide

/-- The index is inside the table. -/
theorem in_range (c : Dev nD) (i : S_.Idx) : Host.reduce IntOp.andi
      (andi (cmpi .sge (fun _ => BitVec.ofNat 32 c.val) (broadcastInDim S1 ![] bcast_S_S1 (constantI S_ 32 0#32)))
        (cmpi .sle (fun _ => BitVec.ofNat 32 c.val) (constantI S1 32 31#32)))
      (constantI S_ 1 1#1) reducesTo_S1_S_d0 h_S_ i = 1#1 := by
  revert c i
  decide

/-- A device's number is not negative. -/
theorem not_neg (c : Dev nD) (i : S_.Idx) : select (cmpi .slt (constantI S_ 32 (BitVec.ofNat 32 c.val)) (constantI S_ 32 0#32))
    (addi (constantI S_ 32 (BitVec.ofNat 32 c.val)) (constantI S_ 32 32#32)) (constantI S_ 32 (BitVec.ofNat 32 c.val)) i
      = BitVec.ofNat 32 c.val := by
  revert c i
  decide

/-- Looking a device's own number up gives its entry. -/
theorem take_rank (t : Fin 32 → BitVec 32) (c : Dev nD) :
    take (F := F) (fun i => t (S32.rowMajor i)) (rank c) = fun _ => t c := by
  rw [rank_eq]
  have hj : (broadcastInDim S1 ![] bcast_S_S1
      (select (cmpi .slt (constantI S_ 32 (BitVec.ofNat 32 c.val)) (constantI S_ 32 0#32))
        (addi (constantI S_ 32 (BitVec.ofNat 32 c.val)) (constantI S_ 32 32#32)) (constantI S_ 32 (BitVec.ofNat 32 c.val))) : IVec S1 32)
      = fun _ => BitVec.ofNat 32 c.val := by
    funext i
    exact not_neg c _
  funext i
  unfold take
  simp only [hj, select, Host.gather, gather_at]
  exact (congrArg (Scalar.select · (t c) (constantI S_ 32 2147483648#32 i)) (in_range c i)).trans rfl

/-- Three words in a row. -/
theorem concat_words (a b d : BitVec 32) : concatenate S3 0 [⟨S1, fun _ => a⟩, ⟨S1, fun _ => b⟩, ⟨S1, fun _ => d⟩] concatenates_S1_S1_S1_S3_d0
    = fun i : S3.Idx => (![a, b, d] : Fin 3 → BitVec 32) (i 0) := by
  funext i
  obtain ⟨k, rfl⟩ : ∃ k : Fin 3, i = fun x => (k.cast (by rw [Fin.fin_one_eq_zero x]; rfl) : Fin (S3.size x)) :=
    ⟨i 0, funext fun x => by obtain rfl := Fin.fin_one_eq_zero x; rfl⟩
  fin_cases k <;> rfl

section
variable (V : Valuation τ sig (Elt F))

/-- The first look-up's stretch, whatever it starts from; -/
theorem take_next : StableHlo.after hostOps0_1 V (Proc.devRef .tc main_v5) = take (V main_c) (V main_v4) := by
  after_results
  rfl
/-- the second's; -/
theorem take_prev : StableHlo.after hostOps0_2 V (Proc.devRef .tc main_v6) = take (V main_c_0) (V main_v4) := by
  after_results
  rfl
/-- the third's. -/
theorem take_pos : StableHlo.after hostOps0_3 V (Proc.devRef .tc main_v7) = take (V main_c_1) (V main_v4) := by
  after_results
  rfl

/-- The last stretch puts the three words in a row. -/
theorem row_words (a b d : BitVec 32) (h5 : V main_v5 = fun _ => a) (h6 : V main_v6 = fun _ => b) (h7 : V main_v7 = fun _ => d) :
    StableHlo.after hostOps0_4 V (Proc.devRef .tc main_v11) = fun i => (![a, b, d] : Fin 3 → BitVec 32) (i 0) := by
  have e : StableHlo.after hostOps0_4 V (Proc.devRef .tc main_v11)
      = concatenate S3 0 [⟨S1, broadcastInDim S1 ![] bcast_S_S1 (V main_v5)⟩, ⟨S1, broadcastInDim S1 ![] bcast_S_S1 (V main_v6)⟩,
        ⟨S1, broadcastInDim S1 ![] bcast_S_S1 (V main_v7)⟩] concatenates_S1_S1_S1_S3_d0 := by
    after_results
    rfl
  rw [e, h5, h6, h7]
  exact concat_words a b d

end

section
variable (m : (ℓ : Loc nD τ sig) → Buf (Elt F) ℓ) (c : Dev nD)

theorem V1_v4 : V1 m c main_v4 = rank c := by
  show StableHlo.after (hostOps0 c) (V0 m c) (Proc.devRef .tc main_v4) = _
  after_results
  rfl
theorem V1_c : V1 m c main_c = fun i => lit0 (S32.rowMajor i) := by
  show StableHlo.after (hostOps0 c) (V0 m c) (Proc.devRef .tc main_c) = _
  after_results
  rfl
theorem V1_c_0 : V1 m c main_c_0 = fun i => lit1 (S32.rowMajor i) := by
  show StableHlo.after (hostOps0 c) (V0 m c) (Proc.devRef .tc main_c_0) = _
  after_results
  rfl
theorem V1_c_1 : V1 m c main_c_1 = fun i => lit2 (S32.rowMajor i) := by
  show StableHlo.after (hostOps0 c) (V0 m c) (Proc.devRef .tc main_c_1) = _
  after_results
  rfl
theorem V1_c_2 : V1 m c main_c_2 = fun i => lit3 (S32.rowMajor i) := by
  show StableHlo.after (hostOps0 c) (V0 m c) (Proc.devRef .tc main_c_2) = _
  after_results
  rfl

theorem V2_v5 : V2 m c main_v5 = fun _ => lit0 c := by
  refine (take_next (V1 m c)).trans ?_
  rw [V1_c, V1_v4]
  exact take_rank lit0 c
theorem V3_v6 : V3 m c main_v6 = fun _ => lit1 c := by
  refine (take_prev (V2 m c)).trans ?_
  rw [V2_of m c main_c_0 (by decide), V2_of m c main_v4 (by decide), V1_c_0, V1_v4]
  exact take_rank lit1 c
theorem V4_v7 : V4 m c main_v7 = fun _ => lit2 c := by
  refine (take_pos (V3 m c)).trans ?_
  rw [V3_of m c main_c_1 (by decide), V3_of m c main_v4 (by decide), V2_of m c main_c_1 (by decide),
    V2_of m c main_v4 (by decide), V1_c_1, V1_v4]
  exact take_rank lit2 c

/-- The three words the region is handed: the device after this one, the one before it, its position. -/
theorem V5_v11 : V5 m c main_v11 = fun i => (![lit0 c, lit1 c, lit2 c] : Fin 3 → BitVec 32) (i 0) :=
  row_words (V4 m c) _ _ _
    (by rw [V4_of m c main_v5 (by decide), V3_of m c main_v5 (by decide), V2_v5])
    (by rw [V4_of m c main_v6 (by decide), V3_v6]) (V4_v7 m c)

/-- The table of the devices by position. -/
theorem V5_c_2 : V5 m c main_c_2 = fun i => lit3 (S32.rowMajor i) := by
  rw [V5_of m c main_c_2 (by decide), V4_of m c main_c_2 (by decide), V3_of m c main_c_2 (by decide), V2_of m c main_c_2 (by decide), V1_c_2]

/-- The two operands are as launched. -/
theorem V5_arg0 : V5 m c main_arg0 = m ((c : Thread nD τ).loc main_arg0) := by
  rw [V5_of m c main_arg0 (by decide), V4_of m c main_arg0 (by decide), V3_of m c main_arg0 (by decide), V2_of m c main_arg0 (by decide), V1_of m c main_arg0 (by decide)]
theorem V5_arg1 : V5 m c main_arg1 = m ((c : Thread nD τ).loc main_arg1) := by
  rw [V5_of m c main_arg1 (by decide), V4_of m c main_arg1 (by decide), V3_of m c main_arg1 (by decide), V2_of m c main_arg1 (by decide), V1_of m c main_arg1 (by decide)]

end

end Cert.KernelIdeal.Ring

end
-- ==== Proof.Data.lean ====
module

public import proofs.«01_k».proof.Proof.Body
public import proofs.«01_k».proof.Proof.BodyEq
public import proofs.«01_k».proof.Proof.HostTables
public import proofs.«01_k».proof.Proof.Gen.KernelIdeal.Points

@[expose] public section

noncomputable section

/-! # The region's data

What the region's windows hold at entry and after the body, and that the body carries the one to the other. -/

namespace Cert.KernelIdeal.Ring

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (m : (ℓ : Loc nD τ sig) → Buf (Elt F) ℓ)

/-- Each device's rows and weights, as launched. -/
def rowsOf (c : Dev nD) : S64x2048.Idx → Elt F .f32 := m ((c : Thread nD τ).loc main_arg0)
def weightsOf (c : Dev nD) : S2048x64.Idx → Elt F .f32 := m ((c : Thread nD τ).loc main_arg1)

/-- The result's contents after the region. -/
def resultOf (c : Dev nD) : S2048x64.Idx → Elt F .f32 := outSpec (rowsOf m) (weightsOf m) c

/-- A device's buffers after the region. -/
def Vend (c : Dev nD) : Valuation τ sig (Elt F) := Function.update (V5 m c) main_v12 (resultOf m c)

/-- The generator's register, at anything. -/
def prngAt (c : Dev nD) : sProp 𝕄 := iprop(∃ r, prngReg c r)

/-- The body's invariant before its one point, -/
def phiIn (c : Dev nD) : sProp 𝕄 := iprop((∃ κ, ctx (rowsOf m) κ) ∗ ringStart c ∗ (bufAt true c ∗ bufAt false c) ∗ prngAt c)
/-- and after it. -/
def phiOut (c : Dev nD) : sProp 𝕄 :=
  iprop(((bigSep Finset.univ fun p => semVal (copyCell c p) 0) ∗ semVal (barCell c) 0) ∗ (bufAt true c ∗ bufAt false c) ∗ prngAt c)

/-- The region's data at device `c`. -/
def dat (c : Dev nD) : Dat τ (Elt F) Unit ℕ UU ℕ cfg0 c where
  A w := V5 m c (Proc.devRef .tc (arrRef spec0 w))
  after w _ := match w with
    | ⟨0, _⟩ => threeWords c
    | ⟨1, _⟩ => table
    | ⟨2, _⟩ => rowsOf m c
    | ⟨3, _⟩ => weightsOf m c
    | ⟨4, _⟩ => resultOf m c
  Φ t := if t.val = 0 then phiIn m c else phiOut c
  q _ := fullShare
  owed t := if t.val = 0 then O₀ c else 0

/-- The data of every region: there is one. -/
def dats (_ : Fin 1) (c : Dev nD) : Dat τ (Elt F) Unit ℕ UU ℕ cfg0 c := dat m c

/-- A window that is the whole of an array sends each index to itself. -/
theorem whole_index {s : Shape} (r : Rect s) (h0 : ∀ a, r.off a = 0) (h1 : ∀ a, r.stride a = 1) (y : r.shape.Idx) (y' : s.Idx)
    (h : ∀ a, (y a).val = (y' a).val) : r.emb y = y' := by
  funext a
  apply Fin.ext
  rw [Rect.emb_apply, h0, h1, h, Nat.zero_add, Nat.one_mul]

/-- The words as fetched; -/
theorem before_0 (c : Dev nD) (t : Fin cfg0.N) (d) : (dat m c).before (0 : Fin 5) t d = threeWords c := by
  unfold Dat.before
  rw [if_pos (fetch0_0 t)]
  refine Eq.trans (funext fun y => ?_) (V5_v11 m c)
  show V5 m c main_v11 ((win0_0.rect t).emb _) = V5 m c main_v11 y
  exact congrArg _ (whole_index _ (fun _ => Nat.zero_mul _) (fun _ => rfl) _ _ fun _ => rfl)

/-- the table; -/
theorem before_1 (c : Dev nD) (t : Fin cfg0.N) (d) : (dat m c).before (1 : Fin 5) t d = table := by
  unfold Dat.before
  rw [if_pos (fetch0_1 t)]
  refine Eq.trans (funext fun y => ?_) (V5_c_2 m c)
  show V5 m c main_c_2 ((win0_1.rect t).emb _) = V5 m c main_c_2 y
  exact congrArg _ (whole_index _ (fun _ => Nat.zero_mul _) (fun _ => rfl) _ _ fun _ => rfl)

/-- the rows; -/
theorem before_2 (c : Dev nD) (t : Fin cfg0.N) (d) : (dat m c).before (2 : Fin 5) t d = rowsOf m c := by
  unfold Dat.before
  rw [if_pos (fetch0_2 t)]
  refine Eq.trans (funext fun y => ?_) (V5_arg0 m c)
  show V5 m c main_arg0 ((win0_2.rect t).emb _) = V5 m c main_arg0 y
  exact congrArg _ (whole_index _ (fun _ => Nat.zero_mul _) (fun _ => rfl) _ _ fun _ => rfl)

/-- the weights. -/
theorem before_3 (c : Dev nD) (t : Fin cfg0.N) (d) : (dat m c).before (3 : Fin 5) t d = weightsOf m c := by
  unfold Dat.before
  rw [if_pos (fetch0_3 t)]
  refine Eq.trans (funext fun y => ?_) (V5_arg1 m c)
  show V5 m c main_arg1 ((win0_3.rect t).emb _) = V5 m c main_arg1 y
  exact congrArg _ (whole_index _ (fun _ => Nat.zero_mul _) (fun _ => rfl) _ _ fun _ => rfl)

/-- Nothing is written back to an input's array. -/
theorem input_kept (c : Dev nD) (w : Fin 5) (hw : (cfg0.win w).isOut = false) :
    (dat m c).arrAt w cfg0.N = V5 m c (Proc.devRef .tc (arrRef spec0 w)) :=
  (dat m c).arrAt_in w hw _

/-- The result's array ends with what the body left. -/
theorem result_left (c : Dev nD) : (dat m c).arrAt (4 : Fin 5) cfg0.N = resultOf m c := by
  rw [show cfg0.N = (t0_0 : Fin cfg0.N).val + 1 from rfl, (dat m c).arrAt_succ (4 : Fin 5) t0_0, if_pos (flush0_4 t0_0)]
  funext i
  have e : (win0_4.rect t0_0).emb i = i := whole_index _ (fun _ => Nat.zero_mul _) (fun _ => rfl) _ _ fun _ => rfl
  refine Eq.trans (congrArg _ e.symm) ?_
  exact View.read_slice_write_emb (v := (Memref.whole main_v12).view) (win0_4.rect t0_0) _ (resultOf m c) (Finset.mem_univ i)

theorem owed_first (c : Dev nD) : (dat m c).owed 0 = O₀ c := by
  show (if ((0 : Fin (cfg0.N + 1)).val = 0) then O₀ c else 0) = O₀ c; exact if_pos rfl
theorem owed_before (c : Dev nD) : (dat m c).owed t0_0.castSucc = O₀ c := by
  show (if (t0_0.castSucc : Fin (cfg0.N + 1)).val = 0 then O₀ c else 0) = O₀ c; exact if_pos rfl
theorem owed_after (c : Dev nD) : (dat m c).owed t0_0.succ = 0 := by
  show (if (t0_0.succ : Fin (cfg0.N + 1)).val = 0 then O₀ c else 0) = 0; exact if_neg (by decide)
theorem owed_end (c : Dev nD) : (dat m c).owed (Fin.last _) = 0 := by
  show (if (Fin.last cfg0.N).val = 0 then O₀ c else 0) = 0
  rw [Fin.val_last, if_neg (by rw [show cfg0.N = 1 from N_0]; decide)]

theorem owesAt_of (c : Dev nD) (t : Fin (cfg0.N + 1)) (O : CellTallies nD τ sig Unit) (h : (dat m c).owed t = O) :
    (iprop(∃ W, owes (c : Thread nD τ) O W) : sProp 𝕄) ⊢ (dat m c).owesAt () t := by
  unfold Dat.owesAt owesWithin Dat.bound
  rw [h]
  iintro ⟨%W, H⟩
  iexists W
  isplitr
  · ipureintro; exact fun _ _ => Or.inl trivial
  iexact H

theorem owesAt_to (c : Dev nD) (t : Fin (cfg0.N + 1)) (O : CellTallies nD τ sig Unit) (h : (dat m c).owed t = O) :
    (dat m c).owesAt () t ⊢ (iprop(∃ W, owes (c : Thread nD τ) O W) : sProp 𝕄) := by
  unfold Dat.owesAt owesWithin
  rw [h]
  iintro ⟨%W, -, H⟩
  iexists W
  iexact H

/-- What the body's windows hold when it starts, -/
def stagedIn (c : Dev nD) : sProp 𝕄 :=
  iprop((∃ d, owns (c : Thread nD τ) aM fullShare ((dat m c).before (0 : Fin 5) t0_0 d))
    ∗ (∃ d, owns (c : Thread nD τ) tM fullShare ((dat m c).before (1 : Fin 5) t0_0 d))
    ∗ (∃ d, owns (c : Thread nD τ) xM fullShare ((dat m c).before (2 : Fin 5) t0_0 d))
    ∗ (∃ d, owns (c : Thread nD τ) wM fullShare ((dat m c).before (3 : Fin 5) t0_0 d))
    ∗ ∃ d, owns (c : Thread nD τ) oM fullShare ((dat m c).before (4 : Fin 5) t0_0 d))

/-- and when it ends. -/
def stagedOut (c : Dev nD) : sProp 𝕄 :=
  iprop(owns (c : Thread nD τ) aM fullShare (threeWords c) ∗ owns (c : Thread nD τ) tM fullShare table
    ∗ owns (c : Thread nD τ) xM fullShare (rowsOf m c) ∗ owns (c : Thread nD τ) wM fullShare (weightsOf m c)
    ∗ owns (c : Thread nD τ) oM fullShare (resultOf m c))

theorem staged_start (c : Dev nD) : stagedIn m c
    ⊢ (iprop(inputsAt (rowsOf m) (weightsOf m) c ∗ ∃ f, (oM.view.loc (c : Thread nD τ)) ↦[Finset.univ]{fullShare} f) : sProp 𝕄) := by
  unfold stagedIn inputsAt wordsAt tblAt opAt wtsAt
  simp only [before_0, before_1, before_2, before_3]
  iintro ⟨⟨%_, H0⟩, ⟨%_, H1⟩, ⟨%_, H2⟩, ⟨%_, H3⟩, ⟨%d, H4⟩⟩
  ihave H0 := (Entails.of_eq (owns_whole (c : Thread nD τ) cc0_stg0_0 fullShare _)) $$ H0
  ihave H1 := (Entails.of_eq (owns_whole (c : Thread nD τ) cc0_stg1_0 fullShare _)) $$ H1
  ihave H2 := (Entails.of_eq (owns_whole (c : Thread nD τ) cc0_stg2_0 fullShare _)) $$ H2
  ihave H3 := (Entails.of_eq (owns_whole (c : Thread nD τ) cc0_stg3_0 fullShare _)) $$ H3
  ihave H4 := (Entails.of_eq (owns_whole (c : Thread nD τ) cc0_stg4_0 fullShare _)) $$ H4
  isplitl [H0 H1 H2 H3]
  · isplitl [H0]; · iexact H0
    isplitl [H1]; · iexact H1
    isplitl [H2]; · iexact H2
    iexact H3
  iexists _
  iexact H4

theorem staged_end (c : Dev nD) : (iprop(inputsAt (rowsOf m) (weightsOf m) c ∗ (oM.view.loc (c : Thread nD τ)) ↦[Finset.univ]{fullShare} (outSpec (rowsOf m) (weightsOf m) c)) : sProp 𝕄)
    ⊢ stagedOut m c := by
  unfold stagedOut inputsAt wordsAt tblAt opAt wtsAt
  iintro ⟨⟨H0, H1, H2, H3⟩, H4⟩
  isplitl [H0]; · iapply (Entails.of_eq (owns_whole (c : Thread nD τ) cc0_stg0_0 fullShare _).symm); iexact H0
  isplitl [H1]; · iapply (Entails.of_eq (owns_whole (c : Thread nD τ) cc0_stg1_0 fullShare _).symm); iexact H1
  isplitl [H2]; · iapply (Entails.of_eq (owns_whole (c : Thread nD τ) cc0_stg2_0 fullShare _).symm); iexact H2
  isplitl [H3]; · iapply (Entails.of_eq (owns_whole (c : Thread nD τ) cc0_stg3_0 fullShare _).symm); iexact H3
  iapply (Entails.of_eq (owns_whole (c : Thread nD τ) cc0_stg4_0 fullShare _).symm); iexact H4

theorem body_ring (c : Dev nD) :
    iprop(phiIn m c ∗ (dat m c).owesAt () t0_0.castSucc ∗ stagedIn m c)
      ⊢ WP c (ringBody aM tM xM wM oM (lane true) (lane false)) fun _ =>
        iprop(phiOut c ∗ (dat m c).owesAt () t0_0.succ ∗ stagedOut m c) := by
  unfold phiIn phiOut
  iintro ⟨⟨⟨%κ, #Hctx⟩, Hs, Hb, Hp⟩, HO, Hw⟩
  ihave HO := (owesAt_to m c _ (O₀ c) (owed_before m c)) $$ HO
  ihave ⟨Hi, Ho⟩ := (staged_start m c) $$ Hw
  iapply (run_last (ring_run (rowsOf m) (weightsOf m) κ c)) $$ [HO Hs Hb Hi Ho]
  · isplitr; · iexact Hctx
    iframe
  iintro ⟨HO, Hz, Hb, Hi, Ho⟩
  isplitl [Hz Hb Hp]
  · iframe
  isplitl [HO]
  · iapply (owesAt_of m c _ 0 (owed_after m c)); iexact HO
  iapply (staged_end m c)
  iframe

theorem phi_before (c : Dev nD) : (dat m c).Φ t0_0.castSucc = phiIn m c := by
  show (if (t0_0.castSucc : Fin (cfg0.N + 1)).val = 0 then phiIn m c else phiOut c) = phiIn m c; exact if_pos rfl
theorem phi_after (c : Dev nD) : (dat m c).Φ t0_0.succ = phiOut c := by
  show (if (t0_0.succ : Fin (cfg0.N + 1)).val = 0 then phiIn m c else phiOut c) = phiOut c; exact if_neg (by decide)

/-- The text the region runs is the ring's. -/
theorem body_text : (defs₀ (F := F)) .tc cfg0.body (cfg0.bodyArgs t0_0 (cfg0.slots t0_0)) = ringBody aM tM xM wM oM (lane true) (lane false) := by
  refine Eq.trans (b := bodyAt0 (F := F) t0_0) rfl ?_
  unfold bodyAt0
  rw [cc0_body_eq_skeleton, body_eq]
  rfl

attribute [local irreducible] phiIn phiOut outSpec threeWords table rowsOf weightsOf resultOf in
/-- The windows as the region hands them over; -/
theorem staged_in (c : Dev nD) : (bigSep Finset.univ fun w : Fin cfg0.W => (iprop(∃ d, owns (c : Thread nD τ) ((cfg0.win w).stage (cfg0.slots t0_0 w)) fullShare ((dat m c).before w t0_0 d)) : sProp 𝕄)) = stagedIn m c := by
  rw [bigSep_W0]
  rfl

attribute [local irreducible] phiIn phiOut outSpec threeWords table rowsOf weightsOf resultOf in
/-- and as it takes them back. -/
theorem staged_out (c : Dev nD) : stagedOut m c
    = (bigSep Finset.univ fun w : Fin cfg0.W => (owns (c : Thread nD τ) ((cfg0.win w).stage (cfg0.slots t0_0 w)) fullShare ((dat m c).after w t0_0) : sProp 𝕄)) := by
  rw [bigSep_W0]
  rfl

/-- The body's obligation. -/
theorem body_ok (c : Dev nD) : BodyObligation (dat m c) (defs₀ (F := F)) 𝒱₀ () Set.univ := fun t => by
  obtain rfl := fin_N0 t
  rw [phi_before, phi_after, body_text]
  have h := body_ring m c
  rw [staged_out, ← staged_in] at h
  generalize phiIn m c = a at h ⊢
  generalize phiOut c = b at h ⊢
  generalize ringBody (F := F) aM tM xM wM oM (lane true) (lane false) = p at h ⊢
  exact h

end Cert.KernelIdeal.Ring

end
-- ==== Proof.Region.lean ====
module

public import proofs.«01_k».proof.Proof.Data

@[expose] public section

noncomputable section

/-! # The region

The region as one step of the program: what a device brings to it, and what it leaves with. -/

namespace Cert.KernelIdeal.Ring

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (m : (ℓ : Loc nD τ sig) → Buf (Elt F) ℓ)

/-- The kernel's own semaphores: the copies'. -/
abbrev osem (p : Bool × Bool × Fin 31) : SemLoc sig := cellSem (some p)

theorem osem_facts : OwnSemFacts spec0 osem where
  isScoped := by decide
  inj _ _ h := Option.some.inj (cellSem_inj h)
  disj := by decide

/-- What every device may consult: the invariants of all cells, and that every barrier's round has come. -/
def records (κ : GSem nD τ sig → ℕ) : sProp 𝕄 :=
  iprop((bigSep (barCells ∪ copyCells) fun g => cellInv ER (ringRd (rowsOf m)) (κ g) g) ∗ bigSep barCells fun g => reached ER g 0)

instance records_persistent (κ : GSem nD τ sig → ℕ) : BI.Persistent (records m κ) := by unfold records; infer_instance

/-- A lane's duties and what its landings may be waited for with. -/
def laneDues (c : Dev nD) (ℓ : Bool) : sProp 𝕄 :=
  iprop((bigSep Finset.univ fun j : Fin 31 => dutyTok ER (sendCell ℓ c j) 0 true)
    ∗ (bigSep Finset.univ fun j : Fin 31 => dutyTok ER (recvCell ℓ (fwd ℓ c) j) 0 true)
    ∗ bigSep Finset.univ fun j : Fin 31 => cred (tallyAt (recvCell ℓ c j) () N))

/-- What the launch gives device `c` for the region, beside the records. -/
def launched (c : Dev nD) : sProp 𝕄 :=
  iprop((bigSep Finset.univ fun p => openTok ER (copyCell c p)) ∗ (laneDues c true ∗ laneDues c false)
    ∗ (dutyTok ER (barCell (fwd false c)) 0 true ∗ dutyTok ER (barCell (fwd true c)) 0 false)
    ∗ atPos ER (barCell c) 0 ∅ 0 ∗ cred (tallyAt (barCell c) () 2))

def Tk (c : Dev nD) : sProp 𝕄 := iprop((∃ κ, records m κ) ∗ launched c)
def Xk (c : Dev nD) : sProp 𝕄 := iprop((∃ κ, ctx (rowsOf m) κ) ∗ ringStart c)
def Yk (c : Dev nD) : sProp 𝕄 := semVal (barCell c) 0

theorem ready_of (c : Dev nD) (ℓ : Bool) :
    iprop((bigSep Finset.univ fun j : Fin 31 => (iprop(atPos ER (copyCell c (true, ℓ, j)) 0 ∅ 0 ∗ reached ER (copyCell c (true, ℓ, j)) 0) : sProp 𝕄))
      ∗ (bigSep Finset.univ fun j : Fin 31 => (iprop(atPos ER (copyCell c (false, ℓ, j)) 0 ∅ 0 ∗ reached ER (copyCell c (false, ℓ, j)) 0) : sProp 𝕄))
      ∗ laneDues c ℓ) ⊢ ready c ℓ := by
  unfold laneDues ready
  exact .rfl

/-- The copies' cells are opened as the region is entered. -/
theorem open_copies (c : Dev nD) : iprop(Tk m c ∗ ownSems0 osem c ∗ levAts L lv) ⊢ (|={Set.univ}=> Xk m c : sProp 𝕄) := by
  unfold Tk Xk launched ringStart ownSems0
  iintro ⟨⟨⟨%κ, #Hrec⟩, Ho, ⟨Hl1, Hl2⟩, Hb, Hat, Hcb⟩, Hv, #Hlev⟩
  ihave #Hctx := (show iprop(records m κ ∗ levAts L lv) ⊢ ctx (rowsOf m) κ from by
    unfold records ctx
    iintro ⟨⟨#H1, #H2⟩, #H3⟩
    isplitr; · iexact H1
    isplitr; · iexact H2
    iexact H3) $$ []
  · isplitr; · iexact Hrec
    iexact Hlev
  imod (copies_open (rowsOf m) κ c) $$ [Ho Hv] with H
  · isplitr; · iexact Hctx
    isplitl [Ho]; · iexact Ho
    iexact Hv
  ihave ⟨⟨Ha, Hb1⟩, ⟨Hc, Hd⟩⟩ := (Entails.of_eq (bigSep_copies fun p => (iprop(atPos ER (copyCell c p) 0 ∅ 0 ∗ reached ER (copyCell c p) 0) : sProp 𝕄))) $$ H
  imodintro
  isplitr
  · iexists κ; iexact Hctx
  isplitl [Ha Hc Hl1]
  · iapply (ready_of c true); iframe
  isplitl [Hb1 Hd Hl2]
  · iapply (ready_of c false); iframe
  iframe

theorem scoped_rest (c : Dev nD) : (Pipeline.scopedRest spec0 c : sProp 𝕄) = iprop(bufAt true c ∗ bufAt false c) :=
  scopedRest0_eq c

theorem enter (c : Dev nD) : iprop(Pipeline.scopedRest spec0 c ∗ (∃ r, prngReg c r) ∗ StableHlo.held (c.tc : Thread nD τ) (∅ : Finset (DevRef τ sig)) (V5 m c) ∗ Xk m c)
    ⊢ phiIn m c := by
  rw [scoped_rest]
  unfold phiIn Xk prngAt
  iintro ⟨Hb, Hp, -, Hc, Hs⟩
  iframe

theorem leave (c : Dev nD) : phiOut c
    ⊢ (iprop(Pipeline.scopedRest spec0 c ∗ (∃ r, prngReg c r) ∗ StableHlo.held (c.tc : Thread nD τ) (∅ : Finset (DevRef τ sig)) (Vend m c) ∗ ownSems0 osem c ∗ Yk c) : sProp 𝕄) := by
  rw [scoped_rest]
  unfold phiOut Yk prngAt ownSems0 StableHlo.held
  rw [BI.bigSep_empty]
  iintro ⟨⟨Hz, Hb⟩, Hbuf, Hp⟩
  isplitl [Hbuf]; · iexact Hbuf
  isplitl [Hp]; · iexact Hp
  isplitr; · iempintro
  isplitl [Hz]; · iexact Hz
  iexact Hb

/-- What a device owes at launch it owes at landings and at its neighbours' barriers. -/
theorem O₀_pos {c : Dev nD} {g : GSem nD τ sig} {u : Unit} (h : 0 < O₀ c g u) :
    (∃ p : Bool × Fin 31, g = recvCell p.1 (fwd p.1 c) p.2) ∨ ∃ ℓ, g = barCell (fwd ℓ c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨p, -, hp⟩ := owing_pos h; exact .inl ⟨p, hp⟩
    · rw [tallyAt_apply] at h
      split at h
      · next hg => exact .inr ⟨true, hg.1⟩
      · exact absurd h (Nat.lt_irrefl 0)
  · rw [tallyAt_apply] at h
    split at h
    · next hg => exact .inr ⟨false, hg.1⟩
    · exact absurd h (Nat.lt_irrefl 0)

theorem owed_above (c : Dev nD) (t : Fin (cfg0.N + 1)) (g : GSem nD τ sig) (i : Unit) (h : 0 < (dat m c).owed t g i) :
    i ∈ L g ∧ 0 < lv g i := by
  rw [show (dat m c).owed t = if t.val = 0 then O₀ c else 0 from rfl] at h
  split at h
  · rcases O₀_pos h with ⟨p, rfl⟩ | ⟨ℓ, rfl⟩
    · exact ⟨by rw [L_tc]; exact Finset.mem_singleton_self _, by rw [lv_recv]; exact Nat.succ_pos _⟩
    · exact ⟨by rw [L_tc]; exact Finset.mem_singleton_self _, by rw [lv_bar]; exact Nat.one_pos⟩
  · exact absurd h (Nat.lt_irrefl 0)

/-- The staging semaphores are no cell of the protocol, so they are waited for first. -/
theorem stage_low (c : Dev nD) (s : SemLoc sig) (h : ∀ k, cellSem k ≠ s) : lv ((c : Thread nD τ), s) () = 0 := by
  have e : role s = none := by
    unfold role Function.partialInv
    exact dif_neg fun ⟨k, hk⟩ => h k hk
  unfold lv; rw [show role ((c : Thread nD τ), s).2 = none from e]

theorem cell_not_stage : ∀ (k : Option (Bool × Bool × Fin 31)) (w : Fin 5) (s : Fin (spec0 w).nbuf), cellSem k ≠ .dma ((spec0 w).sem s) := by
  decide

/-- Each array as the region finds it, -/
theorem arr_before (c : Dev nD) (w : Fin 5) : (dat m c).arrAt w 0 = V5 m c (Proc.devRef .tc (arrRef spec0 w)) := rfl

/-- and as it leaves it. -/
theorem arr_after (c : Dev nD) (w : Fin 5) : (dat m c).arrAt w cfg0.N = Vend m c (Proc.devRef .tc (arrRef spec0 w)) := by
  have keep (w : Fin 5) (hw : (cfg0.win w).isOut = false) (hne : arrRef spec0 w ≠ main_v12) :
      (dat m c).arrAt w cfg0.N = Vend m c (Proc.devRef .tc (arrRef spec0 w)) := by
    rw [input_kept m c w hw]
    unfold Vend
    rw [Function.update_of_ne (StableHlo.devRef_ne_of_ne hne)]
  fin_cases w
  · exact keep 0 rfl (by decide)
  · exact keep 1 rfl (by decide)
  · exact keep 2 rfl (by decide)
  · exact keep 3 rfl (by decide)
  · refine (result_left m c).trans ?_
    show resultOf m c = Function.update (V5 m c) (Proc.devRef .tc main_v12) (resultOf m c) (Proc.devRef .tc main_v12)
    rw [Function.update_self]

/-- The buffers the region does not touch. -/
abbrev restRefs : Finset (DevRef τ sig) := ucRefs τ sig \ arrRefs (τ := τ) spec0

theorem rest_kept (c : Dev nD) (b : DevRef τ sig) (hb : b ∈ restRefs) : Vend m c b = V5 m c b := by
  unfold Vend
  refine Function.update_of_ne ?_ _ _
  rintro rfl
  refine (Finset.mem_sdiff.mp hb).2 (Finset.mem_map.mpr ⟨main_v12, Finset.mem_image.mpr ⟨4, Finset.mem_univ _, rfl⟩, rfl⟩)

theorem facts_0 : PLaunchFacts (nD := nD) (τ := τ) (pcfgs (F := F)) 0 := launch0.toP

theorem levels : LevelCutOwed (pcfgs (F := F)) adm (dats m) () L lv 0 fun _ => 0 where
  hι c w s := by rw [L_tc]; exact Finset.mem_singleton_self _
  hιb c w s := (stage_low c _ fun k => cell_not_stage k w s).le
  hD c t g i h := owed_above m c t g i h

theorem full_shares (c : Dev nD) (w : Fin 5) : (dat m c).share w = fullShare := by
  unfold Dat.share; split <;> rfl

set_option backward.isDefEq.respectTransparency.types false in
/-- The region. -/
def region : RegionSeg (pcfgs (F := F)) adm (dats m) () defs₀ 𝒱₀ L lv 0 :=
  RegionSeg.ofTalk (pcfgs (F := F)) adm (dats m) () defs₀ 𝒱₀ L lv 0 osem osem_facts
    ∅ restRefs (Finset.empty_subset _) facts_0 rfl (fun c => (body_ok m c).loose)
    (fun _ => 0) O₀ (fun c => (owed_first m c).trans (zero_add _).symm) (owed_end m) (fun _ => rfl) (full_shares m)
    (V5 m) (Vend m) (fun c b hb => rest_kept m c b (Finset.sdiff_subset hb))
    (Tk m) Yk (Xk m) Yk (open_copies m) (enter m) (leave m)
    (fun c => by iintro H; imodintro; iexact H)
    (fun _ => 0) (levels m) (fun _ => iprop(emp))
    (arr_before m) (arr_after m)

/-- What rides along until the region, and after it. -/
def along (i : Fin 2) (c : Dev nD) : sProp 𝕄 :=
  if i = 0 then iprop(Tk m c ∗ (∃ r, prngReg c r) ∗ ∃ Wd, owes (c : Thread nD τ) (O₀ c) Wd)
  else iprop(semVal (barCell c) 0 ∗ ∃ Wd, owes (c : Thread nD τ) (0 : CellTallies nD τ sig Unit) Wd)

theorem arr_unscoped : arrRefs (τ := τ) spec0 ⊆ ucRefs τ sig := arrRefs_sub_ucRefs spec0 (by decide)

theorem region_pre (c : Dev nD) : iprop(StableHlo.held (c : Thread nD τ) (ucRefs τ sig) (V5 m c) ∗ along m 0 c) ⊢ (region m).pre c := by
  show _ ⊢ iprop(StableHlo.held (c.tc : Thread nD τ) (arrRefs (τ := τ) spec0) (V5 m c) ∗ (∃ r, prngReg c r)
    ∗ (StableHlo.held (c.tc : Thread nD τ) restRefs (V5 m c) ∗ emp) ∗ Tk m c ∗ ∃ Wd, owes (c : Thread nD τ) (0 + O₀ c) Wd)
  rw [StableHlo.held_sub_split (c.tc : Thread nD τ) arr_unscoped (V5 m c), zero_add]
  unfold along
  rw [if_pos rfl]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c ⊢ iprop(StableHlo.held (c : Thread nD τ) (ucRefs τ sig) (Vend m c) ∗ along m 1 c) := by
  show iprop(StableHlo.held (c.tc : Thread nD τ) (arrRefs (τ := τ) spec0) (Vend m c) ∗ (∃ r, prngReg c r)
    ∗ (StableHlo.held (c.tc : Thread nD τ) restRefs (Vend m c) ∗ emp) ∗ Yk c ∗ ∃ Wd, owes (c : Thread nD τ) (0 : CellTallies nD τ sig Unit) Wd) ⊢ _
  rw [StableHlo.held_sub_split (c.tc : Thread nD τ) arr_unscoped (Vend m c)]
  unfold along Yk
  rw [if_neg (by decide)]
  iintro ⟨Ha, -, ⟨Hr, -⟩, Hb, HO⟩
  isplitl [Ha Hr]
  · isplitl [Ha]; · iexact Ha
    iexact Hr
  isplitl [Hb]; · iexact Hb
  iexact HO

end Cert.KernelIdeal.Ring

end
-- ==== Proof.Funding.lean ====
module

public import proofs.«01_k».proof.Proof.Region

@[expose] public section

noncomputable section

/-! # The launch's holdings

The duties' tokens and the credits of the launch, dealt to the devices that use them. -/

namespace Cert.KernelIdeal.Ring

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-! ## Tokens -/

theorem copyCell_inj {c c' : Dev nD} {p p' : Bool × Bool × Fin 31} (h : copyCell c p = copyCell c' p') : c = c' ∧ p = p' := by
  injection h with h h'
  injection h with h _
  exact ⟨h, Option.some.inj (cellSem_inj h')⟩

theorem barCell_inj {c c' : Dev nD} (h : barCell c = barCell c') : c = c' := by
  injection h with h _; injection h

theorem copy_ne_bar (c c' : Dev nD) (p : Bool × Bool × Fin 31) : copyCell c p ≠ barCell c' := fun h =>
  Option.noConfusion (α := Bool × Bool × Fin 31) rfl (heq_of_eq (cellSem_inj (show cellSem (some p) = cellSem none from congrArg Prod.snd h)))

/-- The barriers' duties, -/
def barToks : Finset (GSem nD τ sig × ℕ × Bool) :=
  Finset.univ.map ⟨fun x : Dev nD × Bool => ((barCell x.1, 0, x.2) : GSem nD τ sig × ℕ × Bool), fun x y h => by
    injection h with h h'
    injection h' with _ h'
    exact Prod.ext (barCell_inj h) h'⟩

/-- and the copies'. -/
def copyToks : Finset (GSem nD τ sig × ℕ × Bool) :=
  Finset.univ.map ⟨fun x : Dev nD × Bool × Bool × Fin 31 => ((copyCell x.1 x.2, 0, true) : GSem nD τ sig × ℕ × Bool), fun x y h => by
    injection h with h _
    exact Prod.ext (copyCell_inj h).1 (copyCell_inj h).2⟩

theorem toks_apart : Disjoint barToks copyToks := by
  rw [Finset.disjoint_left]
  rintro x h h'
  obtain ⟨a, -, rfl⟩ := Finset.mem_map.mp h
  obtain ⟨b, -, e⟩ := Finset.mem_map.mp h'
  exact copy_ne_bar b.1 a.1 b.2 (congrArg Prod.fst e)

theorem cells_apart : Disjoint barCells copyCells := by
  rw [Finset.disjoint_left]
  rintro x h h'
  obtain ⟨a, -, rfl⟩ := Finset.mem_map.mp h
  obtain ⟨b, -, e⟩ := Finset.mem_map.mp h'
  exact copy_ne_bar b.1 a b.2 e

/-- A lane's tokens at device `c`'s senders, and at its receivers. -/
def sendToks (ℓ : Bool) (c : Dev nD) : sProp 𝕄 := bigSep Finset.univ fun j : Fin 31 => dutyTok ER (sendCell ℓ c j) 0 true
def recvToks (ℓ : Bool) (c : Dev nD) : sProp 𝕄 := bigSep Finset.univ fun j : Fin 31 => dutyTok ER (recvCell ℓ c j) 0 true
def barTok (b : Bool) (c : Dev nD) : sProp 𝕄 := dutyTok ER (barCell c) 0 b

theorem bar_toks : bigSep barToks (fun x => (dutyTok ER x.1 x.2.1 x.2.2 : sProp 𝕄))
    = bigSep Finset.univ fun c : Dev nD => iprop(barTok true c ∗ barTok false c) := by
  unfold barToks
  rw [BI.bigSep_map, bigSep_univ_prod]
  exact bigSep_congr fun c _ => bigSep_lanes _

theorem copy_toks : bigSep copyToks (fun x => (dutyTok ER x.1 x.2.1 x.2.2 : sProp 𝕄))
    = bigSep Finset.univ fun c : Dev nD => iprop((sendToks true c ∗ sendToks false c) ∗ recvToks true c ∗ recvToks false c) := by
  unfold copyToks
  rw [BI.bigSep_map, bigSep_univ_prod]
  exact bigSep_congr fun c _ => bigSep_copies _

/-- What device `c` uses of the tokens: its own senders', and the next devices' receivers' and barriers'. -/
def dealt (c : Dev nD) : sProp 𝕄 :=
  iprop((barTok true (fwd false c) ∗ barTok false (fwd true c))
    ∗ (sendToks true c ∗ sendToks false c) ∗ recvToks true (fwd true c) ∗ recvToks false (fwd false c))

theorem deal : bigSep (barToks ∪ copyToks) (fun x => (dutyTok ER x.1 x.2.1 x.2.2 : sProp 𝕄)) = bigSep Finset.univ fun c : Dev nD => dealt c := by
  rw [BI.bigSep_union toks_apart, bar_toks, copy_toks]
  unfold dealt
  rw [bigSep_sep', bigSep_sep', bigSep_sep', bigSep_sep', bigSep_sep', bigSep_sep', bigSep_sep', bigSep_sep', bigSep_sep',
    bigSep_univ_equiv (turn false) (fun c : Dev nD => (barTok true c : sProp 𝕄)),
    bigSep_univ_equiv (turn true) (fun c : Dev nD => (barTok false c : sProp 𝕄)),
    bigSep_univ_equiv (turn true) (fun c : Dev nD => (recvToks true c : sProp 𝕄)),
    bigSep_univ_equiv (turn false) (fun c : Dev nD => (recvToks false c : sProp 𝕄))]
  rfl

/-! ## Credits -/

theorem recv_ne_barCell (ℓ : Bool) (c c' : Dev nD) (j : Fin 31) : recvCell ℓ c j ≠ barCell c' := copy_ne_bar c c' (false, ℓ, j)

theorem fwd_eq_iff (ℓ : Bool) (d c : Dev nD) : fwd ℓ d = c ↔ d = fwd (!ℓ) c :=
  (turn ℓ).apply_eq_iff_eq_symm_apply (x := d) (y := c)

theorem owing_bar (d c : Dev nD) : owing d 0 (barCell c) () = 0 := by
  unfold owing
  rw [Finset.sum_apply, Finsupp.finset_sum_apply]
  refine Finset.sum_eq_zero fun p _ => ?_
  rw [tallyAt_apply, if_neg fun h => recv_ne_barCell _ _ _ _ h.1.symm]

theorem owing_recv (ℓ : Bool) (d c : Dev nD) (j : Fin 31) : owing d 0 (recvCell ℓ c j) () = if d = fwd (!ℓ) c then N else 0 := by
  unfold owing
  rw [Finset.sum_apply, Finsupp.finset_sum_apply, Finset.sum_eq_single (ℓ, j)]
  · rw [tallyAt_apply]
    by_cases h : d = fwd (!ℓ) c
    · rw [if_pos h, if_pos ⟨congrArg (fun c => recvCell ℓ c j) ((fwd_eq_iff ℓ d c).mpr h).symm, rfl⟩]
    · rw [if_neg h, if_neg fun e => h ((fwd_eq_iff ℓ d c).mp (copyCell_inj (p := (false, ℓ, j)) (p' := (false, ℓ, j)) e.1).1.symm)]
  · intro p _ hp
    rw [tallyAt_apply, if_neg]
    rintro ⟨e, -⟩
    have := (copyCell_inj (p := (false, ℓ, j)) (p' := (false, p.1, p.2)) e).2
    exact hp (congrArg Prod.snd this).symm
  · exact fun h => absurd (show (ℓ, j) ∈ left 0 by unfold left; exact Finset.mem_filter.mpr ⟨Finset.mem_univ _, Nat.zero_le _⟩) h

theorem owed_recv (ℓ : Bool) (d c : Dev nD) (j : Fin 31) : O₀ d (recvCell ℓ c j) () = if d = fwd (!ℓ) c then N else 0 := by
  unfold O₀
  rw [Pi.add_apply, Finsupp.add_apply, Pi.add_apply, Finsupp.add_apply, owing_recv,
    tallyAt_ne_cell (recv_ne_barCell _ _ _ _), tallyAt_ne_cell (recv_ne_barCell _ _ _ _)]
  rfl

theorem owed_bar (d c : Dev nD) : O₀ d (barCell c) () = (if d = fwd false c then 1 else 0) + if d = fwd true c then 1 else 0 := by
  have one (ℓ : Bool) : (tallyAt (barCell (fwd ℓ d)) () 1 : CellTallies nD τ sig Unit) (barCell c) () = if d = fwd (!ℓ) c then 1 else 0 := by
    rw [tallyAt_apply]
    refine if_congr ?_ rfl rfl
    rw [← fwd_eq_iff]
    exact ⟨fun h => (barCell_inj h.1).symm, fun h => ⟨congrArg (fun c => barCell c) h.symm, rfl⟩⟩
  unfold O₀
  rw [Pi.add_apply, Finsupp.add_apply, Pi.add_apply, Finsupp.add_apply, owing_bar, one, one, Nat.zero_add]
  rfl

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (fwd false c) fun _ => 1, Finset.sum_ite_eq' Finset.univ (fwd true c) fun _ => 1,
    if_pos (Finset.mem_univ _), if_pos (Finset.mem_univ _)]

theorem launch_recv (ℓ : Bool) (c : Dev nD) (j : Fin 31) :
    tallyOn (recvCell ℓ c j) (launchCredit (Pipeline.owing O₀) 0 (recvCell ℓ c j)) = (tallyAt (recvCell ℓ c j) () N : CellTallies nD τ sig Unit) := by
  unfold tallyAt
  refine congrArg _ (Finsupp.ext fun u => ?_)
  cases u
  rw [Pipeline.launchCredit_owing, Finsupp.single_eq_same, Finset.sum_congr rfl fun d _ => owed_recv ℓ d c j,
    Finset.sum_ite_eq' Finset.univ (fwd (!ℓ) c) fun _ => N, if_pos (Finset.mem_univ _)]

/-- The landings' semaphores. -/
def landSems : Finset (SemLoc sig) :=
  Finset.univ.map ⟨fun x : Bool × Fin 31 => (.dma (recvS x.1 x.2) : SemLoc sig), fun x y h => by
    have := cellSem_inj (show cellSem (some (false, x)) = cellSem (some (false, y)) from h)
    injection this with this
    exact congrArg Prod.snd this⟩

def recvCreds (ℓ : Bool) (c : Dev nD) : sProp 𝕄 := bigSep Finset.univ fun j : Fin 31 => cred (tallyAt (recvCell ℓ c j) () N)

theorem creds (c : Dev nD) :
    (Pipeline.launchCred O₀ c : sProp 𝕄) ⊢ iprop(cred (tallyAt (barCell c) () 2) ∗ recvCreds true c ∗ recvCreds false c) := by
  unfold Pipeline.launchCred
  rw [bigSep_univ_at _ (SemLoc.reg barS), launch_bar]
  refine sep_mono_right ?_
  refine (BI.bigSep_subset (t := landSems) fun s hs => ?_).trans ?_
  · obtain ⟨x, -, rfl⟩ := Finset.mem_map.mp hs
    refine Finset.mem_erase.mpr ⟨fun h => recv_ne_barCell x.1 c c x.2 (congrArg (fun s => ((c : Thread nD τ), s)) h), Finset.mem_univ _⟩
  · unfold landSems recvCreds
    rw [BI.bigSep_map, bigSep_univ_prod, bigSep_lanes]
    have one (ℓ : Bool) : (bigSep Finset.univ fun j : Fin 31 => (cred (tallyOn (recvCell ℓ c j) (launchCredit (Pipeline.owing O₀) 0 (recvCell ℓ c j))) : sProp 𝕄))
        = bigSep Finset.univ fun j : Fin 31 => cred (tallyAt (recvCell ℓ c j) () N) :=
      bigSep_congr fun j _ => congrArg cred (launch_recv ℓ c j)
    rw [← one, ← one]
    exact BI.Entails.refl _

/-- A device's share of the tokens, the credits and its cells make what it brings to the region. -/
theorem launched_of (c : Dev nD) :
    iprop((bigSep Finset.univ fun p => openTok ER (copyCell c p)) ∗ dealt c ∗ atPos ER (barCell c) 0 ∅ 0
        ∗ cred (tallyAt (barCell c) () 2) ∗ recvCreds true c ∗ recvCreds false c)
      ⊢ (launched c : sProp 𝕄) := by
  unfold launched dealt laneDues barTok sendToks recvToks recvCreds
  iintro ⟨Ho, ⟨Hb, ⟨Hs1, Hs2⟩, Hr1, Hr2⟩, Hat, Hcb, Hc1, Hc2⟩
  isplitl [Ho]; · iexact Ho
  isplitl [Hs1 Hs2 Hr1 Hr2 Hc1 Hc2]
  · isplitl [Hs1 Hr1 Hc1]
    · isplitl [Hs1]; · iexact Hs1
      isplitl [Hr1]; · iexact Hr1
      iexact Hc1
    · isplitl [Hs2]; · iexact Hs2
      isplitl [Hr2]; · iexact Hr2
      iexact Hc2
  isplitl [Hb]; · iexact Hb
  isplitl [Hat]; · iexact Hat
  iexact Hcb

end Cert.KernelIdeal.Ring

end
-- ==== Proof.Run.lean ====
module

public import proofs.«01_k».proof.Proof.Funding

@[expose] public section

noncomputable section

/-! # The run

The launch makes every cell and deals what the devices bring to the region; the program then runs to its end, its result
at the specification, its arguments as launched and every counter at nothing. -/

namespace Cert.KernelIdeal.Ring

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The protocol's part of the launch. -/
def ringLaunch : UB := launchOf barCells copyCells (barToks ∪ copyToks)

/-- What the program is launched with: the staging's cells and the ring's. -/
def u₀ : UU := (initOf (Pipeline.cells (Pipeline.pin (pcfgs (F := F)) adm) cellOf_inj) (Pipeline.launchToks (Pipeline.pin (pcfgs (F := F)) adm) cellOf_inj), ringLaunch)

/-- A resource laid down at the first device. -/
def atFirst (X : sProp 𝕄) (c : Dev nD) : sProp 𝕄 := if c = 0 then X else iprop(emp)

theorem atFirst_all (X : sProp 𝕄) : bigSep Finset.univ (atFirst X) = X := by
  rw [bigSep_univ_at _ (0 : Dev nD), bigSep_congr (s := Finset.univ.erase (0 : Dev nD)) (Ψ := fun _ => (BI.emp : sProp 𝕄))
    fun c hc => by unfold atFirst; rw [if_neg (Finset.ne_of_mem_erase hc)]; rfl, BI.bigSep_emp_const]
  unfold atFirst
  rw [if_pos rfl]
  exact BI.equiv_iff.mp sep_emp

def G : Dev nD → sProp 𝕄 := atFirst (BI.own (ER ringLaunch))

theorem launch_own : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ G) := by
  unfold u₀ G
  iintro Hu
  ihave H := (ownU_pair _ _) $$ Hu
  icases H with ⟨HP, HX⟩
  imodintro
  isplitl [HP]; · iexact HP
  rw [atFirst_all]; iexact HX

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-- What a device holds at launch beside the protocol's ghost state. -/
def bundle (c : Dev nD) : sProp 𝕄 :=
  iprop(StableHlo.held (c : Thread nD τ) (ucRefs τ sig) (V0 m c)
    ∗ (cred (tallyAt (barCell c) () 2) ∗ recvCreds true c ∗ recvCreds false c)
    ∗ owes (c : Thread nD τ) (O₀ c) ∅ ∗ ∃ r, prngReg c r)

/-- What the launch's ghost state gives it. -/
def share (c : Dev nD) : sProp 𝕄 :=
  iprop((bigSep Finset.univ fun p => openTok ER (copyCell c p)) ∗ dealt c ∗ atPos ER (barCell c) 0 ∅ 0)

/-- What it starts the program with. -/
abbrev atStart (c : Dev nD) : sProp 𝕄 := iprop(StableHlo.held (c : Thread nD τ) (ucRefs τ sig) (V0 m c) ∗ along m 0 c)
/-- What it ends it with. -/
abbrev atEnd (c : Dev nD) : sProp 𝕄 := iprop(StableHlo.held (c : Thread nD τ) (ucRefs τ sig) (Vend m c) ∗ semVal (barCell c) 0)

theorem start_of (κ : GSem nD τ sig → ℕ) (c : Dev nD) : iprop(records m κ ∗ (share c ∗ bundle m c)) ⊢ atStart m c := by
  unfold atStart along Tk share bundle
  rw [if_pos rfl]
  iintro ⟨#Hrec, ⟨Ho, Hd, Hat⟩, Hh, ⟨Hcb, Hc⟩, HO, Hp⟩
  isplitl [Hh]; · iexact Hh
  isplitl [Ho Hd Hat Hcb Hc]
  · isplitr
    · iexists κ; iexact Hrec
    iapply (launched_of c)
    isplitl [Ho]; · iexact Ho
    isplitl [Hd]; · iexact Hd
    isplitl [Hat]; · iexact Hat
    isplitl [Hcb]; · iexact Hcb
    iexact Hc
  isplitl [Hp]; · iexact Hp
  iexists ∅
  iexact HO

theorem core_of (c : Dev nD) :
    iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
  rw [unscoped_sems, show (unscopedBufs c (fun b => m ((c.tc : Thread nD τ).loc b)) : sProp 𝕄) = StableHlo.held (c : Thread nD τ) (ucRefs τ sig) (V0 m c) from
    Pipeline.unscopedBufs_held (Ix := Unit) (Name := ℕ) (U := UU) (Lvl := ℕ) c (V0 m c)]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem cores_of :
    (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) :=
  bigSep_mono fun c _ => core_of m ρ c

/-- The barriers' cells, and the copies', device by device. -/
theorem over_bars (Φ : GSem nD τ sig → sProp 𝕄) : bigSep barCells Φ = bigSep Finset.univ fun c : Dev nD => Φ (barCell c) := by
  unfold barCells
  rw [BI.bigSep_map]
  rfl

theorem over_copies (Φ : GSem nD τ sig → sProp 𝕄) :
    bigSep copyCells Φ = bigSep Finset.univ fun c : Dev nD => bigSep Finset.univ fun p => Φ (copyCell c p) := by
  unfold copyCells
  rw [BI.bigSep_map, bigSep_univ_prod]
  rfl

/-- The launch. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (atStart m) : sProp 𝕄) := by
  iintro ⟨H, -⟩
  ihave H := (cores_of m ρ) $$ H
  ihave ⟨HB, H⟩ := (Entails.of_eq (bigSep_sep' _ _ _)) $$ H
  ihave ⟨Hv, HG⟩ := (Entails.of_eq (bigSep_sep' _ _ _)) $$ H
  ihave Hu := (show bigSep Finset.univ (G (F := F)) ⊢ BI.own (ER ringLaunch) from Entails.of_eq (atFirst_all _)) $$ HG
  ihave Hv := (Entails.of_eq (over_bars fun g => (semVal g 0 : sProp 𝕄)).symm) $$ Hv
  imod (Rounds.fund_launch ER (ringRd (rowsOf m)) cells_apart (fun g _ h => h) (barToks ∪ copyToks)) $$ [Hv Hu] with ⟨%κ, -, #Hinv, #Hr, Hat, Hopen, Htok⟩
  · isplitl [Hv]; · iexact Hv
    iexact Hu
  imodintro
  ihave Hat := (Entails.of_eq (over_bars fun g => (atPos ER g 0 ∅ 0 : sProp 𝕄))) $$ Hat
  ihave Hopen := (Entails.of_eq (over_copies fun g => (openTok ER g : sProp 𝕄))) $$ Hopen
  ihave Htok := (Entails.of_eq (deal (F := F))) $$ Htok
  iapply (bigSep_with_persistent (R := records m κ) (Φ := fun c => iprop(share c ∗ bundle m c)) fun c _ => start_of m κ c)
  isplitr
  · unfold records
    isplitr; · iexact Hinv
    iexact Hr
  iapply (Entails.of_eq (bigSep_sep' _ _ _).symm)
  isplitr [HB]
  · unfold share
    iapply (Entails.of_eq (bigSep_sep' _ _ _).symm); isplitl [Hopen]; · iexact Hopen
    iapply (Entails.of_eq (bigSep_sep' _ _ _).symm); isplitl [Htok]; · iexact Htok
    iexact Hat
  · iexact HB

theorem end_arg0 (c : Dev nD) : Vend m c main_arg0 = m ((c : Thread nD τ).loc main_arg0) := by
  unfold Vend
  rw [Function.update_of_ne (StableHlo.devRef_ne_of_ne (by decide))]
  exact V5_arg0 m c

theorem end_arg1 (c : Dev nD) : Vend m c main_arg1 = m ((c : Thread nD τ).loc main_arg1) := by
  unfold Vend
  rw [Function.update_of_ne (StableHlo.devRef_ne_of_ne (by decide))]
  exact V5_arg1 m c

theorem end_result (c : Dev nD) : Vend m c main_v12 = resultOf m c := by
  show Function.update (V5 m c) (Proc.devRef .tc main_v12) (resultOf m c) (Proc.devRef .tc main_v12) = resultOf m c
  rw [Function.update_self]

/-- What a final state is read for at one device. -/
def ended (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v12) = resultOf m c) ∧ s.sem (barCell c) = 0

theorem read_end (c : Dev nD) (s' : Phys nD τ sig (Elt F)) : (iprop(atEnd m c ∗ SI s') : sProp 𝕄) ⊢ |={Set.univ}=> iprop(⌜ended m c s'.mem⌝ ∗ SI s') := by
  unfold atEnd StableHlo.held
  iintro ⟨⟨Hh, Hb⟩, HSI⟩
  icombine HSI Hb gives %hb
  ihave Hr := (pointsTo_read_all (ucRefs τ sig) (fun b => ((c : Thread nD τ).1, b)) (Vend m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (end_arg0 m c),
      (h (Proc.devRef .tc main_arg1) (Finset.mem_filter.mpr ⟨StableHlo.devRef_mem_tcRefs main_arg1, by decide⟩)).trans (end_arg1 m c),
      (h (Proc.devRef .tc main_v12) (Finset.mem_filter.mpr ⟨StableHlo.devRef_mem_tcRefs main_v12, by decide⟩)).trans (end_result m c)⟩, by simpa using hb⟩
  · iexact HSI

set_option backward.isDefEq.respectTransparency.types false in
/-- The run: from any memory with every counter at zero, the program ends, its arguments as they were, its result at the
specification, and every counter at zero. -/
theorem run_main : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v12) = resultOf m c) ∧ r.2.sem = fun _ => 0) := by
  refine Pipeline.θ_run_regions_kit_dev_sems (pcfgs (F := F)) adm (dats m) () cellOf_inj EP defs₀ 𝒱₀ L lv m ρ main
    (Gen.segs m 𝒱₀ L lv (along m) () (dats m) (region m))
    (fun c Q => by
      rewrite [main_chain c, Seg.run_eq_chain,
        show (Gen.segs m 𝒱₀ L lv (along m) () (dats m) (region m) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [Gen.segs, Seg.pipes_host, Seg.pipes_region, Seg.pipes_nil]; decide) O₀ L_of_ne G u₀ launch_own
    (T₀ := atStart m) (Tₙ := atEnd m)
    (hch := fun c => ⟨.rfl, .rfl, .rfl, .rfl, .rfl, region_pre m c, (region_post m c).trans ?_⟩)
    (hinit := init m ρ) (QY := ended m) (hfin := read_end m)
    (hQ := fun s h hs => ⟨fun c => (h c).1, sem_eq_zero hs fun c sm hsm => by
      obtain rfl := unscoped_eq sm hsm
      exact (h c).2⟩)
  unfold along atEnd
  rw [if_neg (by decide)]
  iintro ⟨Hh, Hb, HO⟩
  isplitr [HO]
  · isplitl [Hh] <;> iassumption
  · iexact HO

end Cert.KernelIdeal.Ring

end
-- ==== Proof.Frames.lean ====
module

public import proofs.«01_k».proof.Defs
public import proofs.«01_k».proof.Proof.Same
public import proofs.«01_k».proof.Proof.Run
public import proofs.«01_k».proof.Proof.Gen.ReferenceIdeal.Run
public import Idealize.ShloMosaic.Lib.Quiescent

@[expose] public section

noncomputable section

/-! # The programs end as they should

Each program runs to its end, leaves its arguments as they were, and leaves every counter at zero. -/

namespace Cert.Proof

open Idealize.ShloMosaic Idealize.SL.Sem

/-- The idealized kernel ends with its arguments unchanged and every counter at zero. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Ring.run_main (F := Ideal) m ρ)

/-- The kernel as printed does too: it is the same program. -/
theorem frame_kernel : Cert.quiescent_Kernel := fun m ρ _ => by
  rw [defs_same, main_same]
  exact (θ_run Cert.KernelIdeal.defs _ _).mono (fun _ h => ⟨fun c => ⟨(h.1 c).1, (h.1 c).2.1⟩, h.2⟩) (Cert.KernelIdeal.Ring.run_main (F := Bits) m ρ)

/-- The reference ends with its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.lean ====
module

public import proofs.«01_k».proof.Proof.OutSpec
public import Idealize.ShloMosaic.Lib.MatmulPlain
public import Idealize.ShloMosaic.Lib.KernelVsHost
public import Idealize.ShloMosaic.Lib.Layout
public import Idealize.ShloMosaic.Lib.Pipeline.Value

@[expose] public section

noncomputable section

/-! # The blocks are the product's

Over exact real arithmetic every element of a device's result is one row of the first matrix times one
column of the second, and zero where that is negative. -/

namespace Cert.KernelIdeal.Ring

open Idealize.ShloMosaic Idealize.ShloMosaic.ValueIdx Cert.KernelIdeal.Gen
open scoped BigOperators

/-- A row times a column, and zero where that is negative. -/
def entry (x w : Fin 2048 → Ideal .f32) : Ideal .f32 :=
  FloatOps.maximumf (∑ q, x q * w q) (FloatOps.ofBits .f32 0x00000000#32)

/-- A product cut off at zero, read at a row and a column. -/
theorem relu_apply {M N : ℕ} (prec : Option ContractPrecision) (x : FVec Ideal ⟨2, ![M, 2048]⟩ .f32)
    (w : FVec Ideal ⟨2, ![2048, N]⟩ .f32) (r : Fin M) (k : Fin N) :
    maximumf (matmul (DotDims.plain M 2048 N) prec x w (constant ⟨2, ![M, N]⟩ .f32 0x00000000#32))
        (broadcast ⟨2, ![M, N]⟩ (Scalar.ofBits (F := Ideal) .f32 0x00000000#32)) (ix2 r k)
      = entry (fun q => x (ix2 r q)) (fun q => w (ix2 q k)) := by
  refine congrArg (fun s : Ideal .f32 => FloatOps.maximumf s (FloatOps.ofBits .f32 0x00000000#32)) ?_
  refine (Ideal.matmul_plain_apply prec x w _ r k).trans ?_
  rw [show (constant ⟨2, ![M, N]⟩ .f32 0x00000000#32 : FVec Ideal ⟨2, ![M, N]⟩ .f32) (ix2 r k) = 0 from Idealize.ShloMosaic.Ideal.ofBits_zero_f32, zero_add]

variable (X : Dev nD → S64x2048.Idx → Elt Ideal .f32) (W : Dev nD → S2048x64.Idx → Elt Ideal .f32)

/-- The device's own block. -/
theorem own_apply (c : Dev nD) (r k : Fin 64) :
    blkOwn X W c (ix2 r k) = entry (fun q => X c (ix2 r q)) (fun q => W c (ix2 q k)) := by
  unfold blkOwn k0_pay2 k0_pay1
  dsimp only
  rw [shapeCast_self, shapeCast_self]
  exact relu_apply none (X c) (W c) r k

/-- A block of a lane's band. -/
theorem band_apply (ℓ : Bool) (c : Dev nD) (n : Fin 15) (r k : Fin 64) :
    blkBand X W ℓ c n (ix2 r k) = entry (fun q => X (org ℓ (n.val + 1) c) (ix2 r q)) (fun q => W c (ix2 q k)) := by
  have hn := n.isLt
  have hr := r.isLt
  unfold blkBand
  rw [extractStridedSlice_apply _ _ _ _ (ix2 (n0 := 960) (n1 := 64) ⟨64 * n.val + r.val, by omega⟩ k)
    (fun a => by match a with
      | ⟨0, _⟩ => rfl
      | ⟨1, _⟩ => exact (Nat.zero_add _).symm)]
  unfold k0_pay3
  rw [shapeCast_self]
  refine (relu_apply none _ (W c) _ k).trans ?_
  refine congrArg (fun f => entry f _) (funext fun q => ?_)
  refine (shapeCast_apply _ _ _ (ix3 (n0 := 15) (n1 := 64) (n2 := 2048) n r q) ?_).trans rfl
  rw [Shape.rowMajor_val_three, Shape.rowMajor_val_two]
  show (n.val * 64 + r.val) * 2048 + q.val = (64 * n.val + r.val) * 2048 + q.val
  ring

/-- Half of the block half-way round. -/
theorem far_apply (c : Dev nD) (i : Fin 2) (r : Fin 32) (k : Fin 64) (h : 32 * i.val + r.val < 64) :
    blkFar X W c i (ix2 r k)
      = entry (fun q => X (org true 16 c) (ix2 (n0 := 64) (n1 := 2048) ⟨32 * i.val + r.val, h⟩ q)) (fun q => W c (ix2 q k)) := by
  unfold blkFar k0_pay35
  rw [shapeCast_self]
  refine (relu_apply none _ (W c) _ k).trans ?_
  refine congrArg (fun f => entry f _) (funext fun q => ?_)
  exact congrArg (farIn X c i) (reshapeEquiv_ix2_1ab _ r q)

/-- Every block, at a row and a column. -/
theorem blk_apply (c b : Dev nD) (r k : Fin 64) :
    blk X W c b (ix2 r k) = entry (fun q => X b (ix2 r q)) (fun q => W c (ix2 q k)) := by
  rcases reach c b with rfl | ⟨n, rfl⟩ | ⟨n, rfl⟩ | rfl
  · rw [blk_own]; exact own_apply X W _ r k
  · rw [blk_band]; exact band_apply X W true c n r k
  · rw [blk_band]; exact band_apply X W false c n r k
  · have hr := r.isLt
    have h := blk_far X W c ⟨r.val / 32, by omega⟩ ⟨r.val % 32, by omega⟩ k (by simp only; omega)
    rw [far_apply X W c _ _ k (by simp only; omega)] at h
    have e : (⟨32 * (r.val / 32) + r.val % 32, by omega⟩ : Fin 64) = r := Fin.ext (by simp only; omega)
    simp only [e] at h
    exact h

/-- The cut matrices give the cut result: with each device holding its rows of `x` and its columns of `w`,
each ends with its columns of their product, zero where that is negative. -/
theorem outSpec_block (x w : FVec Ideal ⟨2, ![2048, 2048]⟩ .f32)
    (hX : ∀ c, X c = Layout.block ⟨2, ![64, 2048]⟩ ⟨2, ![2048, 2048]⟩ 0 32 c x)
    (hW : ∀ c, W c = Layout.block ⟨2, ![2048, 64]⟩ ⟨2, ![2048, 2048]⟩ 1 32 c w)
    (prec : Option ContractPrecision) (c : Dev nD) :
    outSpec X W c = Layout.block ⟨2, ![2048, 64]⟩ ⟨2, ![2048, 2048]⟩ 1 32 c
      (maximumf (Host.dotGeneral (DotDims.plain 2048 2048 2048) prec x w)
        (broadcast ⟨2, ![2048, 2048]⟩ (Scalar.ofBits (F := Ideal) .f32 0x00000000#32))) := by
  funext i
  have hi : (i 0).val < 2048 := (i 0).isLt
  have hk : (i 1).val < 64 := (i 1).isLt
  have hc : c.val < 32 := c.isLt
  rw [outSpec_at X W c ⟨(i 0).val / 64, by show _ < 32; omega⟩ ⟨(i 0).val % 64, by omega⟩ ⟨(i 1).val, hk⟩ i
    (by simp only; omega) rfl, blk_apply, Layout.block_apply, ← matmul_zero_eq_dotGeneral]
  have e : (Layout.Tiles.idx (S := ⟨2, ![2048, 64]⟩) (T := ⟨2, ![2048, 2048]⟩) (a := 1) (k := 32) (by decide) c i)
      = ix2 (n0 := 2048) (n1 := 2048) ⟨(i 0).val, hi⟩ ⟨c.val * 64 + (i 1).val, by omega⟩ := by
    funext a
    apply Fin.ext
    match a with
    | ⟨0, _⟩ => rfl
    | ⟨1, _⟩ => rfl
  rw [e]
  refine Eq.trans ?_ (relu_apply prec x w _ _).symm
  congr 1
  · funext q
    rw [hX, Layout.block_apply]
    congr 1
    funext a
    apply Fin.ext
    match a with
    | ⟨0, _⟩ =>
      show (i 0).val / 64 * 64 + (i 0).val % 64 = (i 0).val
      omega
    | ⟨1, _⟩ => rfl
  · funext q
    rw [hW, Layout.block_apply]
    congr 1
    funext a
    apply Fin.ext
    match a with
    | ⟨0, _⟩ => rfl
    | ⟨1, _⟩ => rfl

end Cert.KernelIdeal.Ring

end
-- ==== Proof.Equal.lean ====
module

public import proofs.«01_k».proof.Defs
public import proofs.«01_k».proof.Proof.Run
public import proofs.«01_k».proof.Proof.Value
public import proofs.«01_k».proof.Proof.Gen.ReferenceIdeal.Run

@[expose] public section

noncomputable section

/-! # The kernel computes what the reference does

Over exact real arithmetic, on any arguments: each device ends with its columns of the reference's result. -/

namespace Cert.Proof

open Idealize.ShloMosaic Idealize.SL.Sem

/-- What the reference's result holds. -/
def product (x w : FVec Ideal ⟨2, ![2048, 2048]⟩ .f32) : FVec Ideal ⟨2, ![2048, 2048]⟩ .f32 :=
  maximumf (Host.dotGeneral (DotDims.plain 2048 2048 2048) none x w)
    (broadcast ⟨2, ![2048, 2048]⟩ (Scalar.ofBits (F := Ideal) .f32 0x00000000#32))

/-- The kernel's result is the reference's, cut by columns over the devices. -/
theorem equal : Cert.algebraic_KernelIdeal_ReferenceIdeal := by
  intro m g m' g' _ hagree
  refine ⟨product _ _, (θ_run Cert.KernelIdeal.defs _ _).mono (fun r h c => ⟨(h.1 c).2.2.trans ?_, (h.1 c).1, (h.1 c).2.1⟩)
      (Cert.KernelIdeal.Ring.run_main (F := Ideal) m g),
    (θ_run Cert.ReferenceIdeal.defs _ _).mono (fun r h => h 0) (Cert.ReferenceIdeal.Value.run (F := Ideal) m' g')⟩
  exact Cert.KernelIdeal.Ring.outSpec_block _ _ _ _ (fun c => (hagree c).1) (fun c => (hagree c).2) none c

end Cert.Proof

end
-- ==== Proof.lean ====
/- The proof of the claims: the three programs end with their arguments unchanged and their counters at zero,
   the idealized kernel is the kernel's own text, and its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim holds. -/
theorem claim : Cert.Claim :=
  ⟨Cert.Kernel.Gen.facts, Cert.KernelIdeal.Gen.facts, Cert.ReferenceIdeal.Gen.facts, frame_kernel, frame_ideal,
    frame_reference, trivial, equal⟩

end Cert.Proof

end
